-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_inputs8 [hPre_finite_inputs8 : Cert.Pre_finite_inputs8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_inputs8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_inputs8 [hPre_finite_inputs8 : Cert.Pre_finite_inputs8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_inputs8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite_inputs8 [hKernel8Ideal : Cert.Kernel8Ideal.Facts] [hPre_finite_inputs8 : Cert.Pre_finite_inputs8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_inputs8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite_inputs8 [hReference8Ideal : Cert.Reference8Ideal.Facts] [hPre_finite_inputs8 : Cert.Pre_finite_inputs8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_inputs8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "g1" .f32 0x3D372713#32 ((8943 / 200000 : ℝ) : EReal)
  ∧ IdealRules.named_const.Statement Cert.KernelIdeal.κ "g3" .f32 0x3E095D4F#32 ((26829 / 200000 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_v183) = v3 c
          ∧ r.2.mem ((c.tc : Thread Cert.ReferenceIdeal.nD Cert.ReferenceIdeal.τ).loc Cert.ReferenceIdeal.main_v184) = v4 c
          ∧ r.2.mem ((c.tc : Thread Cert.ReferenceIdeal.nD Cert.ReferenceIdeal.τ).loc Cert.ReferenceIdeal.main_v170) = v5 c
          ∧ r.2.mem ((c.tc : Thread Cert.ReferenceIdeal.nD Cert.ReferenceIdeal.τ).loc Cert.ReferenceIdeal.main_v187) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel8_Kernel8Ideal : Prop :=
  True

def algebraic_Kernel8Ideal_Reference8Ideal_pre_finite_inputs8 [hKernel8Ideal : Cert.Kernel8Ideal.Facts] [hReference8Ideal : Cert.Reference8Ideal.Facts] [hPre_finite_inputs8 : Cert.Pre_finite_inputs8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_inputs8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_v86) = v1 c
          ∧ r.2.mem ((c.tc : Thread Cert.Reference8Ideal.nD Cert.Reference8Ideal.τ).loc Cert.Reference8Ideal.main_v46) = v2 c
          ∧ r.2.mem ((c.tc : Thread Cert.Reference8Ideal.nD Cert.Reference8Ideal.τ).loc Cert.Reference8Ideal.main_v87) = v3 c
          ∧ r.2.mem ((c.tc : Thread Cert.Reference8Ideal.nD Cert.Reference8Ideal.τ).loc Cert.Reference8Ideal.main_v30) = v4 c
          ∧ r.2.mem ((c.tc : Thread Cert.Reference8Ideal.nD Cert.Reference8Ideal.τ).loc Cert.Reference8Ideal.main_v88) = v5 c
          ∧ r.2.mem ((c.tc : Thread Cert.Reference8Ideal.nD Cert.Reference8Ideal.τ).loc Cert.Reference8Ideal.main_v89) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel2 : Cert.Kernel2.Facts) (hKernel2Ideal : Cert.Kernel2Ideal.Facts) (hReference2Ideal : Cert.Reference2Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_inputs : Cert.Pre_finite_inputs.Facts) (hPre_finite_inputs2 : Cert.Pre_finite_inputs2.Facts) (hPre_finite_inputs8 : Cert.Pre_finite_inputs8.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel8 (hKernel8 := hKernel8)
    ∧ quiescent_Kernel8Ideal (hKernel8Ideal := hKernel8Ideal)
    ∧ quiescent_Kernel8Ideal_pre_finite_inputs8 (hKernel8Ideal := hKernel8Ideal) (hPre_finite_inputs8 := hPre_finite_inputs8)
    ∧ quiescent_Reference8Ideal (hReference8Ideal := hReference8Ideal)
    ∧ quiescent_Reference8Ideal_pre_finite_inputs8 (hReference8Ideal := hReference8Ideal) (hPre_finite_inputs8 := hPre_finite_inputs8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel8_Kernel8Ideal
    ∧ algebraic_Kernel8Ideal_Reference8Ideal_pre_finite_inputs8 (hKernel8Ideal := hKernel8Ideal) (hReference8Ideal := hReference8Ideal) (hPre_finite_inputs8 := hPre_finite_inputs8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_inputs.lean ====
abbrev S8192x2560 : Shape := ⟨2, ![8192, 2560]⟩
abbrev S8192x512 : Shape := ⟨2, ![8192, 512]⟩
abbrev S1x128 : Shape := ⟨2, ![1, 128]⟩
abbrev S4x128x128 : Shape := ⟨3, ![4, 128, 128]⟩
abbrev S4x128 : Shape := ⟨2, ![4, 128]⟩
abbrev S8192x1024 : Shape := ⟨2, ![8192, 1024]⟩
abbrev S8192x2816 : Shape := ⟨2, ![8192, 2816]⟩
abbrev S5632x1024 : Shape := ⟨2, ![5632, 1024]⟩
abbrev S_ : Shape := ⟨0, ![]⟩

class Facts : Prop where
  slices_S8192x2560_S8192x1024_0_1536 : S8192x2560.Slices ![0, 1536] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x128 : S_.BroadcastsInDim S1x128 (![] : Fin 0 → Fin S1x128.rank)
  reducesTo_S1x128_S_d0_1 : S1x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128x128 .f32) (main_arg5 : FVec F S4x128 .f32) (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  let main_v20 : FVec F S4x128x128 .f32 := Host.absf main_arg4
  let main_cst_6 : FVec F S_ .f32 := constant S_ .f32 0x7F800000#32
  let main_v21 : FVec F S4x128x128 .f32 := broadcastInDim S4x128x128 ![] bcast_S_S4x128x128 main_cst_6
  let main_v22 : IVec S4x128x128 1 := cmpf .olt main_v20 main_v21
  let main_c_7 : IVec S_ 1 := constantI S_ 1 1#1
  let main_v23 : IVec S_ 1 := (fun x v => Host.reduce IntOp.andi x v reducesTo_S4x128x128_S_d0_1_2 h_S_) main_v22 main_c_7
  let main_v24 : IVec S_ 1 := andi main_v19 main_v23
  let main_v25 : FVec F S4x128 .f32 := Host.absf main_arg5
  let main_cst_8 : FVec F S_ .f32 := constant S_ .f32 0x7F800000#32
  let main_v26 : FVec F S4x128 .f32 := broadcastInDim S4x128 ![] bcast_S_S4x128 main_cst_8
  let main_v27 : IVec S4x128 1 := cmpf .olt main_v25 main_v26
  let main_c_9 : IVec S_ 1 := constantI S_ 1 1#1
  let main_v28 : IVec S_ 1 := (fun x v => Host.reduce IntOp.andi x v reducesTo_S4x128_S_d0_1 h_S_) main_v27 main_c_9
  let main_v29 : IVec S_ 1 := andi main_v24 main_v28
  main_v29

def fn {F : FTy → Type} [FloatOps F] (main_arg0 : FVec F S8192x2560 .f32) (main_arg1 : FVec F S8192x512 .f32) (main_arg2 : FVec F S1x128 .f32) (main_arg3 : FVec F S1x128 .f32) (main_arg4 : FVec F S4x128x128 .f32) (main_arg5 : FVec F S4x128 .f32) (main_arg6 : FVec F S8192x1024 .bf16) (main_arg7 : FVec F S8192x1024 .bf16) (main_arg8 : FVec F S8192x2816 .bf16) (main_arg9 : FVec F S8192x1024 .bf16) (main_arg10 : FVec F S5632x1024 .f32) : IVec S_ 1 :=
  let main_v0 : FVec F S8192x1024 .f32 := (extractStridedSlice S8192x1024 ![0, 1536] · slices_S8192x2560_S8192x1024_0_1536) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x512 .f32 := Host.absf main_arg1
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v4 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_arg4 main_arg5 main_v14 main_v15 main_v16
-- ==== Pre_finite_inputs2.lean ====
abbrev S3x8192x512 : Shape := ⟨3, ![3, 8192, 512]⟩
abbrev S2x8192x512 : Shape := ⟨3, ![2, 8192, 512]⟩
abbrev S2560x1024 : Shape := ⟨2, ![2560, 1024]⟩
abbrev S8192x1024 : Shape := ⟨2, ![8192, 1024]⟩
abbrev S1x1024 : Shape := ⟨2, ![1, 1024]⟩
abbrev S_ : Shape := ⟨0, ![]⟩

class Facts : Prop where
  bcast_S_S3x8192x512 : S_.BroadcastsInDim S3x8192x512 (![] : Fin 0 → Fin S3x8192x512.rank)
  reducesTo_S3x8192x512_S_d0_1_2 : S3x8192x512.ReducesTo [0, 1, 2] S_
  h_S_ : 0 < S_.numel
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  bcast_S_S2560x1024 : S_.BroadcastsInDim S2560x1024 (![] : Fin 0 → Fin S2560x1024.rank)
  reducesTo_S2560x1024_S_d0_1 : S2560x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S1x1024 .f32 := Host.absf main_arg5
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S3x8192x512 .f32) (main_arg1 : FVec F S2x8192x512 .bf16) (main_arg2 : FVec F S2560x1024 .bf16) (main_arg3 : FVec F S8192x1024 .f32) (main_arg4 : FVec F S8192x1024 .f32) (main_arg5 : FVec F S1x1024 .f32) : IVec S_ 1 :=
  let main_v0 : FVec F S3x8192x512 .f32 := Host.absf main_arg0
  let main_cst : FVec F S_ .f32 := constant S_ .f32 0x7F800000#32
  let main_v1 : FVec F S3x8192x512 .f32 := broadcastInDim S3x8192x512 ![] bcast_S_S3x8192x512 main_cst
  let main_v2 : IVec S3x8192x512 1 := cmpf .olt main_v0 main_v1
  let main_c : IVec S_ 1 := constantI S_ 1 1#1
  let main_v3 : IVec S_ 1 := (fun x v => Host.reduce IntOp.andi x v reducesTo_S3x8192x512_S_d0_1_2 h_S_) main_v2 main_c
  let main_v4 : FVec F S2x8192x512 .f32 := (extf .f32 · bitsLt_bf16_f32) main_arg1
  let main_v5 : FVec F S2x8192x512 .f32 := Host.absf main_v4
  let main_cst_0 : FVec F S_ .f32 := constant S_ .f32 0x7F800000#32
  let main_v6 : FVec F S2x8192x512 .f32 := broadcastInDim S2x8192x512 ![] bcast_S_S2x8192x512 main_cst_0
  let main_v7 : IVec S2x8192x512 1 := cmpf .olt main_v5 main_v6
  let main_c_1 : IVec S_ 1 := constantI S_ 1 1#1
  let main_v8 : IVec S_ 1 := (fun x v => Host.reduce IntOp.andi x v reducesTo_S2x8192x512_S_d0_1_2 h_S_) main_v7 main_c_1
  let main_v9 : IVec S_ 1 := andi main_v3 main_v8
  let main_v10 : FVec F S2560x1024 .f32 := (extf .f32 · bitsLt_bf16_f32) main_arg2
  let main_v11 : FVec F S2560x1024 .f32 := Host.absf main_v10
  let main_cst_2 : FVec F S_ .f32 := constant S_ .f32 0x7F800000#32
  let main_v12 : FVec F S2560x1024 .f32 := broadcastInDim S2560x1024 ![] bcast_S_S2560x1024 main_cst_2
  let main_v13 : IVec S2560x1024 1 := cmpf .olt main_v11 main_v12
  let main_c_3 : IVec S_ 1 := constantI S_ 1 1#1
  let main_v14 : IVec S_ 1 := (fun x v => Host.reduce IntOp.andi x v reducesTo_S2560x1024_S_d0_1 h_S_) main_v13 main_c_3
  let main_v15 : IVec S_ 1 := andi main_v9 main_v14
  let main_v16 : FVec F S8192x1024 .f32 := Host.absf main_arg3
  let main_cst_4 : FVec F S_ .f32 := constant S_ .f32 0x7F800000#32
  fn_part1 (F := F) main_arg5 main_v15 main_v16 main_cst_4
-- ==== Pre_finite_inputs8.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S1024x256 : Shape := ⟨2, ![1024, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_arg7 : FVec F S1x1024 .f32) (main_v29 : IVec S_ 1) (main_v33 : IVec S1024x256 1) (main_c_11 : IVec S_ 1) : IVec S_ 1 :=
  let main_v34 : IVec S_ 1 := (fun x v => Host.reduce IntOp.andi x v reducesTo_S1024x256_S_d0_1 h_S_) main_v33 main_c_11
  let main_v35 : IVec S_ 1 := andi main_v29 main_v34
  let main_v36 : FVec F S1x1024 .f32 := Host.absf main_arg7
  let main_cst_12 : FVec F S_ .f32 := constant S_ .f32 0x7F800000#32
  let main_v37 : FVec F S1x1024 .f32 := broadcastInDim S1x1024 ![] bcast_S_S1x1024 main_cst_12
  let main_v38 : IVec S1x1024 1 := cmpf .olt main_v36 main_v37
  let main_c_13 : IVec S_ 1 := constantI S_ 1 1#1
  let main_v39 : IVec S_ 1 := (fun x v => Host.reduce IntOp.andi x v reducesTo_S1x1024_S_d0_1 h_S_) main_v38 main_c_13
  let main_v40 : IVec S_ 1 := andi main_v35 main_v39
  main_v40

def fn_part1 {F : FTy → Type} [FloatOps F] (main_arg4 : FVec F S1024x1024 .bf16) (main_arg5 : FVec F S1x1024 .f32) (main_arg6 : FVec F S1024x256 .bf16) (main_arg7 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024x1024 .f32 := (extf .f32 · bitsLt_bf16_f32) main_arg4
  let main_v20 : FVec F S1024x1024 .f32 := Host.absf main_v19
  let main_cst_6 : FVec F S_ .f32 := constant S_ .f32 0x7F800000#32
  let main_v21 : FVec F S1024x1024 .f32 := broadcastInDim S1024x1024 ![] bcast_S_S1024x1024 main_cst_6
  let main_v22 : IVec S1024x1024 1 := cmpf .olt main_v20 main_v21
  let main_c_7 : IVec S_ 1 := constantI S_ 1 1#1
  let main_v23 : IVec S_ 1 := (fun x v => Host.reduce IntOp.andi x v reducesTo_S1024x1024_S_d0_1 h_S_) main_v22 main_c_7
  let main_v24 : IVec S_ 1 := andi main_v18 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1024x256 .f32 := (extf .f32 · bitsLt_bf16_f32) main_arg6
  let main_v31 : FVec F S1024x256 .f32 := Host.absf main_v30
  let main_cst_10 : FVec F S_ .f32 := constant S_ .f32 0x7F800000#32
  let main_v32 : FVec F S1024x256 .f32 := broadcastInDim S1024x256 ![] bcast_S_S1024x256 main_cst_10
  let main_v33 : IVec S1024x256 1 := cmpf .olt main_v31 main_v32
  let main_c_11 : IVec S_ 1 := constantI S_ 1 1#1
  fn_part2 (F := F) main_arg7 main_v29 main_v33 main_c_11

def fn {F : FTy → Type} [FloatOps F] (main_arg0 : FVec F S8192x1024 .f32) (main_arg1 : FVec F S8192x256 .f32) (main_arg2 : FVec F S8192x1024 .f32) (main_arg3 : FVec F S8192x1024 .f32) (main_arg4 : FVec F S1024x1024 .bf16) (main_arg5 : FVec F S1x1024 .f32) (main_arg6 : FVec F S1024x256 .bf16) (main_arg7 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_v13 main_v16
-- ==== Kernel.lean ====
abbrev S8192x2560 : Shape := ⟨2, ![8192, 2560]⟩
abbrev S8192x512 : Shape := ⟨2, ![8192, 512]⟩
abbrev S1x128 : Shape := ⟨2, ![1, 128]⟩
abbrev S4x128x128 : Shape := ⟨3, ![4, 128, 128]⟩
abbrev S4x128 : Shape := ⟨2, ![4, 128]⟩
abbrev S8192x1024 : Shape := ⟨2, ![8192, 1024]⟩
abbrev S8192x2816 : Shape := ⟨2, ![8192, 2816]⟩
abbrev S5632x1024 : Shape := ⟨2, ![5632, 1024]⟩
abbrev S128x4 : Shape := ⟨2, ![128, 4]⟩
abbrev S_ : Shape := ⟨0, ![]⟩
abbrev S128x128 : Shape := ⟨2, ![128, 128]⟩
abbrev S2x8192x512 : Shape := ⟨3, ![2, 8192, 512]⟩
abbrev S1024x1024 : Shape := ⟨2, ![1024, 1024]⟩
abbrev S512x512 : Shape := ⟨2, ![512, 512]⟩
abbrev S512x1024 : Shape := ⟨2, ![512, 1024]⟩
abbrev S512x2816 : Shape := ⟨2, ![512, 2816]⟩
abbrev S2x512x512 : Shape := ⟨3, ![2, 512, 512]⟩
abbrev S2816x1024 : Shape := ⟨2, ![2816, 1024]⟩
abbrev S1x128x128 : Shape := ⟨3, ![1, 128, 128]⟩
abbrev S128 : Shape := ⟨1, ![128]⟩
abbrev S128x1 : Shape := ⟨2, ![128, 1]⟩
abbrev S1x512x512 : Shape := ⟨3, ![1, 512, 512]⟩

abbrev nBuf : Space → Nat
  | .hbm => 22
  | .vmem => 27
  | .smem => 0
  | _ => 0

abbrev bufTy : (tb : Table) → Fin (tcTables nBuf tb) → BufTy
  | .hbm, ⟨0, _⟩ => ⟨S8192x2560, .f32⟩
  | .hbm, ⟨1, _⟩ => ⟨S8192x512, .f32⟩
  | .hbm, ⟨2, _⟩ => ⟨S1x128, .f32⟩
  | .hbm, ⟨3, _⟩ => ⟨S1x128, .f32⟩
  | .hbm, ⟨4, _⟩ => ⟨S4x128x128, .f32⟩
  | .hbm, ⟨5, _⟩ => ⟨S4x128, .f32⟩
  | .hbm, ⟨6, _⟩ => ⟨S8192x1024, .bf16⟩
  | .hbm, ⟨7, _⟩ => ⟨S8192x1024, .bf16⟩
  | .hbm, ⟨8, _⟩ => ⟨S8192x2816, .bf16⟩
  | .hbm, ⟨9, _⟩ => ⟨S8192x1024, .bf16⟩
  | .hbm, ⟨10, _⟩ => ⟨S5632x1024, .f32⟩
  | .hbm, ⟨11, _⟩ => ⟨S128x4, .f32⟩
  | .hbm, ⟨12, _⟩ => ⟨S_, .i32⟩
  | .hbm, ⟨13, _⟩ => ⟨S_, .f32⟩
  | .hbm, ⟨14, _⟩ => ⟨S128x128, .f32⟩
  | .hbm, ⟨15, _⟩ => ⟨S2x8192x512, .bf16⟩
  | .hbm, ⟨16, _⟩ => ⟨S4x128x128, .f32⟩
  | .hbm, ⟨17, _⟩ => ⟨S128x128, .f32⟩
  | .hbm, ⟨18, _⟩ => ⟨S1x128, .f32⟩
  | .hbm, ⟨19, _⟩ => ⟨S1x128, .f32⟩
  | .hbm, ⟨20, _⟩ => ⟨S1024x1024, .f32⟩
  | .hbm, ⟨21, _⟩ => ⟨S5632x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S1x128, .f32⟩
  | .local _ .vmem, ⟨8, _⟩ => ⟨S4x128x128, .f32⟩
  | .local _ .vmem, ⟨9, _⟩ => ⟨S128x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .bf16⟩
  | .local _ .vmem, ⟨17, _⟩ => ⟨S512x1024, .bf16⟩
  | .local _ .vmem, ⟨18, _⟩ => ⟨S2x512x512, .bf16⟩
  | .local _ .vmem, ⟨19, _⟩ => ⟨S2x512x512, .bf16⟩
  | .local _ .vmem, ⟨20, _⟩ => ⟨S4x128x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1024x1024, .f32⟩
  | .local _ .vmem, ⟨25, _⟩ => ⟨S2816x1024, .f32⟩
  | .local _ .vmem, ⟨26, _⟩ => ⟨S4x128x128, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v2_4 : Ref sig .tc := ⟨.hbm, 19, rfl⟩
abbrev main_v2_5 : Ref sig .tc := ⟨.hbm, 20, rfl⟩
abbrev main_v2_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v2645 : BitVec 1 := Scalar.cmpi .eq arg0 c15_i32
  let v2646 : BitVec 32 := Scalar.extui v2645
  let c0_i32_1230 : BitVec 32 := 0#32
  let v2647 : BitVec 1 := Scalar.cmpi .ne v2646 c0_i32_1230
  v2647

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2816x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "g1" => some ((8943 / 200000 : ℝ) : EReal)
  | "g3" => some ((26829 / 200000 : ℝ) : EReal)
  | _ => none
-- ==== ReferenceIdeal.lean ====
abbrev S8192x2560 : Shape := ⟨2, ![8192, 2560]⟩
abbrev S8192x512 : Shape := ⟨2, ![8192, 512]⟩
abbrev S1x128 : Shape := ⟨2, ![1, 128]⟩
abbrev S4x128x128 : Shape := ⟨3, ![4, 128, 128]⟩
abbrev S4x128 : Shape := ⟨2, ![4, 128]⟩
abbrev S8192x1024 : Shape := ⟨2, ![8192, 1024]⟩
abbrev S8192x2816 : Shape := ⟨2, ![8192, 2816]⟩
abbrev S5632x1024 : Shape := ⟨2, ![5632, 1024]⟩
abbrev S128 : Shape := ⟨1, ![128]⟩
abbrev S_ : Shape := ⟨0, ![]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S1024x1024 : Shape := ⟨2, ![1024, 1024]⟩
abbrev S1024x2816 : Shape := ⟨2, ![1024, 2816]⟩
abbrev S2816x1024 : Shape := ⟨2, ![2816, 1024]⟩
abbrev S1x8192x512 : Shape := ⟨3, ![1, 8192, 512]⟩
abbrev S2x8192x512 : Shape := ⟨3, ![2, 8192, 512]⟩

abbrev nBuf : Space → Nat
  | .hbm => 250
  | .vmem => 0
  | .smem => 0
  | _ => 0

abbrev hbmTy0_0 (i : Nat) : BufTy := match i % 128 with
  | 0 => ⟨S8192x2560, .f32⟩
  | 1 => ⟨S8192x512, .f32⟩
  | 2 => ⟨S1x128, .f32⟩
  | 3 => ⟨S1x128, .f32⟩
  | 4 => ⟨S4x128x128, .f32⟩
  | 5 => ⟨S4x128, .f32⟩
  | 6 => ⟨S8192x1024, .bf16⟩
  | 7 => ⟨S8192x1024, .bf16⟩
  | 8 => ⟨S8192x2816, .bf16⟩
  | 9 => ⟨S8192x1024, .bf16⟩
  | 10 => ⟨S5632x1024, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S128, .f32⟩
  | 17 => ⟨S128, .f32⟩
  | 18 => ⟨S_, .f32⟩
  | 19 => ⟨S_, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S8192x512, .f32⟩
  | 48 => ⟨S8192x4x128, .f32⟩
  | 49 => ⟨S_, .f32⟩
  | 50 => ⟨S_, .f32⟩
  | 51 => ⟨S_, .f32⟩
  | 52 => ⟨S8192x512, .f32⟩
  | 53 => ⟨S8192x512, .f32⟩
  | 54 => ⟨S8192x512, .f32⟩
  | 55 => ⟨S_, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x512, .f32⟩
  | 72 => ⟨S_, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S8192x512, .f32⟩
  | 79 => ⟨S8192x4x128, .f32⟩
  | 80 => ⟨S_, .f32⟩
  | 81 => ⟨S8192x4, .f32⟩
  | 82 => ⟨S8192x4x1, .f32⟩
  | 83 => ⟨S_, .f32⟩
  | 84 => ⟨S8192x4x1, .f32⟩
  | 85 => ⟨S8192x4x1, .f32⟩
  | 86 => ⟨S8192x4x128, .f32⟩
  | 87 => ⟨S8192x4x128, .f32⟩
  | 88 => ⟨S8192x4x128, .f32⟩
  | 89 => ⟨S_, .f32⟩
  | 90 => ⟨S8192x4, .f32⟩
  | 91 => ⟨S8192x4x1, .f32⟩
  | 92 => ⟨S_, .f32⟩
  | 93 => ⟨S8192x4x1, .f32⟩
  | 94 => ⟨S8192x4x1, .f32⟩
  | 95 => ⟨S_, .f32⟩
  | 96 => ⟨S8192x4x1, .f32⟩
  | 97 => ⟨S8192x4x1, .f32⟩
  | 98 => ⟨S8192x4x1, .f32⟩
  | 99 => ⟨S8192x4x1, .f32⟩
  | 100 => ⟨S_, .f32⟩
  | 101 => ⟨S8192x4x1, .f32⟩
  | 102 => ⟨S8192x4x1, .f32⟩
  | 103 => ⟨S8192x4x128, .f32⟩
  | 104 => ⟨S8192x4x128, .f32⟩
  | 105 => ⟨S1x1x128, .f32⟩
  | 106 => ⟨S8192x4x128, .f32⟩
  | 107 => ⟨S8192x4x128, .f32⟩
  | 108 => ⟨S1x1x128, .f32⟩
  | 109 => ⟨S8192x4x128, .f32⟩
  | 110 => ⟨S8192x4x128, .f32⟩
  | 111 => ⟨S64x128x4x128, .f32⟩
  | 112 => ⟨S_, .f32⟩
  | 113 => ⟨S128x128, .f32⟩
  | 114 => ⟨S128x128, .i32⟩
  | 115 => ⟨S_, .i32⟩
  | 116 => ⟨S128x128, .i32⟩
  | 117 => ⟨S128x128, .i32⟩
  | 118 => ⟨S128x128, .i32⟩
  | 119 => ⟨S128x128, .i1⟩
  | 120 => ⟨S_, .f32⟩
  | 121 => ⟨S128x128, .f32⟩
  | 122 => ⟨S128x128, .f32⟩
  | 123 => ⟨S1x128x128, .f32⟩
  | 124 => ⟨S4x128x128, .f32⟩
  | 125 => ⟨S4x128x128, .f32⟩
  | 126 => ⟨S4x64x128x128, .f32⟩
  | 127 => ⟨S64x128x4x128, .f32⟩
  | _ => ⟨S8192x2560, .f32⟩

abbrev hbmTy0_1 (i : Nat) : BufTy := match i % 128 with
  | 0 => ⟨S128x4, .f32⟩
  | 1 => ⟨S1x128x4x1, .f32⟩
  | 2 => ⟨S64x128x4x128, .f32⟩
  | 3 => ⟨S64x128x4x128, .f32⟩
  | 4 => ⟨S8192x4x128, .f32⟩
  | 5 => ⟨S8192x4x128, .f32⟩
  | 6 => ⟨S8192x512, .f32⟩
  | 7 => ⟨S8192x4x128, .f32⟩
  | 8 => ⟨S8192x4x128, .f32⟩
  | 9 => ⟨S8192x4x128, .f32⟩
  | 10 => ⟨S64x128x4x128, .f32⟩
  | 11 => ⟨S_, .f32⟩
  | 12 => ⟨S128x4, .f32⟩
  | 13 => ⟨S1x128x4x1, .f32⟩
  | 14 => ⟨S_, .f32⟩
  | 15 => ⟨S128x4, .f32⟩
  | 16 => ⟨S4x128, .f32⟩
  | 17 => ⟨S4x64x128x128, .f32⟩
  | 18 => ⟨S4x128x128, .f32⟩
  | 19 => ⟨S4x64x128x128, .f32⟩
  | 20 => ⟨S64x128x4x128, .f32⟩
  | 21 => ⟨S4x128x128, .f32⟩
  | 22 => ⟨S4x128x128, .f32⟩
  | 23 => ⟨S8192x4x128, .f32⟩
  | 24 => ⟨S_, .f32⟩
  | 25 => ⟨S128, .f32⟩
  | 26 => ⟨S1x1x128, .f32⟩
  | 27 => ⟨S_, .f32⟩
  | 28 => ⟨S128, .f32⟩
  | 29 => ⟨S8192x4x128, .f32⟩
  | 30 => ⟨S_, .f32⟩
  | 31 => ⟨S128, .f32⟩
  | 32 => ⟨S1x1x128, .f32⟩
  | 33 => ⟨S8192x4x128, .f32⟩
  | 34 => ⟨S8192x4x128, .f32⟩
  | 35 => ⟨S_, .f32⟩
  | 36 => ⟨S128, .f32⟩
  | 37 => ⟨S8192x4x128, .f32⟩
  | 38 => ⟨S_, .f32⟩
  | 39 => ⟨S8192x4, .f32⟩
  | 40 => ⟨S8192x4x1, .f32⟩
  | 41 => ⟨S8192x4x128, .f32⟩
  | 42 => ⟨S8192x4x128, .f32⟩
  | 43 => ⟨S8192x4x1, .f32⟩
  | 44 => ⟨S_, .f32⟩
  | 45 => ⟨S8192x4x1, .f32⟩
  | 46 => ⟨S8192x4x1, .f32⟩
  | 47 => ⟨S_, .f32⟩
  | 48 => ⟨S8192x4, .f32⟩
  | 49 => ⟨S8192x4x128, .f32⟩
  | 50 => ⟨S8192x4x128, .f32⟩
  | 51 => ⟨S8192x4x128, .f32⟩
  | 52 => ⟨S8192x4x128, .f32⟩
  | 53 => ⟨S8192x4x128, .f32⟩
  | 54 => ⟨S8192x4x128, .f32⟩
  | 55 => ⟨S_, .f32⟩
  | 56 => ⟨S8192x4, .f32⟩
  | 57 => ⟨S8192x4x1, .f32⟩
  | 58 => ⟨S_, .f32⟩
  | 59 => ⟨S8192x4x1, .f32⟩
  | 60 => ⟨S8192x4x1, .f32⟩
  | 61 => ⟨S_, .f32⟩
  | 62 => ⟨S8192x4, .f32⟩
  | 63 => ⟨S8192x4x128, .f32⟩
  | 64 => ⟨S8192x4x128, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x512, .f32⟩
  | 72 => ⟨S_, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S_, .f32⟩
  | 96 => ⟨S1024x1024, .f32⟩
  | 97 => ⟨S8192x1024, .f32⟩
  | 98 => ⟨S8192x1024, .f32⟩
  | 99 => ⟨S8192x1024, .f32⟩
  | 100 => ⟨S1024x1024, .f32⟩
  | 101 => ⟨S1024x1024, .f32⟩
  | 102 => ⟨S_, .f32⟩
  | 103 => ⟨S1024x2816, .f32⟩
  | 104 => ⟨S8192x1024, .f32⟩
  | 105 => ⟨S8192x2816, .f32⟩
  | 106 => ⟨S8192x2816, .f32⟩
  | 107 => ⟨S2816x1024, .f32⟩
  | 108 => ⟨S1024x2816, .f32⟩
  | 109 => ⟨S1x8192x512, .f32⟩
  | 110 => ⟨S1x8192x512, .f32⟩
  | 111 => ⟨S2x8192x512, .f32⟩
  | 112 => ⟨S2x8192x512, .bf16⟩
  | 113 => ⟨S128x4, .f32⟩
  | 114 => ⟨S_, .i32⟩
  | 115 => ⟨S_, .f32⟩
  | 116 => ⟨S128x128, .f32⟩
  | 117 => ⟨S1x128, .f32⟩
  | 118 => ⟨S1x128, .f32⟩
  | 119 => ⟨S2816x1024, .f32⟩
  | 120 => ⟨S2816x1024, .f32⟩
  | 121 => ⟨S5632x1024, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_cst_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_17 : Ref sig .tc := ⟨.hbm, 89, rfl⟩
abbrev main_v60 : Ref sig .tc := ⟨.hbm, 90, rfl⟩
abbrev main_v61 : Ref sig .tc := ⟨.hbm, 91, rfl⟩
abbrev main_cst_18 : Ref sig .tc := ⟨.hbm, 92, rfl⟩
abbrev main_v62 : Ref sig .tc := ⟨.hbm, 93, rfl⟩
abbrev main_v63 : Ref sig .tc := ⟨.hbm, 94, rfl⟩
abbrev main_cst_19 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_20 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_21 : Ref sig .tc := ⟨.hbm, 112, rfl⟩
abbrev main_v79 : Ref sig .tc := ⟨.hbm, 113, rfl⟩
abbrev main_call0_v0 : Ref sig .tc := ⟨.hbm, 114, rfl⟩
abbrev main_call0_c : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_cst : Ref sig .tc := ⟨.hbm, 120, rfl⟩
abbrev main_call0_v5 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_cst_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_24 : Ref sig .tc := ⟨.hbm, 152, rfl⟩
abbrev main_v108 : Ref sig .tc := ⟨.hbm, 153, rfl⟩
abbrev main_v109 : Ref sig .tc := ⟨.hbm, 154, rfl⟩
abbrev main_cst_25 : Ref sig .tc := ⟨.hbm, 155, rfl⟩
abbrev main_v110 : Ref sig .tc := ⟨.hbm, 156, rfl⟩
abbrev main_v111 : Ref sig .tc := ⟨.hbm, 157, rfl⟩
abbrev main_cst_26 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_27 : Ref sig .tc := ⟨.hbm, 163, rfl⟩
abbrev main_v116 : Ref sig .tc := ⟨.hbm, 164, rfl⟩
abbrev main_v117 : Ref sig .tc := ⟨.hbm, 165, rfl⟩
abbrev main_cst_28 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_29 : Ref sig .tc := ⟨.hbm, 172, rfl⟩
abbrev main_v123 : Ref sig .tc := ⟨.hbm, 173, rfl⟩
abbrev main_v124 : Ref sig .tc := ⟨.hbm, 174, rfl⟩
abbrev main_cst_30 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_31 : Ref sig .tc := ⟨.hbm, 183, rfl⟩
abbrev main_v132 : Ref sig .tc := ⟨.hbm, 184, rfl⟩
abbrev main_v133 : Ref sig .tc := ⟨.hbm, 185, rfl⟩
abbrev main_cst_32 : Ref sig .tc := ⟨.hbm, 186, rfl⟩
abbrev main_v134 : Ref sig .tc := ⟨.hbm, 187, rfl⟩
abbrev main_v135 : Ref sig .tc := ⟨.hbm, 188, rfl⟩
abbrev main_cst_33 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_34 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_35 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_36 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_37 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_38 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_39 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_c : Ref sig .tc := ⟨.hbm, 242, rfl⟩
abbrev main_call1_v0 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩

abbrev nD : Nat := 1
abbrev τ : Topo := Topo.v7x

variable {F : FTy → Type} [FloatOps F]
-- ==== Kernel3.lean ====
abbrev S8192x1024 : Shape := ⟨2, ![8192, 1024]⟩
abbrev S5632x1024 : Shape := ⟨2, ![5632, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S5632x1024, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | .hbm, ⟨19, _⟩ => ⟨S8192x2816, .bf16⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S3x8192x512 : Shape := ⟨3, ![3, 8192, 512]⟩
abbrev S2x8192x512 : Shape := ⟨3, ![2, 8192, 512]⟩
abbrev S8192x1024 : Shape := ⟨2, ![8192, 1024]⟩
abbrev S2560x1024 : Shape := ⟨2, ![2560, 1024]⟩
abbrev S3x1024x512 : Shape := ⟨3, ![3, 1024, 512]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩
abbrev S1024x2560 : Shape := ⟨2, ![1024, 2560]⟩

abbrev nBuf : Space → Nat
  | .hbm => 4
  | .vmem => 8
  | .smem => 0
  | _ => 0

abbrev bufTy : (tb : Table) → Fin (tcTables nBuf tb) → BufTy
  | .hbm, ⟨0, _⟩ => ⟨S3x8192x512, .f32⟩
  | .hbm, ⟨1, _⟩ => ⟨S2x8192x512, .bf16⟩
  | .hbm, ⟨2, _⟩ => ⟨S8192x1024, .bf16⟩
  | .hbm, ⟨3, _⟩ => ⟨S2560x1024, .bf16⟩
  | .local _ .vmem, ⟨0, _⟩ => ⟨S3x1024x512, .f32⟩
  | .local _ .vmem, ⟨1, _⟩ => ⟨S3x1024x512, .f32⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S2560x1024, .bf16⟩
  | .local _ .vmem, ⟨7, _⟩ => ⟨S2560x1024, .f32⟩
  | _, _ => ⟨S3x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_19 : BitVec 32 := 0#32
  let v26 : BitVec 1 := Scalar.cmpi .ne v25 c0_i32_19
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S3x8192x512 : Shape := ⟨3, ![3, 8192, 512]⟩
abbrev S2x8192x512 : Shape := ⟨3, ![2, 8192, 512]⟩
abbrev S8192x1024 : Shape := ⟨2, ![8192, 1024]⟩
abbrev S_ : Shape := ⟨0, ![]⟩
abbrev S1024x2560 : Shape := ⟨2, ![1024, 2560]⟩
abbrev S8192x2560 : Shape := ⟨2, ![8192, 2560]⟩
abbrev S1x8192x512 : Shape := ⟨3, ![1, 8192, 512]⟩
abbrev S8192x512 : Shape := ⟨2, ![8192, 512]⟩
abbrev S2560x1024 : Shape := ⟨2, ![2560, 1024]⟩

abbrev nBuf : Space → Nat
  | .hbm => 24
  | .vmem => 0
  | .smem => 0
  | _ => 0

abbrev bufTy : (tb : Table) → Fin (tcTables nBuf tb) → BufTy
  | .hbm, ⟨0, _⟩ => ⟨S3x8192x512, .f32⟩
  | .hbm, ⟨1, _⟩ => ⟨S2x8192x512, .bf16⟩
  | .hbm, ⟨2, _⟩ => ⟨S8192x1024, .bf16⟩
  | .hbm, ⟨3, _⟩ => ⟨S_, .f32⟩
  | .hbm, ⟨4, _⟩ => ⟨S1024x2560, .f32⟩
  | .hbm, ⟨5, _⟩ => ⟨S8192x1024, .f32⟩
  | .hbm, ⟨6, _⟩ => ⟨S8192x2560, .f32⟩
  | .hbm, ⟨7, _⟩ => ⟨S1x8192x512, .f32⟩
  | .hbm, ⟨8, _⟩ => ⟨S8192x512, .f32⟩
  | .hbm, ⟨9, _⟩ => ⟨S1x8192x512, .f32⟩
  | .hbm, ⟨10, _⟩ => ⟨S8192x512, .f32⟩
  | .hbm, ⟨11, _⟩ => ⟨S1x8192x512, .f32⟩
  | .hbm, ⟨12, _⟩ => ⟨S8192x512, .f32⟩
  | .hbm, ⟨13, _⟩ => ⟨S1x8192x512, .bf16⟩
  | .hbm, ⟨14, _⟩ => ⟨S8192x512, .bf16⟩
  | .hbm, ⟨15, _⟩ => ⟨S8192x512, .f32⟩
  | .hbm, ⟨16, _⟩ => ⟨S1x8192x512, .bf16⟩
  | .hbm, ⟨17, _⟩ => ⟨S8192x512, .bf16⟩
  | .hbm, ⟨18, _⟩ => ⟨S8192x512, .f32⟩
  | .hbm, ⟨19, _⟩ => ⟨S8192x2560, .f32⟩
  | .hbm, ⟨20, _⟩ => ⟨S2560x1024, .f32⟩
  | .hbm, ⟨21, _⟩ => ⟨S1024x2560, .f32⟩
  | .hbm, ⟨22, _⟩ => ⟨S2560x1024, .f32⟩
  | .hbm, ⟨23, _⟩ => ⟨S2560x1024, .bf16⟩
  | _, _ => ⟨S3x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S2560x1024 : Shape := ⟨2, ![2560, 1024]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2560x1024, .bf16⟩
  | .hbm, ⟨3, _⟩ => ⟨S8192x2560, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x1024 : Shape := ⟨2, ![8192, 1024]⟩
abbrev S1x1024 : Shape := ⟨2, ![1, 1024]⟩
abbrev S2560x1024 : Shape := ⟨2, ![2560, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2560x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S2560x1024, .f32⟩
  | .hbm, ⟨21, _⟩ => ⟨S1024x2560, .f32⟩
  | .hbm, ⟨22, _⟩ => ⟨S8192x2560, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel2.lean ====
abbrev S3x8192x512 : Shape := ⟨3, ![3, 8192, 512]⟩
abbrev S2x8192x512 : Shape := ⟨3, ![2, 8192, 512]⟩
abbrev S2560x1024 : Shape := ⟨2, ![2560, 1024]⟩
abbrev S8192x1024 : Shape := ⟨2, ![8192, 1024]⟩
abbrev S1x1024 : Shape := ⟨2, ![1, 1024]⟩
abbrev S3x512x512 : Shape := ⟨3, ![3, 512, 512]⟩
abbrev S2x512x512 : Shape := ⟨3, ![2, 512, 512]⟩
abbrev S512x1024 : Shape := ⟨2, ![512, 1024]⟩
abbrev S1x512x512 : Shape := ⟨3, ![1, 512, 512]⟩
abbrev S512x512 : Shape := ⟨2, ![512, 512]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S3x8192x512, .f32⟩
  | .hbm, ⟨1, _⟩ => ⟨S2x8192x512, .bf16⟩
  | .hbm, ⟨2, _⟩ => ⟨S2560x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S3x512x512, .f32⟩
  | .local _ .vmem, ⟨1, _⟩ => ⟨S3x512x512, .f32⟩
  | .local _ .vmem, ⟨2, _⟩ => ⟨S2x512x512, .bf16⟩
  | .local _ .vmem, ⟨3, _⟩ => ⟨S2x512x512, .bf16⟩
  | .local _ .vmem, ⟨4, _⟩ => ⟨S2560x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S3x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S3x8192x512 : Shape := ⟨3, ![3, 8192, 512]⟩
abbrev S2x8192x512 : Shape := ⟨3, ![2, 8192, 512]⟩
abbrev S2560x1024 : Shape := ⟨2, ![2560, 1024]⟩
abbrev S8192x1024 : Shape := ⟨2, ![8192, 1024]⟩
abbrev S1x1024 : Shape := ⟨2, ![1, 1024]⟩
abbrev S1024x2560 : Shape := ⟨2, ![1024, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S1x8192x512 : Shape := ⟨3, ![1, 8192, 512]⟩
abbrev S8192x512 : Shape := ⟨2, ![8192, 512]⟩

abbrev nBuf : Space → Nat
  | .hbm => 71
  | .vmem => 0
  | .smem => 0
  | _ => 0

abbrev bufTy : (tb : Table) → Fin (tcTables nBuf tb) → BufTy
  | .hbm, ⟨0, _⟩ => ⟨S3x8192x512, .f32⟩
  | .hbm, ⟨1, _⟩ => ⟨S2x8192x512, .bf16⟩
  | .hbm, ⟨2, _⟩ => ⟨S2560x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S2560x1024, .f32⟩
  | .hbm, ⟨7, _⟩ => ⟨S1024x2560, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2560, .f32⟩
  | .hbm, ⟨30, _⟩ => ⟨S1x8192x512, .f32⟩
  | .hbm, ⟨31, _⟩ => ⟨S8192x512, .f32⟩
  | .hbm, ⟨32, _⟩ => ⟨S1x8192x512, .f32⟩
  | .hbm, ⟨33, _⟩ => ⟨S8192x512, .f32⟩
  | .hbm, ⟨34, _⟩ => ⟨S1x8192x512, .f32⟩
  | .hbm, ⟨35, _⟩ => ⟨S8192x512, .f32⟩
  | .hbm, ⟨36, _⟩ => ⟨S1x8192x512, .bf16⟩
  | .hbm, ⟨37, _⟩ => ⟨S8192x512, .bf16⟩
  | .hbm, ⟨38, _⟩ => ⟨S8192x512, .f32⟩
  | .hbm, ⟨39, _⟩ => ⟨S1x8192x512, .bf16⟩
  | .hbm, ⟨40, _⟩ => ⟨S8192x512, .bf16⟩
  | .hbm, ⟨41, _⟩ => ⟨S8192x512, .f32⟩
  | .hbm, ⟨42, _⟩ => ⟨S8192x2560, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x1024, .f32⟩
  | _, _ => ⟨S3x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Kernel8.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S1024x256 : Shape := ⟨2, ![1024, 256]⟩
abbrev S512x1024 : Shape := ⟨2, ![512, 1024]⟩
abbrev S512x256 : Shape := ⟨2, ![512, 256]⟩
abbrev S1024 : Shape := ⟨1, ![1024]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S8192x1024, .f32⟩
  | .hbm, ⟨4, _⟩ => ⟨S1024x1024, .bf16⟩
  | .hbm, ⟨5, _⟩ => ⟨S1x1024, .f32⟩
  | .hbm, ⟨6, _⟩ => ⟨S1024x256, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1024x1024, .f32⟩
  | .hbm, ⟨11, _⟩ => ⟨S1024x256, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1024x256, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1024x256, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference8Ideal.lean ====
abbrev S8192x1024 : Shape := ⟨2, ![8192, 1024]⟩
abbrev S8192x256 : Shape := ⟨2, ![8192, 256]⟩
abbrev S1024x1024 : Shape := ⟨2, ![1024, 1024]⟩
abbrev S1x1024 : Shape := ⟨2, ![1, 1024]⟩
abbrev S1024x256 : Shape := ⟨2, ![1024, 256]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S8192x1024, .f32⟩
  | .hbm, ⟨4, _⟩ => ⟨S1024x1024, .bf16⟩
  | .hbm, ⟨5, _⟩ => ⟨S1x1024, .f32⟩
  | .hbm, ⟨6, _⟩ => ⟨S1024x256, .bf16⟩
  | .hbm, ⟨7, _⟩ => ⟨S1x1024, .f32⟩
  | .hbm, ⟨8, _⟩ => ⟨S1024x1024, .f32⟩
  | .hbm, ⟨9, _⟩ => ⟨S1024x256, .f32⟩
  | .hbm, ⟨10, _⟩ => ⟨S256x1024, .f32⟩
  | .hbm, ⟨11, _⟩ => ⟨S1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1024x256, .f32⟩
  | .hbm, ⟨60, _⟩ => ⟨S256x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S1024x1024, .f32⟩
  | .hbm, ⟨68, _⟩ => ⟨S1024x1024, .f32⟩
  | .hbm, ⟨69, _⟩ => ⟨S8192x1024, .f32⟩
  | .hbm, ⟨70, _⟩ => ⟨S8192x1024, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .bf16⟩
  | .hbm, ⟨118, _⟩ => ⟨S1024x256, .f32⟩
  | .hbm, ⟨119, _⟩ => ⟨S1x1024, .f32⟩
  | .hbm, ⟨120, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Kernel9.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .f32⟩
  | .local _ .vmem, ⟨1, _⟩ => ⟨S8x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .f32⟩
  | .local _ .vmem, ⟨1, _⟩ => ⟨S8x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S8x320x1024 : Shape := ⟨3, ![8, 320, 1024]⟩
abbrev S320x1024 : Shape := ⟨2, ![320, 1024]⟩
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x320x1024, .bf16⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .hbm, ⟨7, _⟩ => ⟨S320x1024, .f32⟩
  | .local _ .vmem, ⟨0, _⟩ => ⟨S8x80x1024, .bf16⟩
  | .local _ .vmem, ⟨1, _⟩ => ⟨S8x80x1024, .bf16⟩
  | .local _ .vmem, ⟨2, _⟩ => ⟨S80x1024, .f32⟩
  | .local _ .vmem, ⟨3, _⟩ => ⟨S80x1024, .f32⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | .local _ .vmem, ⟨7, _⟩ => ⟨S80x1024, .f32⟩
  | .local _ .vmem, ⟨8, _⟩ => ⟨S80x1024, .f32⟩
  | .local _ .vmem, ⟨9, _⟩ => ⟨S80x1024, .f32⟩
  | .local _ .vmem, ⟨10, _⟩ => ⟨S80x1024, .f32⟩
  | .local _ .vmem, ⟨11, _⟩ => ⟨S80x1024, .f32⟩
  | .local _ .vmem, ⟨12, _⟩ => ⟨S80x1024, .f32⟩
  | .local _ .vmem, ⟨13, _⟩ => ⟨S80x1024, .f32⟩
  | .local _ .vmem, ⟨14, _⟩ => ⟨S80x1024, .f32⟩
  | .local _ .vmem, ⟨15, _⟩ => ⟨S80x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x80x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x320x1024 : Shape := ⟨3, ![8, 320, 1024]⟩
abbrev S320x1024 : Shape := ⟨2, ![320, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S8x320x1024, .f32⟩
  | .hbm, ⟨5, _⟩ => ⟨S_, .f32⟩
  | .hbm, ⟨6, _⟩ => ⟨S320x1024, .f32⟩
  | .hbm, ⟨7, _⟩ => ⟨S_, .f32⟩
  | .hbm, ⟨8, _⟩ => ⟨S320x1024, .f32⟩
  | .hbm, ⟨9, _⟩ => ⟨S320x1024, .f32⟩
  | .hbm, ⟨10, _⟩ => ⟨S_, .f32⟩
  | .hbm, ⟨11, _⟩ => ⟨S320x1024, .f32⟩
  | .hbm, ⟨12, _⟩ => ⟨S320x1024, .f32⟩
  | .hbm, ⟨13, _⟩ => ⟨S320x1024, .f32⟩
  | .hbm, ⟨14, _⟩ => ⟨S_, .f32⟩
  | .hbm, ⟨15, _⟩ => ⟨S320x1024, .f32⟩
  | .hbm, ⟨16, _⟩ => ⟨S320x1024, .f32⟩
  | .hbm, ⟨17, _⟩ => ⟨S320x1024, .f32⟩
  | .hbm, ⟨18, _⟩ => ⟨S_, .f32⟩
  | .hbm, ⟨19, _⟩ => ⟨S320x1024, .f32⟩
  | .hbm, ⟨20, _⟩ => ⟨S320x1024, .f32⟩
  | .hbm, ⟨21, _⟩ => ⟨S320x1024, .f32⟩
  | .hbm, ⟨22, _⟩ => ⟨S_, .f32⟩
  | .hbm, ⟨23, _⟩ => ⟨S320x1024, .f32⟩
  | .hbm, ⟨24, _⟩ => ⟨S320x1024, .f32⟩
  | .hbm, ⟨25, _⟩ => ⟨S_, .f32⟩
  | .hbm, ⟨26, _⟩ => ⟨S320x1024, .f32⟩
  | .hbm, ⟨27, _⟩ => ⟨S320x1024, .f32⟩
  | .hbm, ⟨28, _⟩ => ⟨S320x1024, .f32⟩
  | .hbm, ⟨29, _⟩ => ⟨S_, .f32⟩
  | .hbm, ⟨30, _⟩ => ⟨S320x1024, .f32⟩
  | .hbm, ⟨31, _⟩ => ⟨S320x1024, .f32⟩
  | .hbm, ⟨32, _⟩ => ⟨S320x1024, .f32⟩
  | .hbm, ⟨33, _⟩ => ⟨S_, .f32⟩
  | .hbm, ⟨34, _⟩ => ⟨S320x1024, .f32⟩
  | .hbm, ⟨35, _⟩ => ⟨S320x1024, .f32⟩
  | .hbm, ⟨36, _⟩ => ⟨S320x1024, .f32⟩
  | .hbm, ⟨37, _⟩ => ⟨S_, .f32⟩
  | .hbm, ⟨38, _⟩ => ⟨S320x1024, .f32⟩
  | .hbm, ⟨39, _⟩ => ⟨S320x1024, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .local _ .vmem, ⟨0, _⟩ => ⟨S8x128x256, .f32⟩
  | .local _ .vmem, ⟨1, _⟩ => ⟨S128x256, .f32⟩
  | _, _ => ⟨S8x128x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference13Ideal.lean ====
abbrev S8x128x256 : Shape := ⟨3, ![8, 128, 256]⟩
abbrev S_ : Shape := ⟨0, ![]⟩
abbrev S128x256 : Shape := ⟨2, ![128, 256]⟩

abbrev nBuf : Space → Nat
  | .hbm => 3
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S_, .f32⟩
  | .hbm, ⟨2, _⟩ => ⟨S128x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S256x128 : Shape := ⟨2, ![256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Real.lean ====
module

public import Idealize.ShloMosaic.Lib.Pointwise
public import Mathlib.Analysis.SpecialFunctions.Trigonometric.DerivHyp
public import Mathlib.Tactic.Ring

/-! The gating unit's backward pass over the real numbers: the functions one row of 128 features and one tile of
128 tokens by 128 features compute, on arrays read as functions of two natural numbers. -/

@[expose] public section

noncomputable section

namespace Cert.Sgu

/-- The rational the kernel's word for √(2/π) denotes. -/
def c0 : ℝ := 6693141 / 8388608

/-- The cubic coefficient of the tanh form of gelu. -/
def g1 : ℝ := 8943 / 200000

/-- Three times the cubic coefficient. -/
def g3 : ℝ := 26829 / 200000

/-- The rational the kernel's word for the variance offset denotes. -/
def eps : ℝ := 8796093 / 8796093022208

/-- The tanh term of gelu. -/
def th (x : ℝ) : ℝ := Real.tanh (c0 * (x + g1 * x * x * x))

/-- Gelu in its tanh form. -/
def ge (x : ℝ) : ℝ := 1 / 2 * x * (1 + th x)

/-- The derivative of gelu. -/
def gg (x : ℝ) : ℝ := 1 / 2 * (1 + th x) + 1 / 2 * x * (1 - th x * th x) * (c0 * (1 + g3 * x * x))

/-- The mean of 128 values. -/
def mean (f : ℕ → ℝ) : ℝ := (∑ k : Fin 128, f k) * (1 / 128)

/-- One row after gelu, its mean taken off. -/
def xc (z : ℕ → ℝ) (l : ℕ) : ℝ := ge (z l) - mean fun k => ge (z k)

/-- The variance of one row after gelu. -/
def vr (z : ℕ → ℝ) : ℝ := mean fun k => xc z k * xc z k

/-- The reciprocal standard deviation of one row. -/
def rs (z : ℕ → ℝ) : ℝ := (√(vr z + eps))⁻¹

/-- One row normalised. -/
def xh (z : ℕ → ℝ) (l : ℕ) : ℝ := xc z l * rs z

/-- One row normalised, scaled and shifted. -/
def zn (lg lb z : ℕ → ℝ) (l : ℕ) : ℝ := xh z l * lg l + lb l

/-- The lower triangle of a matrix. -/
def tril (w : ℕ → ℕ → ℝ) (i j : ℕ) : ℝ := if j ≤ i then w i j else 0

/-- The mixed tokens of one tile. -/
def mixed (lg lb : ℕ → ℝ) (w : ℕ → ℕ → ℝ) (bs : ℕ → ℝ) (z : ℕ → ℕ → ℝ) (i l : ℕ) : ℝ :=
  (∑ j : Fin 128, tril w i j * zn lg lb (z j) l) + bs i

/-- The gradient of the gate before gelu. -/
def du (lg lb : ℕ → ℝ) (w : ℕ → ℕ → ℝ) (bs : ℕ → ℝ) (z u d : ℕ → ℕ → ℝ) (i l : ℕ) : ℝ :=
  d i l * mixed lg lb w bs z i l * gg (u i l)

/-- The gradient of the mixed tokens. -/
def dmx (u d : ℕ → ℕ → ℝ) (i l : ℕ) : ℝ := d i l * ge (u i l)

/-- The gradient of the normalised tokens. -/
def dzn (w u d : ℕ → ℕ → ℝ) (j l : ℕ) : ℝ := ∑ i : Fin 128, tril w i j * dmx u d i l

/-- One tile's part of the gradient of the mixing matrix. -/
def dw (lg lb : ℕ → ℝ) (z u d : ℕ → ℕ → ℝ) (i j : ℕ) : ℝ :=
  if j ≤ i then ∑ l : Fin 128, dmx u d i l * zn lg lb (z j) l else 0

/-- One tile's part of the gradient of the normalisation's scale. -/
def dlg (w z u d : ℕ → ℕ → ℝ) (l : ℕ) : ℝ := ∑ j : Fin 128, dzn w u d j l * xh (z j) l

/-- One tile's part of the gradient of the normalisation's shift. -/
def dlb (w u d : ℕ → ℕ → ℝ) (l : ℕ) : ℝ := ∑ j : Fin 128, dzn w u d j l

/-- The gradient of the normalisation's input: the row's gradient `dx` of the normalised values, its mean and its
component along the row taken off. -/
def dgz (z dx : ℕ → ℝ) (l : ℕ) : ℝ :=
  rs z * (dx l - mean dx - xh z l * mean fun k => dx k * xh z k)

/-- The gradient of the gated tokens before gelu. -/
def dz (lg : ℕ → ℝ) (w z u d : ℕ → ℕ → ℝ) (j l : ℕ) : ℝ :=
  dgz (z j) (fun k => dzn w u d j k * lg k) l * gg (z j l)

/-- The tile of block `n` of 128 tokens and group `g` of 128 features. -/
def tl (X : ℕ → ℕ → ℝ) (n g i l : ℕ) : ℝ := X (n * 128 + i) (g * 128 + l)

/-- A variance is not negative. -/
theorem vr_nonneg (z : ℕ → ℝ) : 0 ≤ vr z :=
  mul_nonneg (Finset.sum_nonneg fun _ _ => mul_self_nonneg _) (by norm_num)

/-- The variance with its offset is positive. -/
theorem vr_eps_pos (z : ℕ → ℝ) : 0 < vr z + eps :=
  add_pos_of_nonneg_of_pos (vr_nonneg z) (by norm_num [eps])

/-- A row of a tile is the token's row in the group. -/
theorem tl_row (X : ℕ → ℕ → ℝ) (t g : ℕ) : tl X (t / 128) g (t % 128) = fun k => X t (g * 128 + k) := by
  funext k; simp only [tl, Nat.div_add_mod']

/-- An element of a tile is the token's element. -/
theorem tl_elt (X : ℕ → ℕ → ℝ) (t c : ℕ) : tl X (t / 128) (c / 128) (t % 128) (c % 128) = X t c := by
  simp only [tl, Nat.div_add_mod']

/-- The tanh term as the reference associates it. -/
theorem th_ref (x : ℝ) : Real.tanh (c0 * (x + g1 * (x * x * x))) = th x := by
  unfold th; congr 1; ring

/-- Gelu as the reference associates it. -/
theorem ge_ref (x : ℝ) : x * (1 / 2 * (1 + th x)) = ge x := by unfold ge; ring

/-- The reference's term for the gradient through the variance. -/
def rv (z dx : ℕ → ℝ) : ℝ :=
  (∑ k : Fin 128, xc z k * dx k) * (-(1 / 2) * (rs z * (1 / (vr z + eps)))) * (1 / 128)

/-- The reference's gradient before the mean's part. -/
def rc (z dx : ℕ → ℝ) (l : ℕ) : ℝ := dx l * rs z + xc z l * rv z dx + rv z dx * xc z l

/-- A row with its mean taken off has sum zero. -/
theorem sum_xc (z : ℕ → ℝ) : ∑ k : Fin 128, xc z k = 0 := by
  simp only [xc, mean, Finset.sum_sub_distrib, Finset.sum_const, Finset.card_univ, Fintype.card_fin, nsmul_eq_mul]
  push_cast
  ring

/-- The square of the reciprocal standard deviation. -/
theorem rs_sq (z : ℕ → ℝ) : 1 / (vr z + eps) = rs z * rs z := by
  have h := vr_eps_pos z
  rw [rs, ← mul_inv, Real.mul_self_sqrt h.le, one_div]

/-- The reference's gradient of the normalisation is the fused one. -/
theorem ln_ref (z dx : ℕ → ℝ) (l : ℕ) :
    rc z dx l + (∑ k : Fin 128, -rc z dx k) * (1 / 128) = dgz z dx l := by
  have h : ∑ k : Fin 128, -rc z dx k = -(rs z * ∑ k : Fin 128, dx k) := by
    have : ∀ k : Fin 128, -rc z dx k = -(rs z * dx k) + -(2 * rv z dx) * xc z k := fun k => by unfold rc; ring
    simp only [this, Finset.sum_add_distrib, ← Finset.mul_sum, sum_xc, Finset.sum_neg_distrib]
    ring
  have h2 : mean (fun k => dx k * xh z k) = rs z * (∑ k : Fin 128, xc z k * dx k) * (1 / 128) := by
    rw [mean, Finset.mul_sum]
    congr 1
    exact Finset.sum_congr rfl fun k _ => by unfold xh; ring
  rw [h, dgz, h2]
  unfold rc rv xh mean
  rw [rs_sq]
  ring

/-- The reference's gradient of gelu is the fused one. -/
theorem gg_ref (x y : ℝ) :
    y * (1 / 2 * (1 + th x)) + c0 * (1 / 2 * (x * y) * ((1 + th x) * (1 - th x)))
      + g1 * (c0 * (1 / 2 * (x * y) * ((1 + th x) * (1 - th x)))) * (3 * (x * x)) = y * gg x := by
  unfold gg g1 g3; ring

end Cert.Sgu
-- ==== Proof.Lift.lean ====
module

public import proofs.«01_k».proof.Proof.Real
public import Idealize.ShloMosaic.Lib.Pointwise
public import Idealize.ShloMosaic.Lib.IdealHost
public import Idealize.ShloMosaic.Lib.WordCmp

/-! Real-valued arrays as arrays of the ideal instance, and the ideal operations on real values. -/

@[expose] public section

noncomputable section

namespace Cert.Sgu

open Idealize.ShloMosaic

/-- A matrix of real numbers as a matrix of ideal floats. -/
def L2 {a b : ℕ} {φ : FTy} (f : ℕ → ℕ → ℝ) : FVec Ideal ⟨2, ![a, b]⟩ φ :=
  fun i => ((f (i 0).val (i 1).val : ℝ) : EReal)

/-- A stack of matrices of real numbers as an array of ideal floats. -/
def L3 {a b c : ℕ} {φ : FTy} (f : ℕ → ℕ → ℕ → ℝ) : FVec Ideal ⟨3, ![a, b, c]⟩ φ :=
  fun i => ((f (i 0).val (i 1).val (i 2).val : ℝ) : EReal)

/-- A four-axis array of real numbers as an array of ideal floats. -/
def L4 {a b c d : ℕ} {φ : FTy} (f : ℕ → ℕ → ℕ → ℕ → ℝ) : FVec Ideal ⟨4, ![a, b, c, d]⟩ φ :=
  fun i => ((f (i 0).val (i 1).val (i 2).val (i 3).val : ℝ) : EReal)

@[simp] theorem L4_ix {a b c d : ℕ} {φ : FTy} (f : ℕ → ℕ → ℕ → ℕ → ℝ) (i : Fin a) (j : Fin b) (k : Fin c) (l : Fin d) :
    L4 (φ := φ) f (ix4 i j k l) = ((f i j k l : ℝ) : EReal) := rfl

@[simp] theorem L2_ix {a b : ℕ} {φ : FTy} (f : ℕ → ℕ → ℝ) (i : Fin a) (j : Fin b) :
    L2 (φ := φ) f (ix2 i j) = ((f i j : ℝ) : EReal) := rfl

@[simp] theorem L3_ix {a b c : ℕ} {φ : FTy} (f : ℕ → ℕ → ℕ → ℝ) (i : Fin a) (j : Fin b) (k : Fin c) :
    L3 (φ := φ) f (ix3 i j k) = ((f i j k : ℝ) : EReal) := rfl

/-- A matrix of real numbers in the wide format. -/
abbrev A2 {a b : ℕ} (f : ℕ → ℕ → ℝ) : FVec Ideal ⟨2, ![a, b]⟩ .f32 := L2 f

/-- A stack of matrices of real numbers in the wide format. -/
abbrev A3 {a b c : ℕ} (f : ℕ → ℕ → ℕ → ℝ) : FVec Ideal ⟨3, ![a, b, c]⟩ .f32 := L3 f

/-- A four-axis array of real numbers in the wide format. -/
abbrev A4 {a b c d : ℕ} (f : ℕ → ℕ → ℕ → ℕ → ℝ) : FVec Ideal ⟨4, ![a, b, c, d]⟩ .f32 := L4 f

/-- A tile of 128 by 128 real numbers in the wide format. -/
abbrev T32 (f : ℕ → ℕ → ℝ) : FVec Ideal ⟨2, ![128, 128]⟩ .f32 := L2 f

/-- A tile of 128 by 128 real numbers in the narrow format. -/
abbrev T16 (f : ℕ → ℕ → ℝ) : FVec Ideal ⟨2, ![128, 128]⟩ .bf16 := L2 f

/-- A row of 128 real numbers. -/
abbrev R32 (f : ℕ → ℝ) : FVec Ideal ⟨2, ![1, 128]⟩ .f32 := L2 fun _ l => f l

/-- A column of 128 real numbers. -/
abbrev C32 (f : ℕ → ℝ) : FVec Ideal ⟨2, ![128, 1]⟩ .f32 := L2 fun i _ => f i

/-- A tile of 128 by 128 real numbers as the one member of a stack. -/
abbrev S32 (f : ℕ → ℕ → ℝ) : FVec Ideal ⟨3, ![1, 128, 128]⟩ .f32 := L3 fun _ => f

/-- A narrow tile of 128 by 128 real numbers as the one member of a stack. -/
abbrev S16 (f : ℕ → ℕ → ℝ) : FVec Ideal ⟨3, ![1, 128, 128]⟩ .bf16 := L3 fun _ => f

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (a b : ℝ) :
    (if p then ((a : ℝ) : EReal) else ((b : ℝ) : EReal)) = ((if p then a else b : ℝ) : EReal) := by
  split <;> rfl

theorem bits_half : Ideal.ofBits .f32 0x3F000000#32 = ((1 / 2 : ℝ) : EReal) := by
  simp [Ideal.ofBits, Ideal.ieee, -EReal.coe_mul]; norm_num
theorem bits_c0 : Ideal.ofBits .f32 0x3F4C422A#32 = ((c0 : ℝ) : EReal) := by
  simp [Ideal.ofBits, Ideal.ieee, -EReal.coe_mul, c0]; norm_num
theorem bits_eps : Ideal.ofBits .f32 0x358637BD#32 = ((eps : ℝ) : EReal) := by
  simp [Ideal.ofBits, Ideal.ieee, -EReal.coe_mul, eps]; norm_num
theorem bits_128 : Ideal.ofBits .f32 0x43000000#32 = ((128 : ℝ) : EReal) := by
  simp [Ideal.ofBits, Ideal.ieee, -EReal.coe_mul]; norm_num

theorem tanh_real (x : ℝ) : Ideal.tanh ((x : ℝ) : EReal) = ((Real.tanh x : ℝ) : EReal) := Ideal.tanh_coe x

/-- The ideal reciprocal square root at a positive number. -/
theorem rsqrt_real {x : ℝ} (h : 0 < x) : Ideal.rsqrt ((x : ℝ) : EReal) = (((√x)⁻¹ : ℝ) : EReal) := by
  rw [Ideal.rsqrt_coe, if_neg (not_lt.mpr h.le), if_neg h.ne']

/-- The causal mask's select: the first value where the column is at most the row. -/
theorem sel_causal (i j : Fin 128) (a b : EReal) :
    Scalar.select (IntOp.cmpi .sge (BitVec.ofNat 32 i.val) (BitVec.ofNat 32 j.val)) a b = if j.val ≤ i.val then a else b := by
  have h : IntOp.cmpi .sge (BitVec.ofNat 32 i.val) (BitVec.ofNat 32 j.val) = BitVec.ofBool (decide (j.val ≤ i.val)) :=
    WordCmp.cmpi_sge_ofNat (by have := i.isLt; omega) (by have := j.isLt; omega)
  rw [h]
  by_cases hji : j.val ≤ i.val <;> simp [hji, Scalar.select]

theorem bits_3 : Ideal.ofBits .f32 0x40400000#32 = ((3 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_44715 : Ideal.ofBits .f32 0x472EAB00#32 = ((44715 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num

/-- The reference's quotient of two whole numbers is the cubic coefficient of gelu. -/
theorem div_g1 : Ideal.div ((44715 : ℝ) : EReal) ((1000000 : ℝ) : EReal) = ((g1 : ℝ) : EReal) := by
  rw [Ideal.div_coe (by norm_num), ← EReal.coe_mul]; norm_num [g1]

/-- Division by a real number other than zero. -/
theorem div_real (x : ℝ) {y : ℝ} (h : y ≠ 0) : Ideal.div ((x : ℝ) : EReal) ((y : ℝ) : EReal) = ((x * (1 / y) : ℝ) : EReal) := by
  rw [Ideal.div_coe h, ← EReal.coe_mul]

/-- A host sum over the first and the last of four axes. -/
theorem hostReduce_ends {a b c d : ℕ} (h : (⟨4, ![a, b, c, d]⟩ : Shape).ReducesTo [0, 3] ⟨2, ![b, c]⟩)
    (v : (⟨4, ![a, b, c, d]⟩ : Shape).Idx → EReal) (init : EReal) (i : Fin b) (g : Fin c) :
    Ideal.hostReduceAdd h v init (ix2 i g) = init + ∑ n : Fin a, ∑ l : Fin d, v (ix4 n i g l) := by
  refine congrArg (init + ·) ((Finset.sum_filter_eq_sum_of_fiber _ (fun k : Fin a × Fin d => ix4 k.1 i g k.2)
    (fun _ _ e => Prod.ext (congrFun e 0) (congrFun e 3)) (fun y => ?_) v).trans (Fintype.sum_prod_type _))
  constructor
  · intro e
    refine ⟨(y 0, y 3), ?_⟩
    funext x; apply Fin.ext
    match x with
    | ⟨0, _⟩ => rfl
    | ⟨1, _⟩ => exact (congrArg Fin.val (congrFun e ⟨0, Nat.zero_lt_succ _⟩)).symm
    | ⟨2, _⟩ => exact (congrArg Fin.val (congrFun e ⟨1, Nat.lt_succ_self _⟩)).symm
    | ⟨3, _⟩ => rfl
  · rintro ⟨k, rfl⟩
    funext x; apply Fin.ext
    match x with
    | ⟨0, _⟩ => rfl
    | ⟨1, _⟩ => rfl

/-- A host sum over the first two of three axes. -/
theorem hostReduce_front {a b c : ℕ} (h : (⟨3, ![a, b, c]⟩ : Shape).ReducesTo [0, 1] ⟨1, ![c]⟩)
    (v : (⟨3, ![a, b, c]⟩ : Shape).Idx → EReal) (init : EReal) (l : Fin c) :
    Ideal.hostReduceAdd h v init (ix1 l) = init + ∑ t : Fin a, ∑ g : Fin b, v (ix3 t g l) := by
  refine congrArg (init + ·) ((Finset.sum_filter_eq_sum_of_fiber _ (fun k : Fin a × Fin b => ix3 k.1 k.2 l)
    (fun _ _ e => Prod.ext (congrFun e 0) (congrFun e 1)) (fun y => ?_) v).trans (Fintype.sum_prod_type _))
  constructor
  · intro e
    refine ⟨(y 0, y 1), ?_⟩
    funext x; apply Fin.ext
    match x with
    | ⟨0, _⟩ => rfl
    | ⟨1, _⟩ => rfl
    | ⟨2, _⟩ => exact (congrArg Fin.val (congrFun e ⟨0, Nat.zero_lt_succ _⟩)).symm
  · rintro ⟨k, rfl⟩
    funext x; apply Fin.ext
    match x with
    | ⟨0, _⟩ => rfl

/-- The word zero as a float. -/
theorem sitofp_zero : (FloatOps.sitofp (F := Ideal) .f32 0#32 : EReal) = ((0 : ℝ) : EReal) := by
  show ((((0#32 : BitVec 32).toInt : ℤ) : ℝ) : EReal) = _
  simp

theorem addi_zero (x : BitVec 32) : IntOp.addi x 0#32 = x := by simp [IntOp.addi]

/-- Division by a variance with its offset. -/
theorem div_vr (x : ℝ) (z : ℕ → ℝ) :
    Ideal.div ((x : ℝ) : EReal) ((vr z + eps : ℝ) : EReal) = ((x * (1 / (vr z + eps)) : ℝ) : EReal) :=
  div_real x (vr_eps_pos z).ne'

/-- Division by 128. -/
theorem div_128 (x : ℝ) : Ideal.div ((x : ℝ) : EReal) ((128 : ℝ) : EReal) = ((x * (1 / 128) : ℝ) : EReal) := by
  rw [Ideal.div_coe (by norm_num), ← EReal.coe_mul]

end Cert.Sgu
-- ==== Proof.Tile.lean ====
module

public import proofs.«01_k».proof.Proof.Lift
public import proofs.«01_k».proof.Proof.Gen.KernelIdeal.Skeleton

/-! What the kernel's vector operations compute on one tile of real values. -/

@[expose] public section

set_option maxRecDepth 16384

noncomputable section

namespace Cert.Sgu

open Idealize.ShloMosaic Cert.KernelIdeal Cert.KernelIdeal.Gen

theorem named_g1 : Named.named (F := Ideal) Cert.KernelIdeal.κ "g1" (φ := .f32) 0x3D372713#32 = ((g1 : ℝ) : EReal) :=
  IdealRules.named_const.ideal_named_scalar _ _ _ _ rfl

theorem named_g3 : Named.named (F := Ideal) Cert.KernelIdeal.κ "g3" (φ := .f32) 0x3E095D4F#32 = ((g3 : ℝ) : EReal) :=
  IdealRules.named_const.ideal_named_scalar _ _ _ _ rfl

/-- The tanh term of gelu on a tile. -/
theorem pay14_eq (z : ℕ → ℕ → ℝ) :
    k0_pay14 (F := Ideal) (T32 z) = T32 fun i l => th (z i l) := by
  funext j
  idx_vars j
  pointwise [k0_pay14]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The rows of a tile after gelu, their means taken off. -/
theorem pay15_eq (z : ℕ → ℕ → ℝ) :
    k0_pay15 (F := Ideal) (T32 z) = T32 fun i l => xc (z i) l := by
  funext j
  idx_vars j
  pointwise [k0_pay15, pay14_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The reciprocal standard deviations of a tile's rows. -/
theorem pay16_eq (z : ℕ → ℕ → ℝ) :
    k0_pay16 (F := Ideal) (T32 z) = C32 fun i => rs (z i) := by
  funext j
  idx_vars j
  pointwise [k0_pay16, pay15_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  exact rsqrt_real (vr_eps_pos (z j0))

/-- The normalised rows of a tile. -/
theorem pay17_eq (z : ℕ → ℕ → ℝ) :
    k0_pay17 (F := Ideal) (T32 z) = T32 fun i l => xh (z i) l := by
  funext j
  idx_vars j
  pointwise [k0_pay17, pay15_eq, pay16_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The normalised rows of a tile, scaled and shifted. -/
theorem pay18_eq (lg lb : ℕ → ℝ) (z : ℕ → ℕ → ℝ) :
    k0_pay18 (F := Ideal) (R32 lg) (R32 lb) (T32 z) = T16 fun i l => zn lg lb (z i) l := by
  funext j
  idx_vars j
  pointwise [k0_pay18, pay17_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The lower triangle of a mixing matrix. -/
theorem pay12_eq (w : ℕ → ℕ → ℝ) :
    k0_pay12 (F := Ideal) (S32 w) = T32 fun i j => tril w i j := by
  funext j
  idx_vars j
  pointwise [k0_pay12]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The mixed tokens before the bias. -/
theorem pay19_eq (lg lb : ℕ → ℝ) (w z : ℕ → ℕ → ℝ) :
    k0_pay19 (F := Ideal) (R32 lg) (R32 lb) (T32 fun i j => tril w i j) (T32 z) = T32 fun i l => ∑ k : Fin 128, tril w i k * zn lg lb (z k) l := by
  funext j
  idx_vars j
  pointwise [k0_pay19, k0_pay13, pay12_eq, pay18_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]

/-- The bias of a row at every feature. -/
theorem pay20_eq (bs : ℕ → ℝ) :
    k0_pay20 (F := Ideal) (C32 bs) = T32 fun i _ => bs i := by
  funext j
  idx_vars j
  pointwise [k0_pay20]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]

/-- The tanh term of gelu on the gate's tile. -/
theorem pay21_eq (u : ℕ → ℕ → ℝ) :
    k0_pay21 (F := Ideal) (T32 u) = T32 fun i l => th (u i l) := by
  funext j
  idx_vars j
  pointwise [k0_pay21]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The gradient of the gate before gelu, from the mixed tokens. -/
theorem pay22_eq (u d x y : ℕ → ℕ → ℝ) :
    k0_pay22 (F := Ideal) (T32 u) (T32 d) (T32 x) (T32 y) = S16 fun i l => d i l * (x i l + y i l) * gg (u i l) := by
  funext j
  idx_vars j
  pointwise [k0_pay22, pay21_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The gradient of the mixed tokens. -/
theorem pay23_eq (u d : ℕ → ℕ → ℝ) :
    k0_pay23 (F := Ideal) (T32 u) (T32 d) = T32 fun i l => dmx u d i l := by
  funext j
  idx_vars j
  pointwise [k0_pay23, pay21_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- A tile's part of the gradient of the mixing matrix, added to what is there. -/
theorem pay25_eq (x y a : ℕ → ℕ → ℝ) :
    k0_pay25 (F := Ideal) (T16 x) (T32 y) (S32 a) = S32 fun i k => a i k + if k ≤ i then ∑ l : Fin 128, y i l * x k l else 0 := by
  funext j
  idx_vars j
  pointwise [k0_pay25, k0_pay24]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]

/-- The mixed tokens' gradient added to what is there. -/
theorem pay26_eq (y a : ℕ → ℕ → ℝ) :
    k0_pay26 (F := Ideal) (T32 y) (S32 a) = S32 fun i l => a i l + y i l := by
  funext j
  idx_vars j
  pointwise [k0_pay26]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]

/-- The gradient of the normalised tokens. -/
theorem pay27_eq (w u d : ℕ → ℕ → ℝ) :
    k0_pay27 (F := Ideal) (k0_pay13 (T32 fun i j => tril w i j)) (T32 fun i l => dmx u d i l) = T32 fun j l => dzn w u d j l := by
  funext j
  idx_vars j
  pointwise [k0_pay27, k0_pay24, k0_pay13]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- A tile's part of the scale's gradient, added to what is there. -/
theorem pay28_eq (w z u d : ℕ → ℕ → ℝ) (a : ℕ → ℝ) :
    k0_pay28 (F := Ideal) (k0_pay13 (T32 fun i j => tril w i j)) (T32 fun i l => xh (z i) l) (T32 fun i l => dmx u d i l) (R32 a) = R32 fun l => a l + dlg w z u d l := by
  funext j
  idx_vars j
  pointwise [k0_pay28, pay27_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- A tile's part of the shift's gradient, added to what is there. -/
theorem pay30_eq (w u d : ℕ → ℕ → ℝ) (a : ℕ → ℝ) :
    k0_pay30 (F := Ideal) (k0_pay29 (k0_pay13 (T32 fun i j => tril w i j)) (T32 fun i l => dmx u d i l) (R32 a)) = R32 fun l => a l + dlb w u d l := by
  funext j
  idx_vars j
  pointwise [k0_pay29, k0_pay30, pay27_eq]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The gradient of the gated tokens before gelu. -/
theorem pay31_eq (lg : ℕ → ℝ) (w z u d : ℕ → ℕ → ℝ) :
    k0_pay32 (F := Ideal) (k0_pay31 (R32 lg) (T32 z) (T32 fun i l => th (z i l)) (C32 fun i => rs (z i)) (T32 fun i l => xh (z i) l) (T32 fun j l => dzn w u d j l)) = S16 fun j l => dz lg w z u d j l := by
  funext j
  idx_vars j
  pointwise [k0_pay31, k0_pay32]
  simp only [bits_half, bits_c0, bits_eps, bits_128, named_g1, named_g3, L2_ix, L3_ix, tanh_real, div_128, sel_causal,
    zero_add, coe_sum, ← EReal.coe_one, ← EReal.coe_zero, ← EReal.coe_mul, ← EReal.coe_add, ← EReal.coe_sub, coe_ite]
  rfl

/-- The gradient of the gate on one tile, as the kernel computes it. -/
def DU (lg lb : FVec Ideal S1x128 .f32) (w : FVec Ideal S1x128x128 .f32) (z u d : FVec Ideal S128x128 .f32) (bs : FVec Ideal S128x1 .f32) :
    FVec Ideal S1x128x128 .bf16 := k0_pay22 (F := Ideal) u d (k0_pay19 lg lb (k0_pay12 w) z) (k0_pay20 bs)

/-- The gradient of the normalised tokens on one tile, as the kernel computes it. -/
def DZN (w : FVec Ideal S1x128x128 .f32) (u d : FVec Ideal S128x128 .f32) : FVec Ideal S128x128 .f32 :=
  k0_pay27 (k0_pay13 (k0_pay12 w)) (k0_pay23 u d)

/-- The gradient of the gated tokens on one tile, as the kernel computes it. -/
def DZ (lg : FVec Ideal S1x128 .f32) (w : FVec Ideal S1x128x128 .f32) (z u d : FVec Ideal S128x128 .f32) :
    FVec Ideal S1x128x128 .bf16 := k0_pay32 (k0_pay31 lg z (k0_pay14 z) (k0_pay16 z) (k0_pay17 z) (DZN w u d))

/-- One tile's addition to the gradient of the mixing matrix, as the kernel computes it. -/
def DW (lg lb : FVec Ideal S1x128 .f32) (z u d : FVec Ideal S128x128 .f32) (a : FVec Ideal S1x128x128 .f32) :
    FVec Ideal S1x128x128 .f32 := k0_pay25 (k0_pay18 lg lb z) (k0_pay23 u d) a

/-- One tile's addition to the gradient of the biases before the row sums, as the kernel computes it. -/
def DB (u d : FVec Ideal S128x128 .f32) (a : FVec Ideal S1x128x128 .f32) : FVec Ideal S1x128x128 .f32 :=
  k0_pay26 (k0_pay23 u d) a

/-- One tile's addition to the gradient of the scale, as the kernel computes it. -/
def DLG (w : FVec Ideal S1x128x128 .f32) (z u d : FVec Ideal S128x128 .f32) (a : FVec Ideal S1x128 .f32) : FVec Ideal S1x128 .f32 :=
  k0_pay28 (k0_pay13 (k0_pay12 w)) (k0_pay17 z) (k0_pay23 u d) a

/-- One tile's addition to the gradient of the shift, as the kernel computes it. -/
def DLB (w : FVec Ideal S1x128x128 .f32) (u d : FVec Ideal S128x128 .f32) (a : FVec Ideal S1x128 .f32) : FVec Ideal S1x128 .f32 :=
  k0_pay30 (k0_pay29 (k0_pay13 (k0_pay12 w)) (k0_pay23 u d) a)

section
variable (lg lb : ℕ → ℝ) (w z u d : ℕ → ℕ → ℝ) (bs : ℕ → ℝ)

/-- On real values the kernel's tile of the gate's gradient. -/
theorem DU_eq : DU (R32 lg) (R32 lb) (S32 w) (T32 z) (T32 u) (T32 d) (C32 bs) = S16 fun i l => du lg lb w bs z u d i l := by
  unfold DU
  rw [pay12_eq, pay19_eq, pay20_eq, pay22_eq]
  rfl

/-- On real values the kernel's tile of the normalised tokens' gradient. -/
theorem DZN_eq : DZN (S32 w) (T32 u) (T32 d) = T32 fun i l => dzn w u d i l := by
  unfold DZN
  rw [pay12_eq, pay23_eq, pay27_eq]

/-- On real values the kernel's tile of the gated tokens' gradient. -/
theorem DZ_eq : DZ (R32 lg) (S32 w) (T32 z) (T32 u) (T32 d) = S16 fun i l => dz lg w z u d i l := by
  unfold DZ
  rw [DZN_eq, pay14_eq, pay16_eq, pay17_eq, pay31_eq]

/-- On real values the kernel's addition to the mixing matrix's gradient. -/
theorem DW_eq (a : ℕ → ℕ → ℝ) : DW (R32 lg) (R32 lb) (T32 z) (T32 u) (T32 d) (S32 a) = S32 fun i j => a i j + dw lg lb z u d i j := by
  unfold DW
  rw [pay18_eq, pay23_eq, pay25_eq]
  rfl

/-- On real values the kernel's addition to the biases' gradient before the row sums. -/
theorem DB_eq (a : ℕ → ℕ → ℝ) : DB (T32 u) (T32 d) (S32 a) = S32 fun i l => a i l + dmx u d i l := by
  unfold DB
  rw [pay23_eq, pay26_eq]

/-- On real values the kernel's addition to the scale's gradient. -/
theorem DLG_eq (a : ℕ → ℝ) : DLG (S32 w) (T32 z) (T32 u) (T32 d) (R32 a) = R32 fun l => a l + dlg w z u d l := by
  unfold DLG
  rw [pay12_eq, pay17_eq, pay23_eq, pay28_eq]

/-- On real values the kernel's addition to the shift's gradient. -/
theorem DLB_eq (a : ℕ → ℝ) : DLB (S32 w) (T32 u) (T32 d) (R32 a) = R32 fun l => a l + dlb w u d l := by
  unfold DLB
  rw [pay12_eq, pay23_eq, pay30_eq]

end

end Cert.Sgu
-- ==== Proof.Ref.lean ====
module

public import proofs.«01_k».proof.Proof.Lift
public import proofs.«01_k».proof.Proof.Gen.ReferenceIdeal.Run

/-! What the reference's arrays hold when its arguments hold real numbers. -/

@[expose] public section

set_option maxRecDepth 16384

noncomputable section

namespace Cert.Sgu

open Idealize.ShloMosaic Cert.ReferenceIdeal Cert.ReferenceIdeal.Value

variable (V0 : Valuation τ sig (Elt Ideal)) (U Z D : ℕ → ℕ → ℝ) (lg lb : ℕ → ℝ) (W : ℕ → ℕ → ℕ → ℝ) (B : ℕ → ℕ → ℝ)

/-- The cubic coefficient. -/
theorem v7_eq  : res_main_v7 V0 = fun _ => ((g1 : ℝ) : EReal) := by
  funext j
  try idx_vars j
  pointwise [res_main_v7]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]

/-- The cubic coefficient. -/
theorem v30_eq  : res_main_v30 V0 = fun _ => ((g1 : ℝ) : EReal) := by
  funext j
  try idx_vars j
  pointwise [res_main_v30]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]

/-- The tanh term of the gate. -/
theorem v18_eq (hU : res_main_v3 V0 = A2 U) : res_main_v18 V0 = A2 fun t c => th (U t c) := by
  funext j
  try idx_vars j
  pointwise [res_main_v18, hU, v7_eq]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, th_ref]

/-- The tanh term of the gated tokens. -/
theorem v41_eq (hZ : res_main_v4 V0 = A2 Z) : res_main_v41 V0 = A2 fun t c => th (Z t c) := by
  funext j
  try idx_vars j
  pointwise [res_main_v41, hZ, v30_eq]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, th_ref]

/-- The gate's normal distribution function. -/
theorem v27_eq (hU : res_main_v3 V0 = A2 U) : res_main_v27 V0 = A2 fun t c => 1 / 2 * (1 + th (U t c)) := by
  funext j
  try idx_vars j
  pointwise [res_main_v27, v18_eq V0 U hU]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]

/-- The gated tokens' normal distribution function. -/
theorem v50_eq (hZ : res_main_v4 V0 = A2 Z) : res_main_v50 V0 = A2 fun t c => 1 / 2 * (1 + th (Z t c)) := by
  funext j
  try idx_vars j
  pointwise [res_main_v50, v41_eq V0 Z hZ]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]

/-- The gate after gelu. -/
theorem v29_eq (hU : res_main_v3 V0 = A2 U) : res_main_v29 V0 = A3 fun t g l => ge (U t (g * 128 + l)) := by
  funext j
  try idx_vars j
  pointwise [res_main_v29, hU, v27_eq V0 U hU]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, ge_ref]

/-- The gated tokens after gelu. -/
theorem v52_eq (hZ : res_main_v4 V0 = A2 Z) : res_main_v52 V0 = A3 fun t g l => ge (Z t (g * 128 + l)) := by
  funext j
  try idx_vars j
  pointwise [res_main_v52, hZ, v50_eq V0 Z hZ]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, ge_ref]

/-- The rows after gelu, their means taken off. -/
theorem v58_eq (hZ : res_main_v4 V0 = A2 Z) : res_main_v58 V0 = A3 fun t g l => xc (fun k => Z t (g * 128 + k)) l := by
  funext j
  try idx_vars j
  pointwise [res_main_v58, v52_eq V0 Z hZ]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  rfl

/-- The rows' variances with the offset. -/
theorem v65_eq (hZ : res_main_v4 V0 = A2 Z) : res_main_v65 V0 = A3 fun t g _ => vr (fun k => Z t (g * 128 + k)) + eps := by
  funext j
  try idx_vars j
  pointwise [res_main_v65, v58_eq V0 Z hZ]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  rfl

/-- The rows' reciprocal standard deviations. -/
theorem v66_eq (hZ : res_main_v4 V0 = A2 Z) : res_main_v66 V0 = A3 fun t g _ => rs (fun k => Z t (g * 128 + k)) := by
  funext j
  try idx_vars j
  pointwise [res_main_v66, v65_eq V0 Z hZ]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  exact rsqrt_real (vr_eps_pos _)

/-- The rows normalised. -/
theorem v71_eq (hZ : res_main_v4 V0 = A2 Z) : res_main_v71 V0 = A3 fun t g l => xh (fun k => Z t (g * 128 + k)) l := by
  funext j
  try idx_vars j
  pointwise [res_main_v71, v58_eq V0 Z hZ, v66_eq V0 Z hZ]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  rfl

/-- The scale at every row. -/
theorem v72_eq (hlg : V0 (Proc.devRef .tc main_arg2) = A2 (a := 1) (b := 128) fun _ l => lg l) : res_main_v72 V0 = A3 fun _ _ l => lg l := by
  funext j
  try idx_vars j
  pointwise [res_main_v72, hlg]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]

/-- The rows normalised, scaled and shifted, in blocks of 128 tokens. -/
theorem v78_eq (hZ : res_main_v4 V0 = A2 Z) (hlg : V0 (Proc.devRef .tc main_arg2) = A2 (a := 1) (b := 128) fun _ l => lg l) (hlb : V0 (Proc.devRef .tc main_arg3) = A2 (a := 1) (b := 128) fun _ l => lb l) : res_main_v78 V0 = A4 fun n i g l => zn lg lb (tl Z n g i) l := by
  funext j
  try idx_vars j
  pointwise [res_main_v78, v71_eq V0 Z hZ, v72_eq V0 lg hlg, hlb]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  rfl

/-- The causal mask. -/
theorem v81_eq  : res_main_v81 V0 = A3 fun _ i j => if j ≤ i then 1 else 0 := by
  funext j
  try idx_vars j
  pointwise [res_main_v81]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, addi_zero]
  exact (sel_causal _ _ _ _).trans (coe_ite _ _ _)

/-- The masked mixing matrices. -/
theorem v83_eq (hW : V0 (Proc.devRef .tc main_arg4) = A3 (a := 4) (b := 128) (c := 128) W) : res_main_v83 V0 = A3 fun g i j => tril (W g) i j := by
  funext j
  try idx_vars j
  pointwise [res_main_v83, v81_eq, hW]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, mul_ite, mul_one, mul_zero]
  rfl

/-- The mixed tokens. -/
theorem v90_eq (hZ : res_main_v4 V0 = A2 Z) (hlg : V0 (Proc.devRef .tc main_arg2) = A2 (a := 1) (b := 128) fun _ l => lg l) (hlb : V0 (Proc.devRef .tc main_arg3) = A2 (a := 1) (b := 128) fun _ l => lb l) (hW : V0 (Proc.devRef .tc main_arg4) = A3 (a := 4) (b := 128) (c := 128) W) (hB : V0 (Proc.devRef .tc main_arg5) = A2 (a := 4) (b := 128) B) : res_main_v90 V0 = A3 fun t g l => mixed lg lb (W g) (B g) (tl Z (t / 128) g) (t % 128) l := by
  funext j
  try idx_vars j
  pointwise [res_main_v90, v78_eq V0 Z lg lb hZ hlg hlb, v83_eq V0 W hW, hB]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, mixed, mul_comm (zn _ _ _ _)]

/-- The gradient of the unit's output in groups. -/
theorem v93_eq (hD : V0 (Proc.devRef .tc main_arg1) = A2 (a := 8192) (b := 512) D) : res_main_v93 V0 = A3 fun t g l => D t (g * 128 + l) := by
  funext j
  try idx_vars j
  pointwise [res_main_v93, hD]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]

/-- The gradient of the mixed tokens. -/
theorem v96_eq (hU : res_main_v3 V0 = A2 U) (hD : V0 (Proc.devRef .tc main_arg1) = A2 (a := 8192) (b := 512) D) : res_main_v96 V0 = A4 fun n i g l => dmx (tl U n g) (tl D n g) i l := by
  funext j
  try idx_vars j
  pointwise [res_main_v96, v29_eq V0 U hU, v93_eq V0 D hD]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, mul_comm (ge _)]
  rfl

/-- The gradient of the mixed tokens, the groups first. -/
theorem v101_eq (hU : res_main_v3 V0 = A2 U) (hD : V0 (Proc.devRef .tc main_arg1) = A2 (a := 8192) (b := 512) D) : res_main_v101 V0 = A4 fun g n l i => dmx (tl U n g) (tl D n g) i l := by
  funext j
  try idx_vars j
  pointwise [res_main_v101, v96_eq V0 U D hU hD]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]

/-- The gradient of the normalised tokens. -/
theorem v107_eq (hU : res_main_v3 V0 = A2 U) (hD : V0 (Proc.devRef .tc main_arg1) = A2 (a := 8192) (b := 512) D) (hW : V0 (Proc.devRef .tc main_arg4) = A3 (a := 4) (b := 128) (c := 128) W) : res_main_v107 V0 = A3 fun t g l => dzn (W g) (tl U (t / 128) g) (tl D (t / 128) g) (t % 128) l := by
  funext j
  try idx_vars j
  pointwise [res_main_v107, v101_eq V0 U D hU hD, v83_eq V0 W hW]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, mul_comm (dmx _ _ _ _)]
  rfl

/-- The gradient of the normalised tokens times the scale. -/
theorem v115_eq (hU : res_main_v3 V0 = A2 U) (hD : V0 (Proc.devRef .tc main_arg1) = A2 (a := 8192) (b := 512) D) (hlg : V0 (Proc.devRef .tc main_arg2) = A2 (a := 1) (b := 128) fun _ l => lg l) (hW : V0 (Proc.devRef .tc main_arg4) = A3 (a := 4) (b := 128) (c := 128) W) : res_main_v115 V0 = A3 fun t g l => dzn (W g) (tl U (t / 128) g) (tl D (t / 128) g) (t % 128) l * lg l := by
  funext j
  try idx_vars j
  pointwise [res_main_v115, v107_eq V0 U D W hU hD hW, v72_eq V0 lg hlg]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]

/-- The gradient through the variance. -/
theorem v126_eq (hU : res_main_v3 V0 = A2 U) (hZ : res_main_v4 V0 = A2 Z) (hD : V0 (Proc.devRef .tc main_arg1) = A2 (a := 8192) (b := 512) D) (hlg : V0 (Proc.devRef .tc main_arg2) = A2 (a := 1) (b := 128) fun _ l => lg l) (hW : V0 (Proc.devRef .tc main_arg4) = A3 (a := 4) (b := 128) (c := 128) W) : res_main_v126 V0 = A3 fun t g _ => rv (fun k => Z t (g * 128 + k)) (fun k => dzn (W g) (tl U (t / 128) g) (tl D (t / 128) g) (t % 128) k * lg k) := by
  funext j
  try idx_vars j
  pointwise [res_main_v126, v58_eq V0 Z hZ, v65_eq V0 Z hZ, v66_eq V0 Z hZ, v115_eq V0 U D lg W hU hD hlg hW]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, div_vr, Fin.sum_univ_one]
  rfl

/-- The gradient before the mean's part. -/
theorem v130_eq (hU : res_main_v3 V0 = A2 U) (hZ : res_main_v4 V0 = A2 Z) (hD : V0 (Proc.devRef .tc main_arg1) = A2 (a := 8192) (b := 512) D) (hlg : V0 (Proc.devRef .tc main_arg2) = A2 (a := 1) (b := 128) fun _ l => lg l) (hW : V0 (Proc.devRef .tc main_arg4) = A3 (a := 4) (b := 128) (c := 128) W) : res_main_v130 V0 = A3 fun t g l => rc (fun k => Z t (g * 128 + k)) (fun k => dzn (W g) (tl U (t / 128) g) (tl D (t / 128) g) (t % 128) k * lg k) l := by
  funext j
  try idx_vars j
  pointwise [res_main_v130, v58_eq V0 Z hZ, v66_eq V0 Z hZ, v115_eq V0 U D lg W hU hD hlg hW, v126_eq V0 U Z D lg W hU hZ hD hlg hW]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  rfl

/-- The gradient of the gated tokens after gelu. -/
theorem v139_eq (hU : res_main_v3 V0 = A2 U) (hZ : res_main_v4 V0 = A2 Z) (hD : V0 (Proc.devRef .tc main_arg1) = A2 (a := 8192) (b := 512) D) (hlg : V0 (Proc.devRef .tc main_arg2) = A2 (a := 1) (b := 128) fun _ l => lg l) (hW : V0 (Proc.devRef .tc main_arg4) = A3 (a := 4) (b := 128) (c := 128) W) : res_main_v139 V0 = A2 fun t c => dgz (fun k => Z t (c / 128 * 128 + k)) (fun k => dzn (W (c / 128)) (tl U (t / 128) (c / 128)) (tl D (t / 128) (c / 128)) (t % 128) k * lg k) (c % 128) := by
  funext j
  try idx_vars j
  pointwise [res_main_v139, v130_eq V0 U Z D lg W hU hZ hD hlg hW]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, Fin.sum_univ_one, ln_ref]

/-- The gradient of the gate after gelu. -/
theorem v152_eq (hZ : res_main_v4 V0 = A2 Z) (hD : V0 (Proc.devRef .tc main_arg1) = A2 (a := 8192) (b := 512) D) (hlg : V0 (Proc.devRef .tc main_arg2) = A2 (a := 1) (b := 128) fun _ l => lg l) (hlb : V0 (Proc.devRef .tc main_arg3) = A2 (a := 1) (b := 128) fun _ l => lb l) (hW : V0 (Proc.devRef .tc main_arg4) = A3 (a := 4) (b := 128) (c := 128) W) (hB : V0 (Proc.devRef .tc main_arg5) = A2 (a := 4) (b := 128) B) : res_main_v152 V0 = A2 fun t c => D t c * mixed lg lb (W (c / 128)) (B (c / 128)) (tl Z (t / 128) (c / 128)) (t % 128) (c % 128) := by
  funext j
  try idx_vars j
  pointwise [res_main_v152, v93_eq V0 D hD, v90_eq V0 Z lg lb W B hZ hlg hlb hW hB]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, Nat.div_add_mod']

end Cert.Sgu
-- ==== Proof.RefResults.lean ====
module

public import proofs.«01_k».proof.Proof.Ref

/-! The reference's results when its arguments hold real numbers. -/

@[expose] public section

set_option maxRecDepth 16384

noncomputable section

namespace Cert.Sgu

open Idealize.ShloMosaic Cert.ReferenceIdeal Cert.ReferenceIdeal.Value

variable (V0 : Valuation τ sig (Elt Ideal)) (U Z D : ℕ → ℕ → ℝ) (lg lb : ℕ → ℝ) (W : ℕ → ℕ → ℕ → ℝ) (B : ℕ → ℕ → ℝ)

/-- The gradient of the gate at a token and a feature. -/
def duR (t c : ℕ) : ℝ := du lg lb (W (c / 128)) (B (c / 128)) (tl Z (t / 128) (c / 128)) (tl U (t / 128) (c / 128)) (tl D (t / 128) (c / 128)) (t % 128) (c % 128)

/-- The gradient of the gated tokens at a token and a feature. -/
def dzR (t c : ℕ) : ℝ := dz lg (W (c / 128)) (tl Z (t / 128) (c / 128)) (tl U (t / 128) (c / 128)) (tl D (t / 128) (c / 128)) (t % 128) (c % 128)

/-- The gradients of the gate and of the gated tokens. -/
theorem ref_uz (hU : res_main_v3 V0 = A2 U) (hZ : res_main_v4 V0 = A2 Z) (hD : V0 (Proc.devRef .tc main_arg1) = A2 (a := 8192) (b := 512) D) (hlg : V0 (Proc.devRef .tc main_arg2) = A2 (a := 1) (b := 128) fun _ l => lg l) (hlb : V0 (Proc.devRef .tc main_arg3) = A2 (a := 1) (b := 128) fun _ l => lb l) (hW : V0 (Proc.devRef .tc main_arg4) = A3 (a := 4) (b := 128) (c := 128) W) (hB : V0 (Proc.devRef .tc main_arg5) = A2 (a := 4) (b := 128) B) : val4 V0 (Proc.devRef .tc main_v180) = (L3 fun k t c => if k < 1 then duR U Z D lg lb W B t c else dzR U Z D lg W t c : FVec Ideal ⟨3, ![2, 8192, 512]⟩ .bf16) := by
  refine (val4_main_v180 V0).trans ?_
  funext j
  try idx_vars j
  pointwise [v152_eq V0 Z D lg lb W B hZ hD hlg hlb hW hB, v27_eq V0 U hU, res_main_v159, v18_eq V0 U hU, v7_eq, hU, v139_eq V0 U Z D lg W hU hZ hD hlg hW, v50_eq V0 Z hZ, res_main_v146, v41_eq V0 Z hZ, v30_eq, hZ]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, gg_ref]
  by_cases h : j0.val < 1
  · simp only [h, dif_pos, if_pos, duR, du, tl, Nat.div_add_mod']
  · simp only [h, dif_neg, if_neg, not_false_iff, dzR, dz, tl_elt, tl_row]

/-- The gradient of the mixing matrices. -/
theorem ref_w (hU : res_main_v3 V0 = A2 U) (hZ : res_main_v4 V0 = A2 Z) (hD : V0 (Proc.devRef .tc main_arg1) = A2 (a := 8192) (b := 512) D) (hlg : V0 (Proc.devRef .tc main_arg2) = A2 (a := 1) (b := 128) fun _ l => lg l) (hlb : V0 (Proc.devRef .tc main_arg3) = A2 (a := 1) (b := 128) fun _ l => lb l) (hW : V0 (Proc.devRef .tc main_arg4) = A3 (a := 4) (b := 128) (c := 128) W) (hB : V0 (Proc.devRef .tc main_arg5) = A2 (a := 4) (b := 128) B) : val4 V0 (Proc.devRef .tc main_v106) = (L3 fun g i j => ∑ n : Fin 64, dw lg lb (tl Z n g) (tl U n g) (tl D n g) i j : FVec Ideal ⟨3, ![4, 128, 128]⟩ .f32) := by
  refine (val4_main_v106 V0).trans ?_
  funext j
  try idx_vars j
  pointwise [v101_eq V0 U D hU hD, v78_eq V0 Z lg lb hZ hlg hlb, v81_eq]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  by_cases h : j2.val ≤ j1.val
  · simp only [dw, h, if_pos, mul_one]
  · simp only [dw, h, if_neg, not_false_iff, mul_zero, Finset.sum_const_zero]

/-- The gradient of the biases. -/
theorem ref_b (hU : res_main_v3 V0 = A2 U) (hZ : res_main_v4 V0 = A2 Z) (hD : V0 (Proc.devRef .tc main_arg1) = A2 (a := 8192) (b := 512) D) (hlg : V0 (Proc.devRef .tc main_arg2) = A2 (a := 1) (b := 128) fun _ l => lg l) (hlb : V0 (Proc.devRef .tc main_arg3) = A2 (a := 1) (b := 128) fun _ l => lb l) (hW : V0 (Proc.devRef .tc main_arg4) = A3 (a := 4) (b := 128) (c := 128) W) (hB : V0 (Proc.devRef .tc main_arg5) = A2 (a := 4) (b := 128) B) : val4 V0 (Proc.devRef .tc main_v182) = (L2 fun i g => if g < 4 then ∑ n : Fin 64, ∑ l : Fin 128, dmx (tl U n g) (tl D n g) i l else 0 : FVec Ideal ⟨2, ![128, 128]⟩ .f32) := by
  refine (val4_main_v182 V0).trans ?_
  funext j
  try idx_vars j
  pointwise [v96_eq V0 U D hU hD]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  by_cases h : j1.val < 4
  · simp only [h, dif_pos, if_pos]
    rw [hostReduce_ends]
    pointwise []
    simp only [Fin.sum_univ_one, hostReduce_ends, L4_ix, coe_sum, zero_add, EReal.coe_zero]
  · simp only [h, dif_neg, if_neg, not_false_iff]
    exact sitofp_zero

/-- The gradient of the scale. -/
theorem ref_lg (hU : res_main_v3 V0 = A2 U) (hZ : res_main_v4 V0 = A2 Z) (hD : V0 (Proc.devRef .tc main_arg1) = A2 (a := 8192) (b := 512) D) (hlg : V0 (Proc.devRef .tc main_arg2) = A2 (a := 1) (b := 128) fun _ l => lg l) (hlb : V0 (Proc.devRef .tc main_arg3) = A2 (a := 1) (b := 128) fun _ l => lb l) (hW : V0 (Proc.devRef .tc main_arg4) = A3 (a := 4) (b := 128) (c := 128) W) (hB : V0 (Proc.devRef .tc main_arg5) = A2 (a := 4) (b := 128) B) : val4 V0 (Proc.devRef .tc main_v183) = (L2 fun _ l => ∑ t : Fin 8192, ∑ g : Fin 4, dzn (W g) (tl U (t / 128) g) (tl D (t / 128) g) (t % 128) l * xh (fun k => Z t (g * 128 + k)) l : FVec Ideal ⟨2, ![1, 128]⟩ .f32) := by
  refine (val4_main_v183 V0).trans ?_
  funext j
  try idx_vars j
  pointwise [v71_eq V0 Z hZ, v107_eq V0 U D W hU hD hW]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite, mul_comm (xh _ _)]
  rw [hostReduce_front]
  pointwise []
  simp only [Fin.sum_univ_one, hostReduce_front, L3_ix, coe_sum, zero_add, EReal.coe_zero]
  pointwise []
  simp only [L3_ix, coe_sum, ← EReal.coe_mul, mul_comm (xh _ _)]

/-- The gradient of the shift. -/
theorem ref_lb (hU : res_main_v3 V0 = A2 U) (hZ : res_main_v4 V0 = A2 Z) (hD : V0 (Proc.devRef .tc main_arg1) = A2 (a := 8192) (b := 512) D) (hlg : V0 (Proc.devRef .tc main_arg2) = A2 (a := 1) (b := 128) fun _ l => lg l) (hlb : V0 (Proc.devRef .tc main_arg3) = A2 (a := 1) (b := 128) fun _ l => lb l) (hW : V0 (Proc.devRef .tc main_arg4) = A3 (a := 4) (b := 128) (c := 128) W) (hB : V0 (Proc.devRef .tc main_arg5) = A2 (a := 4) (b := 128) B) : val4 V0 (Proc.devRef .tc main_v184) = (L2 fun _ l => ∑ t : Fin 8192, ∑ g : Fin 4, dzn (W g) (tl U (t / 128) g) (tl D (t / 128) g) (t % 128) l : FVec Ideal ⟨2, ![1, 128]⟩ .f32) := by
  refine (val4_main_v184 V0).trans ?_
  funext j
  try idx_vars j
  pointwise [v107_eq V0 U D W hU hD hW]
  simp only [L2_ix, L3_ix, L4_ix, bits_half, bits_c0, bits_eps, bits_128, bits_3, bits_neg_half, bits_44715, bits_million, div_g1, tanh_real, div_128,
    sel_causal, zero_add, coe_sum, ← EReal.coe_one, ← EReal.coe_zero, ← EReal.coe_mul, ← EReal.coe_add, ← EReal.coe_sub, ← EReal.coe_neg, coe_ite]
  rw [hostReduce_front]
  pointwise []
  simp only [Fin.sum_univ_one, hostReduce_front, L3_ix, coe_sum, zero_add, EReal.coe_zero]

/-- The gradient of the output weights. -/
theorem ref_o (gr dm : FVec Ideal ⟨2, ![8192, 1024]⟩ .bf16) (hgr : V0 (Proc.devRef .tc main_arg6) = gr) (hdm : V0 (Proc.devRef .tc main_arg7) = dm) : val4 V0 (Proc.devRef .tc main_v170) = (fun i => ∑ t : Fin 8192, gr (ix2 t (i 0)) * dm (ix2 t (i 1)) : FVec Ideal ⟨2, ![1024, 1024]⟩ .f32) := by
  refine (val4_main_v170 V0).trans ?_
  funext j
  try idx_vars j
  pointwise [res_main_v166, hgr, hdm]
  exact Finset.sum_congr rfl fun t _ => mul_comm _ _

/-- A row of the lower half counted from the half's start. -/
theorem low_row (i : (⟨2, ![5632, 1024]⟩ : Shape).Idx) : (i 0).val - 2816 < 2816 := by
  have h : (i 0).val < 5632 := (i 0).isLt
  omega

/-- The projection's gradient: the gate's half as given, the other half a product over the tokens. -/
def projR (dp : FVec Ideal ⟨2, ![8192, 2816]⟩ .bf16) (ff : FVec Ideal ⟨2, ![8192, 1024]⟩ .bf16) (gu : FVec Ideal ⟨2, ![5632, 1024]⟩ .f32) :
    FVec Ideal ⟨2, ![5632, 1024]⟩ .f32 :=
  fun i => if (i 0).val < 2816 then gu i else ∑ t : Fin 8192, dp (ix2 t ⟨(i 0).val - 2816, low_row i⟩) * ff (ix2 t (i 1))

/-- The gradient of the projection's weights. -/
theorem ref_p (dp : FVec Ideal ⟨2, ![8192, 2816]⟩ .bf16) (ff : FVec Ideal ⟨2, ![8192, 1024]⟩ .bf16) (gu : FVec Ideal ⟨2, ![5632, 1024]⟩ .f32) (hdp : V0 (Proc.devRef .tc main_arg8) = dp) (hff : V0 (Proc.devRef .tc main_arg9) = ff) (hgu : V0 (Proc.devRef .tc main_arg10) = gu) : val4 V0 (Proc.devRef .tc main_v187) = (projR dp ff gu : FVec Ideal ⟨2, ![5632, 1024]⟩ .f32) := by
  refine (val4_main_v187 V0).trans ?_
  funext j
  try idx_vars j
  pointwise [res_main_v172, hdp, hff, hgu]
  unfold projR
  by_cases h : j0.val < 2816
  · rw [dif_pos h]; exact (if_pos h).symm
  · rw [dif_neg h]; exact (if_neg h).symm

end Cert.Sgu
-- ==== Proof.Point.lean ====
module

public import proofs.«01_k».proof.Proof.Tile
public import proofs.«01_k».proof.Proof.RefResults
public import proofs.«01_k».proof.Proof.Gen.KernelIdeal.Frame
public import Idealize.ShloMosaic.Lib.Pipeline.ValueKit
public import Idealize.ShloMosaic.Lib.Pipeline.ReadBack

/-! What one grid point reads, and lemmas for opening what it writes. -/

@[expose] public section

set_option maxRecDepth 16384
set_option maxHeartbeats 4000000

noncomputable section

namespace Cert.Sgu

open Idealize.ShloMosaic Cert.KernelIdeal Cert.KernelIdeal.Gen

/-- A write over an older write of the same rectangle hides it. -/
theorem overlay_overlay {s : Shape} {α : Type} (r : Rect s) (p q : r.shape.Idx → α) (X : s.Idx → α) :
    r.overlay (r.overlay X q) p = r.overlay X p := by
  funext y
  unfold Rect.overlay
  cases preimage? r.emb y <;> rfl

/-- A write over older ones is the canon of the longer list. -/
theorem overlay_canon {Val : EltTy → Type} [∀ e, Nonempty (Val e)] {s : Shape} {e : EltTy} (r : Rect s) (p : r.shape.Idx → Val e)
    (L : List (View.Piece Val s e)) : r.overlay (View.canon L) p = View.canon (⟨r, p⟩ :: L) := rfl

/-- A tile loaded from a matrix of real numbers. -/
theorem ld2 {a b r c n k : ℕ} (f : ℕ → ℕ → ℝ) (h) :
    View.ld (Val := Elt Ideal) (e' := .f32) (A2 (a := a) (b := b) f) (Rect.unit (s := ⟨2, ![a, b]⟩) ![r, c] ![n, k] h)
      = (A2 fun i l => f (r + i) (c + l) : FVec Ideal ⟨2, ![n, k]⟩ .f32) := by
  funext j
  change ((f ((Rect.unit (s := ⟨2, ![a, b]⟩) ![r, c] ![n, k] h).emb j 0).val ((Rect.unit (s := ⟨2, ![a, b]⟩) ![r, c] ![n, k] h).emb j 1).val : ℝ) : EReal) = _
  rw [ValueKit.rect_emb_unit_val, ValueKit.rect_emb_unit_val]
  rfl

/-- A member loaded from a stack of matrices of real numbers. -/
theorem ld3 {g : ℕ} (f : ℕ → ℕ → ℕ → ℝ) (h) :
    View.ld (Val := Elt Ideal) (e' := .f32) (A3 (a := 4) (b := 128) (c := 128) f) (Rect.unit (s := ⟨3, ![4, 128, 128]⟩) ![g, 0, 0] ![1, 128, 128] h)
      = (A3 fun _ => f g : FVec Ideal ⟨3, ![1, 128, 128]⟩ .f32) := by
  funext j
  idx_vars j
  pointwise [View.ld]
  rfl

/-- A tile's values, as a loaded vector. -/
@[irreducible] def TT (X : ℕ → ℕ → ℝ) (n g : ℕ) : FVec Ideal S128x128 .f32 := T32 (tl X n g)

/-- A row's values, as a loaded vector. -/
@[irreducible] def RR (f : ℕ → ℝ) : FVec Ideal S1x128 .f32 := R32 f

/-- A stack member's values, as a loaded vector. -/
@[irreducible] def SS (f : ℕ → ℕ → ℕ → ℝ) (g : ℕ) : FVec Ideal S1x128x128 .f32 := S32 (f g)

/-- A column's values, as a loaded vector. -/
@[irreducible] def CC (f : ℕ → ℕ → ℝ) (g : ℕ) : FVec Ideal S128x1 .f32 := C32 (f g)

theorem ldt_0_0 (f : ℕ → ℕ → ℝ) (h) : View.ld (Val := Elt Ideal) (e' := .f32) (A2 (a := 512) (b := 512) f)
    (Rect.unit (s := ⟨2, ![512, 512]⟩) ![0, 0] ![128, 128] h) = TT f 0 0 := by
  rw [ld2]; unfold TT tl; rfl
theorem ldt_0_1 (f : ℕ → ℕ → ℝ) (h) : View.ld (Val := Elt Ideal) (e' := .f32) (A2 (a := 512) (b := 512) f)
    (Rect.unit (s := ⟨2, ![512, 512]⟩) ![0, 128] ![128, 128] h) = TT f 0 1 := by
  rw [ld2]; unfold TT tl; rfl
theorem ldt_0_2 (f : ℕ → ℕ → ℝ) (h) : View.ld (Val := Elt Ideal) (e' := .f32) (A2 (a := 512) (b := 512) f)
    (Rect.unit (s := ⟨2, ![512, 512]⟩) ![0, 256] ![128, 128] h) = TT f 0 2 := by
  rw [ld2]; unfold TT tl; rfl
theorem ldt_0_3 (f : ℕ → ℕ → ℝ) (h) : View.ld (Val := Elt Ideal) (e' := .f32) (A2 (a := 512) (b := 512) f)
    (Rect.unit (s := ⟨2, ![512, 512]⟩) ![0, 384] ![128, 128] h) = TT f 0 3 := by
  rw [ld2]; unfold TT tl; rfl
theorem ldt_1_0 (f : ℕ → ℕ → ℝ) (h) : View.ld (Val := Elt Ideal) (e' := .f32) (A2 (a := 512) (b := 512) f)
    (Rect.unit (s := ⟨2, ![512, 512]⟩) ![128, 0] ![128, 128] h) = TT f 1 0 := by
  rw [ld2]; unfold TT tl; rfl
theorem ldt_1_1 (f : ℕ → ℕ → ℝ) (h) : View.ld (Val := Elt Ideal) (e' := .f32) (A2 (a := 512) (b := 512) f)
    (Rect.unit (s := ⟨2, ![512, 512]⟩) ![128, 128] ![128, 128] h) = TT f 1 1 := by
  rw [ld2]; unfold TT tl; rfl
theorem ldt_1_2 (f : ℕ → ℕ → ℝ) (h) : View.ld (Val := Elt Ideal) (e' := .f32) (A2 (a := 512) (b := 512) f)
    (Rect.unit (s := ⟨2, ![512, 512]⟩) ![128, 256] ![128, 128] h) = TT f 1 2 := by
  rw [ld2]; unfold TT tl; rfl
theorem ldt_1_3 (f : ℕ → ℕ → ℝ) (h) : View.ld (Val := Elt Ideal) (e' := .f32) (A2 (a := 512) (b := 512) f)
    (Rect.unit (s := ⟨2, ![512, 512]⟩) ![128, 384] ![128, 128] h) = TT f 1 3 := by
  rw [ld2]; unfold TT tl; rfl
theorem ldt_2_0 (f : ℕ → ℕ → ℝ) (h) : View.ld (Val := Elt Ideal) (e' := .f32) (A2 (a := 512) (b := 512) f)
    (Rect.unit (s := ⟨2, ![512, 512]⟩) ![256, 0] ![128, 128] h) = TT f 2 0 := by
  rw [ld2]; unfold TT tl; rfl
theorem ldt_2_1 (f : ℕ → ℕ → ℝ) (h) : View.ld (Val := Elt Ideal) (e' := .f32) (A2 (a := 512) (b := 512) f)
    (Rect.unit (s := ⟨2, ![512, 512]⟩) ![256, 128] ![128, 128] h) = TT f 2 1 := by
  rw [ld2]; unfold TT tl; rfl
theorem ldt_2_2 (f : ℕ → ℕ → ℝ) (h) : View.ld (Val := Elt Ideal) (e' := .f32) (A2 (a := 512) (b := 512) f)
    (Rect.unit (s := ⟨2, ![512, 512]⟩) ![256, 256] ![128, 128] h) = TT f 2 2 := by
  rw [ld2]; unfold TT tl; rfl
theorem ldt_2_3 (f : ℕ → ℕ → ℝ) (h) : View.ld (Val := Elt Ideal) (e' := .f32) (A2 (a := 512) (b := 512) f)
    (Rect.unit (s := ⟨2, ![512, 512]⟩) ![256, 384] ![128, 128] h) = TT f 2 3 := by
  rw [ld2]; unfold TT tl; rfl
theorem ldt_3_0 (f : ℕ → ℕ → ℝ) (h) : View.ld (Val := Elt Ideal) (e' := .f32) (A2 (a := 512) (b := 512) f)
    (Rect.unit (s := ⟨2, ![512, 512]⟩) ![384, 0] ![128, 128] h) = TT f 3 0 := by
  rw [ld2]; unfold TT tl; rfl
theorem ldt_3_1 (f : ℕ → ℕ → ℝ) (h) : View.ld (Val := Elt Ideal) (e' := .f32) (A2 (a := 512) (b := 512) f)
    (Rect.unit (s := ⟨2, ![512, 512]⟩) ![384, 128] ![128, 128] h) = TT f 3 1 := by
  rw [ld2]; unfold TT tl; rfl
theorem ldt_3_2 (f : ℕ → ℕ → ℝ) (h) : View.ld (Val := Elt Ideal) (e' := .f32) (A2 (a := 512) (b := 512) f)
    (Rect.unit (s := ⟨2, ![512, 512]⟩) ![384, 256] ![128, 128] h) = TT f 3 2 := by
  rw [ld2]; unfold TT tl; rfl
theorem ldt_3_3 (f : ℕ → ℕ → ℝ) (h) : View.ld (Val := Elt Ideal) (e' := .f32) (A2 (a := 512) (b := 512) f)
    (Rect.unit (s := ⟨2, ![512, 512]⟩) ![384, 384] ![128, 128] h) = TT f 3 3 := by
  rw [ld2]; unfold TT tl; rfl
theorem lds_0 (f : ℕ → ℕ → ℕ → ℝ) (h) : View.ld (Val := Elt Ideal) (e' := .f32) (A3 (a := 4) (b := 128) (c := 128) f)
    (Rect.unit (s := ⟨3, ![4, 128, 128]⟩) ![0, 0, 0] ![1, 128, 128] h) = SS f 0 := by
  rw [ld3]; unfold SS; rfl
theorem ldc_0 (f : ℕ → ℕ → ℝ) (h) : View.ld (Val := Elt Ideal) (e' := .f32) (A2 (a := 128) (b := 128) fun i g => f g i)
    (Rect.unit (s := ⟨2, ![128, 128]⟩) ![0, 0] ![128, 1] h) = CC f 0 := by
  rw [ld2]; unfold CC; funext j; idx_vars j; simp only [L2_ix, Nat.zero_add, Fin.val_eq_zero, Nat.add_zero]
theorem lds_1 (f : ℕ → ℕ → ℕ → ℝ) (h) : View.ld (Val := Elt Ideal) (e' := .f32) (A3 (a := 4) (b := 128) (c := 128) f)
    (Rect.unit (s := ⟨3, ![4, 128, 128]⟩) ![1, 0, 0] ![1, 128, 128] h) = SS f 1 := by
  rw [ld3]; unfold SS; rfl
theorem ldc_1 (f : ℕ → ℕ → ℝ) (h) : View.ld (Val := Elt Ideal) (e' := .f32) (A2 (a := 128) (b := 128) fun i g => f g i)
    (Rect.unit (s := ⟨2, ![128, 128]⟩) ![0, 1] ![128, 1] h) = CC f 1 := by
  rw [ld2]; unfold CC; funext j; idx_vars j; simp only [L2_ix, Nat.zero_add, Fin.val_eq_zero, Nat.add_zero]
theorem lds_2 (f : ℕ → ℕ → ℕ → ℝ) (h) : View.ld (Val := Elt Ideal) (e' := .f32) (A3 (a := 4) (b := 128) (c := 128) f)
    (Rect.unit (s := ⟨3, ![4, 128, 128]⟩) ![2, 0, 0] ![1, 128, 128] h) = SS f 2 := by
  rw [ld3]; unfold SS; rfl
theorem ldc_2 (f : ℕ → ℕ → ℝ) (h) : View.ld (Val := Elt Ideal) (e' := .f32) (A2 (a := 128) (b := 128) fun i g => f g i)
    (Rect.unit (s := ⟨2, ![128, 128]⟩) ![0, 2] ![128, 1] h) = CC f 2 := by
  rw [ld2]; unfold CC; funext j; idx_vars j; simp only [L2_ix, Nat.zero_add, Fin.val_eq_zero, Nat.add_zero]
theorem lds_3 (f : ℕ → ℕ → ℕ → ℝ) (h) : View.ld (Val := Elt Ideal) (e' := .f32) (A3 (a := 4) (b := 128) (c := 128) f)
    (Rect.unit (s := ⟨3, ![4, 128, 128]⟩) ![3, 0, 0] ![1, 128, 128] h) = SS f 3 := by
  rw [ld3]; unfold SS; rfl
theorem ldc_3 (f : ℕ → ℕ → ℝ) (h) : View.ld (Val := Elt Ideal) (e' := .f32) (A2 (a := 128) (b := 128) fun i g => f g i)
    (Rect.unit (s := ⟨2, ![128, 128]⟩) ![0, 3] ![128, 1] h) = CC f 3 := by
  rw [ld2]; unfold CC; funext j; idx_vars j; simp only [L2_ix, Nat.zero_add, Fin.val_eq_zero, Nat.add_zero]
theorem R32_RR (f : ℕ → ℝ) : R32 f = RR f := by unfold RR; rfl

section
variable (lg lb : ℕ → ℝ) (W : ℕ → ℕ → ℕ → ℝ) (B z u d : ℕ → ℕ → ℝ) (n g : ℕ)

theorem DU_t : DU (RR lg) (RR lb) (SS W g) (TT z n g) (TT u n g) (TT d n g) (CC B g)
    = S16 fun i l => du lg lb (W g) (B g) (tl z n g) (tl u n g) (tl d n g) i l := by
  unfold RR SS TT CC; exact DU_eq ..
theorem DZ_t : DZ (RR lg) (SS W g) (TT z n g) (TT u n g) (TT d n g)
    = S16 fun i l => dz lg (W g) (tl z n g) (tl u n g) (tl d n g) i l := by
  unfold RR SS TT; exact DZ_eq ..
end

theorem SS_S32 (f : ℕ → ℕ → ℕ → ℝ) (g : ℕ) : SS f g = S32 (f g) := by unfold SS; rfl

section
variable (lg lb : ℕ → ℝ) (W : ℕ → ℕ → ℕ → ℝ) (z u d : ℕ → ℕ → ℝ) (n g : ℕ)

theorem DW_t (a : ℕ → ℕ → ℝ) : DW (RR lg) (RR lb) (TT z n g) (TT u n g) (TT d n g) (S32 a)
    = S32 fun i j => a i j + dw lg lb (tl z n g) (tl u n g) (tl d n g) i j := by
  unfold RR TT; exact DW_eq ..
theorem DB_t (a : ℕ → ℕ → ℝ) : DB (TT u n g) (TT d n g) (S32 a) = S32 fun i l => a i l + dmx (tl u n g) (tl d n g) i l := by
  unfold TT; exact DB_eq ..
theorem DLG_t (a : ℕ → ℝ) : DLG (SS W g) (TT z n g) (TT u n g) (TT d n g) (R32 a)
    = R32 fun l => a l + dlg (W g) (tl z n g) (tl u n g) (tl d n g) l := by
  unfold SS TT; exact DLG_eq ..
theorem DLB_t (a : ℕ → ℝ) : DLB (SS W g) (TT u n g) (TT d n g) (R32 a)
    = R32 fun l => a l + dlb (W g) (tl u n g) (tl d n g) l := by
  unfold SS TT; exact DLB_eq ..

/-- A grid point's additions to the mixing matrices' gradient. -/
def wAcc (P : ℕ → ℕ → ℕ → ℝ) (g i j : ℕ) : ℝ := P g i j
  + dw lg lb (tl z 0 g) (tl u 0 g) (tl d 0 g) i j
  + dw lg lb (tl z 1 g) (tl u 1 g) (tl d 1 g) i j
  + dw lg lb (tl z 2 g) (tl u 2 g) (tl d 2 g) i j
  + dw lg lb (tl z 3 g) (tl u 3 g) (tl d 3 g) i j

/-- A grid point's additions to the biases' gradient before the row sums. -/
def bAcc (P : ℕ → ℕ → ℕ → ℝ) (g i l : ℕ) : ℝ := P g i l
  + dmx (tl u 0 g) (tl d 0 g) i l
  + dmx (tl u 1 g) (tl d 1 g) i l
  + dmx (tl u 2 g) (tl d 2 g) i l
  + dmx (tl u 3 g) (tl d 3 g) i l

/-- A grid point's additions to the scale's gradient. -/
def lgAcc (P : ℕ → ℝ) (l : ℕ) : ℝ := P l
  + dlg (W 0) (tl z 0 0) (tl u 0 0) (tl d 0 0) l
  + dlg (W 0) (tl z 1 0) (tl u 1 0) (tl d 1 0) l
  + dlg (W 0) (tl z 2 0) (tl u 2 0) (tl d 2 0) l
  + dlg (W 0) (tl z 3 0) (tl u 3 0) (tl d 3 0) l
  + dlg (W 1) (tl z 0 1) (tl u 0 1) (tl d 0 1) l
  + dlg (W 1) (tl z 1 1) (tl u 1 1) (tl d 1 1) l
  + dlg (W 1) (tl z 2 1) (tl u 2 1) (tl d 2 1) l
  + dlg (W 1) (tl z 3 1) (tl u 3 1) (tl d 3 1) l
  + dlg (W 2) (tl z 0 2) (tl u 0 2) (tl d 0 2) l
  + dlg (W 2) (tl z 1 2) (tl u 1 2) (tl d 1 2) l
  + dlg (W 2) (tl z 2 2) (tl u 2 2) (tl d 2 2) l
  + dlg (W 2) (tl z 3 2) (tl u 3 2) (tl d 3 2) l
  + dlg (W 3) (tl z 0 3) (tl u 0 3) (tl d 0 3) l
  + dlg (W 3) (tl z 1 3) (tl u 1 3) (tl d 1 3) l
  + dlg (W 3) (tl z 2 3) (tl u 2 3) (tl d 2 3) l
  + dlg (W 3) (tl z 3 3) (tl u 3 3) (tl d 3 3) l

/-- A grid point's additions to the shift's gradient. -/
def lbAcc (P : ℕ → ℝ) (l : ℕ) : ℝ := P l
  + dlb (W 0) (tl u 0 0) (tl d 0 0) l
  + dlb (W 0) (tl u 1 0) (tl d 1 0) l
  + dlb (W 0) (tl u 2 0) (tl d 2 0) l
  + dlb (W 0) (tl u 3 0) (tl d 3 0) l
  + dlb (W 1) (tl u 0 1) (tl d 0 1) l
  + dlb (W 1) (tl u 1 1) (tl d 1 1) l
  + dlb (W 1) (tl u 2 1) (tl d 2 1) l
  + dlb (W 1) (tl u 3 1) (tl d 3 1) l
  + dlb (W 2) (tl u 0 2) (tl d 0 2) l
  + dlb (W 2) (tl u 1 2) (tl d 1 2) l
  + dlb (W 2) (tl u 2 2) (tl d 2 2) l
  + dlb (W 2) (tl u 3 2) (tl d 3 2) l
  + dlb (W 3) (tl u 0 3) (tl d 0 3) l
  + dlb (W 3) (tl u 1 3) (tl d 1 3) l
  + dlb (W 3) (tl u 2 3) (tl d 2 3) l
  + dlb (W 3) (tl u 3 3) (tl d 3 3) l
end

theorem zero_stack (h) : shapeCast S4x128x128 (broadcast S4x128x128 (FloatOps.ofBits (F := Ideal) .f32 0#32)) h
    = (A3 fun _ _ _ => 0 : FVec Ideal S4x128x128 .f32) := by
  funext j
  idx_vars j
  pointwise []
  simp only [L3_ix]
  exact EReal.coe_zero.symm

theorem zero_row (h) : shapeCast S1x128 (broadcast S1x128 (FloatOps.ofBits (F := Ideal) .f32 0#32)) h
    = (R32 fun _ => 0 : FVec Ideal S1x128 .f32) := by
  funext j
  idx_vars j
  pointwise []
  simp only [L2_ix]
  exact EReal.coe_zero.symm

theorem canon_skip {Val : EltTy → Type} [∀ e, Nonempty (Val e)] {s : Shape} {e : EltTy} (r : Rect s) (w : r.shape.Idx → Val e)
    (L : List (View.Piece Val s e)) {y : s.Idx} (h : y ∉ r.set) : View.canon (⟨r, w⟩ :: L) y = View.canon L y :=
  View.canon_cons_of_not_mem ⟨r, w⟩ L h

theorem stack_emb (g : ℕ) (h) (y : S4x128x128.Idx) (e : (y 0).val = g) :
    y = (Rect.unit (s := S4x128x128) ![g, 0, 0] ![1, 128, 128] h).emb (ix3 (0 : Fin 1) (y 1 : Fin 128) (y 2 : Fin 128) : S1x128x128.Idx) := by
  funext k
  apply Fin.ext
  rw [ValueKit.rect_emb_unit_val]
  match k with
  | 0 => exact e
  | 1 => exact (Nat.zero_add _).symm
  | 2 => exact (Nat.zero_add _).symm

theorem stack_not_mem (g : ℕ) (h) (y : S4x128x128.Idx) (e : ¬ (y 0).val = g) :
    y ∉ (Rect.unit (s := S4x128x128) ![g, 0, 0] ![1, 128, 128] h).set := by
  intro hm
  have hk := (Rect.mem_set_unit.mp hm) 0
  have hl : g ≤ (y 0).val := hk.1
  have hr : (y 0).val < g + 1 := hk.2
  omega

/-- Four stored members make up the stack, whatever was stored before. -/
theorem canon4 (p3 p2 p1 p0 : FVec Ideal S1x128x128 .f32) (L) (f : ℕ → ℕ → ℕ → ℝ) (h3 h2 h1 h0)
    (e3 : p3 = S32 (f 3)) (e2 : p2 = S32 (f 2)) (e1 : p1 = S32 (f 1)) (e0 : p0 = S32 (f 0)) :
    View.canon (Val := Elt Ideal) (s := S4x128x128) (e := .f32) (⟨Rect.unit (s := S4x128x128) ![3, 0, 0] ![1, 128, 128] h3, p3⟩
      :: ⟨Rect.unit (s := S4x128x128) ![2, 0, 0] ![1, 128, 128] h2, p2⟩ :: ⟨Rect.unit (s := S4x128x128) ![1, 0, 0] ![1, 128, 128] h1, p1⟩
      :: ⟨Rect.unit (s := S4x128x128) ![0, 0, 0] ![1, 128, 128] h0, p0⟩ :: L) = (A3 f : FVec Ideal S4x128x128 .f32) := by
  subst e3 e2 e1 e0
  funext y
  have hy : (y 0).val < 4 := (y 0).isLt
  by_cases y3 : (y 0).val = 3
  · refine (congrArg (View.canon _) (stack_emb 3 h3 y y3)).trans ((View.canon_cons_emb _ _ _ _).trans ?_)
    exact congrArg (fun k : ℕ => ((f k (y 1).val (y 2).val : ℝ) : EReal)) y3.symm
  refine (canon_skip _ _ _ (stack_not_mem 3 h3 y y3)).trans ?_
  by_cases y2 : (y 0).val = 2
  · refine (congrArg (View.canon _) (stack_emb 2 h2 y y2)).trans ((View.canon_cons_emb _ _ _ _).trans ?_)
    exact congrArg (fun k : ℕ => ((f k (y 1).val (y 2).val : ℝ) : EReal)) y2.symm
  refine (canon_skip _ _ _ (stack_not_mem 2 h2 y y2)).trans ?_
  by_cases y1 : (y 0).val = 1
  · refine (congrArg (View.canon _) (stack_emb 1 h1 y y1)).trans ((View.canon_cons_emb _ _ _ _).trans ?_)
    exact congrArg (fun k : ℕ => ((f k (y 1).val (y 2).val : ℝ) : EReal)) y1.symm
  refine (canon_skip _ _ _ (stack_not_mem 1 h1 y y1)).trans ?_
  have y0 : (y 0).val = 0 := by omega
  refine (congrArg (View.canon _) (stack_emb 0 h0 y y0)).trans ((View.canon_cons_emb _ _ _ _).trans ?_)
  exact congrArg (fun k : ℕ => ((f k (y 1).val (y 2).val : ℝ) : EReal)) y0.symm

variable (m : (ℓ : Loc nD τ sig) → Buf (Elt Ideal) ℓ) (c : Dev nD) (t : Fin cfg0.N)
  (u z d : ℕ → ℕ → ℝ) (lg lb : ℕ → ℝ) (W : ℕ → ℕ → ℕ → ℝ) (B : ℕ → ℕ → ℝ)

/-- The real numbers one grid point's blocks hold. -/
structure Blocks : Prop where
  hu : iblk m c 0 t = (A2 u : FVec Ideal S512x512 .f32)
  hz : iblk m c 1 t = (A2 z : FVec Ideal S512x512 .f32)
  hd : iblk m c 2 t = (A2 d : FVec Ideal S512x512 .f32)
  hlg : iblk m c 3 t = (R32 lg : FVec Ideal S1x128 .f32)
  hlb : iblk m c 4 t = (R32 lb : FVec Ideal S1x128 .f32)
  hW : iblk m c 5 t = (A3 W : FVec Ideal S4x128x128 .f32)
  hB : iblk m c 6 t = (A2 fun i g => B g i : FVec Ideal S128x128 .f32)

variable {u z d lg lb W B}

theorem duR_at (n g i l : ℕ) (hi : i < 128) (hl : l < 128) :
    duR u z d lg lb W B (n * 128 + i) (g * 128 + l) = du lg lb (W g) (B g) (tl z n g) (tl u n g) (tl d n g) i l := by
  unfold duR
  rw [show (n * 128 + i) / 128 = n by omega, show (n * 128 + i) % 128 = i by omega, show (g * 128 + l) / 128 = g by omega,
    show (g * 128 + l) % 128 = l by omega]

theorem dzR_at (n g i l : ℕ) (hi : i < 128) (hl : l < 128) :
    dzR u z d lg W (n * 128 + i) (g * 128 + l) = dz lg (W g) (tl z n g) (tl u n g) (tl d n g) i l := by
  unfold dzR
  rw [show (n * 128 + i) / 128 = n by omega, show (n * 128 + i) % 128 = i by omega, show (g * 128 + l) / 128 = g by omega,
    show (g * 128 + l) % 128 = l by omega]

/-- A stored tile of the gate's gradient at its place in the block. -/
theorem du_ix (n g : ℕ) (x : S1x128x128.Idx) (y : S2x512x512.Idx) (h0 : (y 0).val = (x 0).val) (h1 : (y 1).val = n * 128 + (x 1).val)
    (h2 : (y 2).val = g * 128 + (x 2).val) :
    (S16 fun i l => du lg lb (W g) (B g) (tl z n g) (tl u n g) (tl d n g) i l) x
      = (L3 fun k i l => if k < 1 then duR u z d lg lb W B i l else dzR u z d lg W i l : FVec Ideal S2x512x512 .bf16) y := by
  have hx0 : (x 0).val < 1 := (x 0).isLt
  have hx1 : (x 1).val < 128 := (x 1).isLt
  have hx2 : (x 2).val < 128 := (x 2).isLt
  change ((_ : ℝ) : EReal) = ((if (y 0).val < 1 then duR u z d lg lb W B (y 1).val (y 2).val else dzR u z d lg W (y 1).val (y 2).val : ℝ) : EReal)
  rw [h0, h1, h2, if_pos hx0, duR_at _ _ _ _ hx1 hx2]

/-- A stored tile of the gated tokens' gradient at its place in the block. -/
theorem dz_ix (n g : ℕ) (x : S1x128x128.Idx) (y : S2x512x512.Idx) (h0 : (y 0).val = 1 + (x 0).val) (h1 : (y 1).val = n * 128 + (x 1).val)
    (h2 : (y 2).val = g * 128 + (x 2).val) :
    (S16 fun i l => dz lg (W g) (tl z n g) (tl u n g) (tl d n g) i l) x
      = (L3 fun k i l => if k < 1 then duR u z d lg lb W B i l else dzR u z d lg W i l : FVec Ideal S2x512x512 .bf16) y := by
  have hx1 : (x 1).val < 128 := (x 1).isLt
  have hx2 : (x 2).val < 128 := (x 2).isLt
  change ((_ : ℝ) : EReal) = ((if (y 0).val < 1 then duR u z d lg lb W B (y 1).val (y 2).val else dzR u z d lg W (y 1).val (y 2).val : ℝ) : EReal)
  rw [h0, h1, h2, if_neg (by omega), dzR_at _ _ _ _ hx1 hx2]

end Cert.Sgu
-- ==== Proof.Inputs.lean ====
module

public import proofs.«01_k».proof.Proof.Point
public import proofs.«01_k».proof.Proof.Gen.KernelIdeal.Value

/-! The blocks the grid points read, in terms of the arguments. -/

@[expose] public section

set_option maxRecDepth 16384

noncomputable section

namespace Cert.Sgu

open Idealize.ShloMosaic Cert.KernelIdeal Cert.KernelIdeal.Gen

variable (m : (ℓ : Loc nD τ sig) → Buf (Elt Ideal) ℓ) (c : Dev nD)
  (U Z D : ℕ → ℕ → ℝ) (lg lb : ℕ → ℝ) (W : ℕ → ℕ → ℕ → ℝ) (B : ℕ → ℕ → ℝ)

/-- The real numbers that the gating unit's arguments hold. -/
structure Args : Prop where
  hU : ∀ (t : Fin 8192) (k : Fin 512), (m ((c.tc : Thread nD τ).loc main_arg0) : FVec Ideal S8192x2560 .f32) (ix2 t ⟨1536 + k.val, by omega⟩) = ((U t k : ℝ) : EReal)
  hZ : ∀ (t : Fin 8192) (k : Fin 512), (m ((c.tc : Thread nD τ).loc main_arg0) : FVec Ideal S8192x2560 .f32) (ix2 t ⟨2048 + k.val, by omega⟩) = ((Z t k : ℝ) : EReal)
  hD : m ((c.tc : Thread nD τ).loc main_arg1) = (A2 D : FVec Ideal S8192x512 .f32)
  hlg : m ((c.tc : Thread nD τ).loc main_arg2) = (R32 lg : FVec Ideal S1x128 .f32)
  hlb : m ((c.tc : Thread nD τ).loc main_arg3) = (R32 lb : FVec Ideal S1x128 .f32)
  hW : m ((c.tc : Thread nD τ).loc main_arg4) = (A3 W : FVec Ideal S4x128x128 .f32)
  hB : m ((c.tc : Thread nD τ).loc main_arg5) = (A2 B : FVec Ideal S4x128 .f32)

theorem idx : ∀ t, win0_0.index t = ![t.val, 3] ∧ win0_1.index t = ![t.val, 4] ∧ win0_2.index t = ![t.val, 0] ∧ win0_3.index t = ![0, 0]
    ∧ win0_4.index t = ![0, 0] ∧ win0_5.index t = ![0, 0, 0] ∧ win0_6.index t = ![0, 0] ∧ win0_7.index t = ![t.val, 0]
    ∧ win0_8.index t = ![t.val, 0] ∧ win0_9.index t = ![t.val, 0] ∧ win0_10.index t = ![t.val, 0] := by
  decide +kernel

theorem N16 (t : Fin cfg0.N) : t.val < 16 := lt_of_lt_of_eq t.isLt N_0

/-- The biases as the host transposes and pads them. -/
theorem V_v1 : V m c main_v1 = pad (α := Ideal .f32) S128x128 ![0, 0] ![0, 124] ![0, 0]
    (transpose S128x4 [1, 0] (m ((c.tc : Thread nD τ).loc main_arg5) : FVec Ideal S4x128 .f32) transposes_S4x128_S128x4_1_0)
    (sitofp (F := Ideal) .f32 (constantI S_ 32 0#32)) pads_S128x4_S128x128_000_01240 h_S_ := by
  unfold V
  simp only [hostOps0, hostOps0_1, hostOps0_2, List.flatten_cons, List.flatten_nil, List.append_nil, List.cons_append,
      List.nil_append, StableHlo.after_cons, StableHlo.after_nil]
  rfl

variable {m c U Z D lg lb W B}

/-- What a grid point reads of the gating unit's arguments. -/
theorem blocks (h : Args m c U Z D lg lb W B) (t : Fin cfg0.N) :
    Blocks m c t (fun i l => U (t.val * 512 + i) l) (fun i l => Z (t.val * 512 + i) l) (fun i l => D (t.val * 512 + i) l)
      lg lb W (fun g i => if g < 4 then B g i else 0) where
  hu := by
    funext y
    idx_vars y
    have := N16 t
    refine Eq.trans ?_ (h.hU ⟨t.val * 512 + y0.val, by omega⟩ y1)
    blk_ext [iblk, V, idx t]
  hz := by
    funext y
    idx_vars y
    have := N16 t
    refine Eq.trans ?_ (h.hZ ⟨t.val * 512 + y0.val, by omega⟩ y1)
    blk_ext [iblk, V, idx t]
  hd := by
    funext y
    idx_vars y
    have := N16 t
    refine Eq.trans ?_ (congrFun h.hD (ix2 ⟨t.val * 512 + y0.val, by omega⟩ y1))
    blk_ext [iblk, V, idx t]
  hlg := by
    funext y
    idx_vars y
    refine Eq.trans ?_ (congrFun h.hlg (ix2 y0 y1))
    blk_ext [iblk, V, idx t]
  hlb := by
    funext y
    idx_vars y
    refine Eq.trans ?_ (congrFun h.hlb (ix2 y0 y1))
    blk_ext [iblk, V, idx t]
  hW := by
    funext y
    idx_vars y
    refine Eq.trans ?_ (congrFun h.hW (ix3 y0 y1 y2))
    blk_ext [iblk, V, idx t]
  hB := by
    funext y
    idx_vars y
    have e : (iblk m c 6 t : FVec Ideal S128x128 .f32) (ix2 y0 y1) = (V m c main_v1 : FVec Ideal S128x128 .f32) (ix2 y0 y1) := by
      blk_ext [iblk, idx t]
    refine e.trans ?_
    rw [V_v1, h.hB]
    pointwise []
    simp only [L2_ix, sitofp_zero]
    by_cases hy : y1.val < 4
    · simp only [hy, dif_pos, if_pos]
    · simp only [hy, dif_neg, if_neg, not_false_iff, EReal.coe_zero]

/-- What a grid point reads of the other arguments. -/
theorem blk7 (t : Fin cfg0.N) : iblk m c 7 t = ((fun i => (m ((c.tc : Thread nD τ).loc main_arg6) : FVec Ideal S8192x1024 .bf16)
    (ix2 ⟨t.val * 512 + (i 0).val, by have := N16 t; have : (i 0).val < 512 := (i 0).isLt; omega⟩ (i 1 : Fin 1024))) : FVec Ideal S512x1024 .bf16) := by
  funext y
  idx_vars y
  have := N16 t
  blk_ext [iblk, V, idx t]

theorem blk8 (t : Fin cfg0.N) : iblk m c 8 t = ((fun i => (m ((c.tc : Thread nD τ).loc main_arg7) : FVec Ideal S8192x1024 .bf16)
    (ix2 ⟨t.val * 512 + (i 0).val, by have := N16 t; have : (i 0).val < 512 := (i 0).isLt; omega⟩ (i 1 : Fin 1024))) : FVec Ideal S512x1024 .bf16) := by
  funext y
  idx_vars y
  have := N16 t
  blk_ext [iblk, V, idx t]

theorem blk9 (t : Fin cfg0.N) : iblk m c 9 t = ((fun i => (m ((c.tc : Thread nD τ).loc main_arg8) : FVec Ideal S8192x2816 .bf16)
    (ix2 ⟨t.val * 512 + (i 0).val, by have := N16 t; have : (i 0).val < 512 := (i 0).isLt; omega⟩ (i 1 : Fin 2816))) : FVec Ideal S512x2816 .bf16) := by
  funext y
  idx_vars y
  have := N16 t
  blk_ext [iblk, V, idx t]

theorem blk10 (t : Fin cfg0.N) : iblk m c 10 t = ((fun i => (m ((c.tc : Thread nD τ).loc main_arg9) : FVec Ideal S8192x1024 .bf16)
    (ix2 ⟨t.val * 512 + (i 0).val, by have := N16 t; have : (i 0).val < 512 := (i 0).isLt; omega⟩ (i 1 : Fin 1024))) : FVec Ideal S512x1024 .bf16) := by
  funext y
  idx_vars y
  have := N16 t
  blk_ext [iblk, V, idx t]

end Cert.Sgu
-- ==== Proof.Sums.lean ====
module

public import proofs.«01_k».proof.Proof.Inputs
public import Mathlib.Algebra.BigOperators.Intervals

/-! What one grid point adds, as the next terms of sums over the blocks of 128 tokens. -/

@[expose] public section

noncomputable section

namespace Cert.Sgu

open Idealize.ShloMosaic Finset

variable (U Z D : ℕ → ℕ → ℝ) (lg lb : ℕ → ℝ) (W : ℕ → ℕ → ℕ → ℝ)

/-- A tile of a grid point's rows is a tile of the array. -/
theorem tl_blk (X : ℕ → ℕ → ℝ) (t k g : ℕ) : tl (fun i l => X (t * 512 + i) l) k g = tl X (4 * t + k) g := by
  funext i l
  show X (t * 512 + (k * 128 + i)) (g * 128 + l) = X ((4 * t + k) * 128 + i) (g * 128 + l)
  rw [show t * 512 + (k * 128 + i) = (4 * t + k) * 128 + i by ring]

/-- The next four terms of a sum. -/
theorem next4 {M : Type} [AddCommMonoid M] (f : ℕ → M) (n : ℕ) :
    ∑ q ∈ range (4 * (n + 1)), f q = ∑ q ∈ range (4 * n), f q + f (4 * n + 0) + f (4 * n + 1) + f (4 * n + 2) + f (4 * n + 3) := by
  rw [show 4 * (n + 1) = 4 * n + 1 + 1 + 1 + 1 by ring, sum_range_succ, sum_range_succ, sum_range_succ, sum_range_succ]
  rfl

/-- The mixing matrices' gradient over the first blocks. -/
def wSum (n g i j : ℕ) : ℝ := ∑ q ∈ range (4 * n), dw lg lb (tl Z q g) (tl U q g) (tl D q g) i j

/-- The biases' gradient before the row sums over the first blocks. -/
def bSum (n g i l : ℕ) : ℝ := ∑ q ∈ range (4 * n), dmx (tl U q g) (tl D q g) i l

/-- The scale's gradient over the first blocks. -/
def lgSum (n l : ℕ) : ℝ := ∑ q ∈ range (4 * n), ∑ g : Fin 4, dlg (W g) (tl Z q g) (tl U q g) (tl D q g) l

/-- The shift's gradient over the first blocks. -/
def lbSum (n l : ℕ) : ℝ := ∑ q ∈ range (4 * n), ∑ g : Fin 4, dlb (W g) (tl U q g) (tl D q g) l

theorem wAcc_sum (n : ℕ) : wAcc lg lb (fun i l => Z (n * 512 + i) l) (fun i l => U (n * 512 + i) l) (fun i l => D (n * 512 + i) l)
    (wSum U Z D lg lb n) = wSum U Z D lg lb (n + 1) := by
  funext g i j
  simp only [wAcc, tl_blk]
  exact (next4 (fun q => dw lg lb (tl Z q g) (tl U q g) (tl D q g) i j) n).symm

theorem bAcc_sum (n : ℕ) : bAcc (fun i l => U (n * 512 + i) l) (fun i l => D (n * 512 + i) l) (bSum U D n) = bSum U D (n + 1) := by
  funext g i l
  simp only [bAcc, tl_blk]
  exact (next4 (fun q => dmx (tl U q g) (tl D q g) i l) n).symm

theorem lgAcc_sum (n : ℕ) : lgAcc W (fun i l => Z (n * 512 + i) l) (fun i l => U (n * 512 + i) l) (fun i l => D (n * 512 + i) l)
    (lgSum U Z D W n) = lgSum U Z D W (n + 1) := by
  funext l
  simp only [lgAcc, tl_blk, lgSum]
  rw [next4]
  simp only [Fin.sum_univ_four, Fin.val_zero, Fin.val_one, Fin.val_two, show ((3 : Fin 4).val) = 3 from rfl]
  ring

theorem lbAcc_sum (n : ℕ) : lbAcc W (fun i l => U (n * 512 + i) l) (fun i l => D (n * 512 + i) l)
    (lbSum U D W n) = lbSum U D W (n + 1) := by
  funext l
  simp only [lbAcc, tl_blk, lbSum]
  rw [next4]
  simp only [Fin.sum_univ_four, Fin.val_zero, Fin.val_one, Fin.val_two, show ((3 : Fin 4).val) = 3 from rfl]
  ring

theorem wSum_zero : wSum U Z D lg lb 0 = fun _ _ _ => 0 := by funext g i j; simp [wSum]
theorem bSum_zero : bSum U D 0 = fun _ _ _ => 0 := by funext g i j; simp [bSum]
theorem lgSum_zero : lgSum U Z D W 0 = fun _ => 0 := by funext l; simp [lgSum]
theorem lbSum_zero : lbSum U D W 0 = fun _ => 0 := by funext l; simp [lbSum]

/-- The mixing matrices' gradient over all the blocks. -/
theorem wSum_all (g i j : ℕ) : wSum U Z D lg lb 16 g i j = ∑ n : Fin 64, dw lg lb (tl Z n g) (tl U n g) (tl D n g) i j :=
  Finset.sum_range fun q => dw lg lb (tl Z q g) (tl U q g) (tl D q g) i j

/-- The biases' gradient over all the blocks. -/
theorem bSum_all (g i : ℕ) : ∑ l : Fin 128, bSum U D 16 g i l = ∑ n : Fin 64, ∑ l : Fin 128, dmx (tl U n g) (tl D n g) i l := by
  rw [Finset.sum_comm]
  exact sum_congr rfl fun l _ => Finset.sum_range fun q => dmx (tl U q g) (tl D q g) i l

/-- The scale's gradient over all the blocks, token by token. -/
theorem lgSum_all (l : ℕ) : lgSum U Z D W 16 l
    = ∑ t : Fin 8192, ∑ g : Fin 4, dzn (W g) (tl U (t / 128) g) (tl D (t / 128) g) (t % 128) l * xh (fun k => Z t (g * 128 + k)) l := by
  have e : ∀ t : Fin 8192, ∑ g : Fin 4, dzn (W g) (tl U (t / 128) g) (tl D (t / 128) g) (t % 128) l * xh (fun k => Z t (g * 128 + k)) l
      = (fun q j : ℕ => ∑ g : Fin 4, dzn (W g) (tl U q g) (tl D q g) j l * xh (tl Z q g j) l) (t.val / 128) (t.val % 128) := by
    intro t
    simp only [tl_row]
  rw [sum_congr rfl fun t _ => e t]
  refine ((Finset.sum_range _).trans ?_).trans
    (Fin.sum_univ_mul_divmod 64 128 fun q j => ∑ g : Fin 4, dzn (W g) (tl U q g) (tl D q g) j l * xh (tl Z q g j) l).symm
  refine sum_congr rfl fun q _ => ?_
  simp only [dlg]
  exact Finset.sum_comm

/-- The shift's gradient over all the blocks, token by token. -/
theorem lbSum_all (l : ℕ) : lbSum U D W 16 l
    = ∑ t : Fin 8192, ∑ g : Fin 4, dzn (W g) (tl U (t / 128) g) (tl D (t / 128) g) (t % 128) l := by
  refine ((Finset.sum_range _).trans ?_).trans
    (Fin.sum_univ_mul_divmod 64 128 fun q j => ∑ g : Fin 4, dzn (W g) (tl U q g) (tl D q g) j l).symm
  refine sum_congr rfl fun q _ => ?_
  simp only [dlb]
  exact Finset.sum_comm

/-- The next 512 terms of a sum. -/
theorem next512 {M : Type} [AddCommMonoid M] (f : ℕ → M) (n : ℕ) :
    ∑ q ∈ range (512 * (n + 1)), f q = ∑ q ∈ range (512 * n), f q + ∑ r : Fin 512, f (n * 512 + r) := by
  rw [show 512 * (n + 1) = 512 * n + 512 by ring, sum_range_add, Nat.mul_comm 512 n]
  exact congrArg _ (Finset.sum_range fun r => f (n * 512 + r))

end Cert.Sgu
-- ==== Proof.Out11.lean ====
module

public import proofs.«01_k».proof.Proof.Point

/-! The gradients of the gate and of the gated tokens, as one grid point writes them. -/

@[expose] public section

set_option maxRecDepth 16384
set_option maxHeartbeats 4000000

noncomputable section

namespace Cert.Sgu

open Idealize.ShloMosaic Cert.KernelIdeal Cert.KernelIdeal.Gen

variable {m : (ℓ : Loc nD τ sig) → Buf (Elt Ideal) ℓ} {c : Dev nD} {t : Fin cfg0.N}
  {u z d : ℕ → ℕ → ℝ} {lg lb : ℕ → ℝ} {W : ℕ → ℕ → ℕ → ℝ} {B : ℕ → ℕ → ℝ}

/-- The gradients one grid point writes. -/
theorem out11_A (hb : Blocks m c t u z d lg lb W B) (h0 : t.val % 16 = 0) (h1 : ¬ t.val % 16 = 15) :
    (outsAt0 m c t.val t.isLt).1 = (L3 fun k i l => if k < 1 then duR u z d lg lb W B i l else dzR u z d lg W i l : FVec Ideal S2x512x512 .bf16) := by
  rw [outsAt0_A m c t h0 h1]
  dsimp only
  frame_out
  funext y
  simp only [hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  canon_tiles x h
  · change DZ (RR lg) (SS W 3) (TT z 3 3) (TT u 3 3) (TT d 3 3) x = _
    rw [DZ_t]
    exact dz_ix 3 3 x y h0 h1 h2
  · change DU (RR lg) (RR lb) (SS W 3) (TT z 3 3) (TT u 3 3) (TT d 3 3) (CC B 3) x = _
    rw [DU_t]
    exact du_ix 3 3 x y h0 h1 h2
  · change DZ (RR lg) (SS W 3) (TT z 2 3) (TT u 2 3) (TT d 2 3) x = _
    rw [DZ_t]
    exact dz_ix 2 3 x y h0 h1 h2
  · change DU (RR lg) (RR lb) (SS W 3) (TT z 2 3) (TT u 2 3) (TT d 2 3) (CC B 3) x = _
    rw [DU_t]
    exact du_ix 2 3 x y h0 h1 h2
  · change DZ (RR lg) (SS W 3) (TT z 1 3) (TT u 1 3) (TT d 1 3) x = _
    rw [DZ_t]
    exact dz_ix 1 3 x y h0 h1 h2
  · change DU (RR lg) (RR lb) (SS W 3) (TT z 1 3) (TT u 1 3) (TT d 1 3) (CC B 3) x = _
    rw [DU_t]
    exact du_ix 1 3 x y h0 h1 h2
  · change DZ (RR lg) (SS W 3) (TT z 0 3) (TT u 0 3) (TT d 0 3) x = _
    rw [DZ_t]
    exact dz_ix 0 3 x y h0 (h1.trans (by omega)) h2
  · change DU (RR lg) (RR lb) (SS W 3) (TT z 0 3) (TT u 0 3) (TT d 0 3) (CC B 3) x = _
    rw [DU_t]
    exact du_ix 0 3 x y h0 (h1.trans (by omega)) h2
  · change DZ (RR lg) (SS W 2) (TT z 3 2) (TT u 3 2) (TT d 3 2) x = _
    rw [DZ_t]
    exact dz_ix 3 2 x y h0 h1 h2
  · change DU (RR lg) (RR lb) (SS W 2) (TT z 3 2) (TT u 3 2) (TT d 3 2) (CC B 2) x = _
    rw [DU_t]
    exact du_ix 3 2 x y h0 h1 h2
  · change DZ (RR lg) (SS W 2) (TT z 2 2) (TT u 2 2) (TT d 2 2) x = _
    rw [DZ_t]
    exact dz_ix 2 2 x y h0 h1 h2
  · change DU (RR lg) (RR lb) (SS W 2) (TT z 2 2) (TT u 2 2) (TT d 2 2) (CC B 2) x = _
    rw [DU_t]
    exact du_ix 2 2 x y h0 h1 h2
  · change DZ (RR lg) (SS W 2) (TT z 1 2) (TT u 1 2) (TT d 1 2) x = _
    rw [DZ_t]
    exact dz_ix 1 2 x y h0 h1 h2
  · change DU (RR lg) (RR lb) (SS W 2) (TT z 1 2) (TT u 1 2) (TT d 1 2) (CC B 2) x = _
    rw [DU_t]
    exact du_ix 1 2 x y h0 h1 h2
  · change DZ (RR lg) (SS W 2) (TT z 0 2) (TT u 0 2) (TT d 0 2) x = _
    rw [DZ_t]
    exact dz_ix 0 2 x y h0 (h1.trans (by omega)) h2
  · change DU (RR lg) (RR lb) (SS W 2) (TT z 0 2) (TT u 0 2) (TT d 0 2) (CC B 2) x = _
    rw [DU_t]
    exact du_ix 0 2 x y h0 (h1.trans (by omega)) h2
  · change DZ (RR lg) (SS W 1) (TT z 3 1) (TT u 3 1) (TT d 3 1) x = _
    rw [DZ_t]
    exact dz_ix 3 1 x y h0 h1 h2
  · change DU (RR lg) (RR lb) (SS W 1) (TT z 3 1) (TT u 3 1) (TT d 3 1) (CC B 1) x = _
    rw [DU_t]
    exact du_ix 3 1 x y h0 h1 h2
  · change DZ (RR lg) (SS W 1) (TT z 2 1) (TT u 2 1) (TT d 2 1) x = _
    rw [DZ_t]
    exact dz_ix 2 1 x y h0 h1 h2
  · change DU (RR lg) (RR lb) (SS W 1) (TT z 2 1) (TT u 2 1) (TT d 2 1) (CC B 1) x = _
    rw [DU_t]
    exact du_ix 2 1 x y h0 h1 h2
  · change DZ (RR lg) (SS W 1) (TT z 1 1) (TT u 1 1) (TT d 1 1) x = _
    rw [DZ_t]
    exact dz_ix 1 1 x y h0 h1 h2
  · change DU (RR lg) (RR lb) (SS W 1) (TT z 1 1) (TT u 1 1) (TT d 1 1) (CC B 1) x = _
    rw [DU_t]
    exact du_ix 1 1 x y h0 h1 h2
  · change DZ (RR lg) (SS W 1) (TT z 0 1) (TT u 0 1) (TT d 0 1) x = _
    rw [DZ_t]
    exact dz_ix 0 1 x y h0 (h1.trans (by omega)) h2
  · change DU (RR lg) (RR lb) (SS W 1) (TT z 0 1) (TT u 0 1) (TT d 0 1) (CC B 1) x = _
    rw [DU_t]
    exact du_ix 0 1 x y h0 (h1.trans (by omega)) h2
  · change DZ (RR lg) (SS W 0) (TT z 3 0) (TT u 3 0) (TT d 3 0) x = _
    rw [DZ_t]
    exact dz_ix 3 0 x y h0 h1 (h2.trans (by omega))
  · change DU (RR lg) (RR lb) (SS W 0) (TT z 3 0) (TT u 3 0) (TT d 3 0) (CC B 0) x = _
    rw [DU_t]
    exact du_ix 3 0 x y h0 h1 (h2.trans (by omega))
  · change DZ (RR lg) (SS W 0) (TT z 2 0) (TT u 2 0) (TT d 2 0) x = _
    rw [DZ_t]
    exact dz_ix 2 0 x y h0 h1 (h2.trans (by omega))
  · change DU (RR lg) (RR lb) (SS W 0) (TT z 2 0) (TT u 2 0) (TT d 2 0) (CC B 0) x = _
    rw [DU_t]
    exact du_ix 2 0 x y h0 h1 (h2.trans (by omega))
  · change DZ (RR lg) (SS W 0) (TT z 1 0) (TT u 1 0) (TT d 1 0) x = _
    rw [DZ_t]
    exact dz_ix 1 0 x y h0 h1 (h2.trans (by omega))
  · change DU (RR lg) (RR lb) (SS W 0) (TT z 1 0) (TT u 1 0) (TT d 1 0) (CC B 0) x = _
    rw [DU_t]
    exact du_ix 1 0 x y h0 h1 (h2.trans (by omega))
  · change DZ (RR lg) (SS W 0) (TT z 0 0) (TT u 0 0) (TT d 0 0) x = _
    rw [DZ_t]
    exact dz_ix 0 0 x y h0 (h1.trans (by omega)) (h2.trans (by omega))
  · change DU (RR lg) (RR lb) (SS W 0) (TT z 0 0) (TT u 0 0) (TT d 0 0) (CC B 0) x = _
    rw [DU_t]
    exact du_ix 0 0 x y h0 (h1.trans (by omega)) (h2.trans (by omega))

/-- The gradients one grid point writes. -/
theorem out11_B (hb : Blocks m c t u z d lg lb W B) (h0 : ¬ t.val % 16 = 0) (h1 : ¬ t.val % 16 = 15) :
    (outsAt0 m c t.val t.isLt).1 = (L3 fun k i l => if k < 1 then duR u z d lg lb W B i l else dzR u z d lg W i l : FVec Ideal S2x512x512 .bf16) := by
  rw [outsAt0_B m c t h0 h1]
  dsimp only
  frame_out
  funext y
  simp only [hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  canon_tiles x h
  · change DZ (RR lg) (SS W 3) (TT z 3 3) (TT u 3 3) (TT d 3 3) x = _
    rw [DZ_t]
    exact dz_ix 3 3 x y h0 h1 h2
  · change DU (RR lg) (RR lb) (SS W 3) (TT z 3 3) (TT u 3 3) (TT d 3 3) (CC B 3) x = _
    rw [DU_t]
    exact du_ix 3 3 x y h0 h1 h2
  · change DZ (RR lg) (SS W 3) (TT z 2 3) (TT u 2 3) (TT d 2 3) x = _
    rw [DZ_t]
    exact dz_ix 2 3 x y h0 h1 h2
  · change DU (RR lg) (RR lb) (SS W 3) (TT z 2 3) (TT u 2 3) (TT d 2 3) (CC B 3) x = _
    rw [DU_t]
    exact du_ix 2 3 x y h0 h1 h2
  · change DZ (RR lg) (SS W 3) (TT z 1 3) (TT u 1 3) (TT d 1 3) x = _
    rw [DZ_t]
    exact dz_ix 1 3 x y h0 h1 h2
  · change DU (RR lg) (RR lb) (SS W 3) (TT z 1 3) (TT u 1 3) (TT d 1 3) (CC B 3) x = _
    rw [DU_t]
    exact du_ix 1 3 x y h0 h1 h2
  · change DZ (RR lg) (SS W 3) (TT z 0 3) (TT u 0 3) (TT d 0 3) x = _
    rw [DZ_t]
    exact dz_ix 0 3 x y h0 (h1.trans (by omega)) h2
  · change DU (RR lg) (RR lb) (SS W 3) (TT z 0 3) (TT u 0 3) (TT d 0 3) (CC B 3) x = _
    rw [DU_t]
    exact du_ix 0 3 x y h0 (h1.trans (by omega)) h2
  · change DZ (RR lg) (SS W 2) (TT z 3 2) (TT u 3 2) (TT d 3 2) x = _
    rw [DZ_t]
    exact dz_ix 3 2 x y h0 h1 h2
  · change DU (RR lg) (RR lb) (SS W 2) (TT z 3 2) (TT u 3 2) (TT d 3 2) (CC B 2) x = _
    rw [DU_t]
    exact du_ix 3 2 x y h0 h1 h2
  · change DZ (RR lg) (SS W 2) (TT z 2 2) (TT u 2 2) (TT d 2 2) x = _
    rw [DZ_t]
    exact dz_ix 2 2 x y h0 h1 h2
  · change DU (RR lg) (RR lb) (SS W 2) (TT z 2 2) (TT u 2 2) (TT d 2 2) (CC B 2) x = _
    rw [DU_t]
    exact du_ix 2 2 x y h0 h1 h2
  · change DZ (RR lg) (SS W 2) (TT z 1 2) (TT u 1 2) (TT d 1 2) x = _
    rw [DZ_t]
    exact dz_ix 1 2 x y h0 h1 h2
  · change DU (RR lg) (RR lb) (SS W 2) (TT z 1 2) (TT u 1 2) (TT d 1 2) (CC B 2) x = _
    rw [DU_t]
    exact du_ix 1 2 x y h0 h1 h2
  · change DZ (RR lg) (SS W 2) (TT z 0 2) (TT u 0 2) (TT d 0 2) x = _
    rw [DZ_t]
    exact dz_ix 0 2 x y h0 (h1.trans (by omega)) h2
  · change DU (RR lg) (RR lb) (SS W 2) (TT z 0 2) (TT u 0 2) (TT d 0 2) (CC B 2) x = _
    rw [DU_t]
    exact du_ix 0 2 x y h0 (h1.trans (by omega)) h2
  · change DZ (RR lg) (SS W 1) (TT z 3 1) (TT u 3 1) (TT d 3 1) x = _
    rw [DZ_t]
    exact dz_ix 3 1 x y h0 h1 h2
  · change DU (RR lg) (RR lb) (SS W 1) (TT z 3 1) (TT u 3 1) (TT d 3 1) (CC B 1) x = _
    rw [DU_t]
    exact du_ix 3 1 x y h0 h1 h2
  · change DZ (RR lg) (SS W 1) (TT z 2 1) (TT u 2 1) (TT d 2 1) x = _
    rw [DZ_t]
    exact dz_ix 2 1 x y h0 h1 h2
  · change DU (RR lg) (RR lb) (SS W 1) (TT z 2 1) (TT u 2 1) (TT d 2 1) (CC B 1) x = _
    rw [DU_t]
    exact du_ix 2 1 x y h0 h1 h2
  · change DZ (RR lg) (SS W 1) (TT z 1 1) (TT u 1 1) (TT d 1 1) x = _
    rw [DZ_t]
    exact dz_ix 1 1 x y h0 h1 h2
  · change DU (RR lg) (RR lb) (SS W 1) (TT z 1 1) (TT u 1 1) (TT d 1 1) (CC B 1) x = _
    rw [DU_t]
    exact du_ix 1 1 x y h0 h1 h2
  · change DZ (RR lg) (SS W 1) (TT z 0 1) (TT u 0 1) (TT d 0 1) x = _
    rw [DZ_t]
    exact dz_ix 0 1 x y h0 (h1.trans (by omega)) h2
  · change DU (RR lg) (RR lb) (SS W 1) (TT z 0 1) (TT u 0 1) (TT d 0 1) (CC B 1) x = _
    rw [DU_t]
    exact du_ix 0 1 x y h0 (h1.trans (by omega)) h2
  · change DZ (RR lg) (SS W 0) (TT z 3 0) (TT u 3 0) (TT d 3 0) x = _
    rw [DZ_t]
    exact dz_ix 3 0 x y h0 h1 (h2.trans (by omega))
  · change DU (RR lg) (RR lb) (SS W 0) (TT z 3 0) (TT u 3 0) (TT d 3 0) (CC B 0) x = _
    rw [DU_t]
    exact du_ix 3 0 x y h0 h1 (h2.trans (by omega))
  · change DZ (RR lg) (SS W 0) (TT z 2 0) (TT u 2 0) (TT d 2 0) x = _
    rw [DZ_t]
    exact dz_ix 2 0 x y h0 h1 (h2.trans (by omega))
  · change DU (RR lg) (RR lb) (SS W 0) (TT z 2 0) (TT u 2 0) (TT d 2 0) (CC B 0) x = _
    rw [DU_t]
    exact du_ix 2 0 x y h0 h1 (h2.trans (by omega))
  · change DZ (RR lg) (SS W 0) (TT z 1 0) (TT u 1 0) (TT d 1 0) x = _
    rw [DZ_t]
    exact dz_ix 1 0 x y h0 h1 (h2.trans (by omega))
  · change DU (RR lg) (RR lb) (SS W 0) (TT z 1 0) (TT u 1 0) (TT d 1 0) (CC B 0) x = _
    rw [DU_t]
    exact du_ix 1 0 x y h0 h1 (h2.trans (by omega))
  · change DZ (RR lg) (SS W 0) (TT z 0 0) (TT u 0 0) (TT d 0 0) x = _
    rw [DZ_t]
    exact dz_ix 0 0 x y h0 (h1.trans (by omega)) (h2.trans (by omega))
  · change DU (RR lg) (RR lb) (SS W 0) (TT z 0 0) (TT u 0 0) (TT d 0 0) (CC B 0) x = _
    rw [DU_t]
    exact du_ix 0 0 x y h0 (h1.trans (by omega)) (h2.trans (by omega))

/-- The gradients one grid point writes. -/
theorem out11_C (hb : Blocks m c t u z d lg lb W B) (h0 : ¬ t.val % 16 = 0) (h1 : t.val % 16 = 15) :
    (outsAt0 m c t.val t.isLt).1 = (L3 fun k i l => if k < 1 then duR u z d lg lb W B i l else dzR u z d lg W i l : FVec Ideal S2x512x512 .bf16) := by
  rw [outsAt0_C m c t h0 h1]
  dsimp only
  frame_out
  funext y
  simp only [hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  canon_tiles x h
  · change DZ (RR lg) (SS W 3) (TT z 3 3) (TT u 3 3) (TT d 3 3) x = _
    rw [DZ_t]
    exact dz_ix 3 3 x y h0 h1 h2
  · change DU (RR lg) (RR lb) (SS W 3) (TT z 3 3) (TT u 3 3) (TT d 3 3) (CC B 3) x = _
    rw [DU_t]
    exact du_ix 3 3 x y h0 h1 h2
  · change DZ (RR lg) (SS W 3) (TT z 2 3) (TT u 2 3) (TT d 2 3) x = _
    rw [DZ_t]
    exact dz_ix 2 3 x y h0 h1 h2
  · change DU (RR lg) (RR lb) (SS W 3) (TT z 2 3) (TT u 2 3) (TT d 2 3) (CC B 3) x = _
    rw [DU_t]
    exact du_ix 2 3 x y h0 h1 h2
  · change DZ (RR lg) (SS W 3) (TT z 1 3) (TT u 1 3) (TT d 1 3) x = _
    rw [DZ_t]
    exact dz_ix 1 3 x y h0 h1 h2
  · change DU (RR lg) (RR lb) (SS W 3) (TT z 1 3) (TT u 1 3) (TT d 1 3) (CC B 3) x = _
    rw [DU_t]
    exact du_ix 1 3 x y h0 h1 h2
  · change DZ (RR lg) (SS W 3) (TT z 0 3) (TT u 0 3) (TT d 0 3) x = _
    rw [DZ_t]
    exact dz_ix 0 3 x y h0 (h1.trans (by omega)) h2
  · change DU (RR lg) (RR lb) (SS W 3) (TT z 0 3) (TT u 0 3) (TT d 0 3) (CC B 3) x = _
    rw [DU_t]
    exact du_ix 0 3 x y h0 (h1.trans (by omega)) h2
  · change DZ (RR lg) (SS W 2) (TT z 3 2) (TT u 3 2) (TT d 3 2) x = _
    rw [DZ_t]
    exact dz_ix 3 2 x y h0 h1 h2
  · change DU (RR lg) (RR lb) (SS W 2) (TT z 3 2) (TT u 3 2) (TT d 3 2) (CC B 2) x = _
    rw [DU_t]
    exact du_ix 3 2 x y h0 h1 h2
  · change DZ (RR lg) (SS W 2) (TT z 2 2) (TT u 2 2) (TT d 2 2) x = _
    rw [DZ_t]
    exact dz_ix 2 2 x y h0 h1 h2
  · change DU (RR lg) (RR lb) (SS W 2) (TT z 2 2) (TT u 2 2) (TT d 2 2) (CC B 2) x = _
    rw [DU_t]
    exact du_ix 2 2 x y h0 h1 h2
  · change DZ (RR lg) (SS W 2) (TT z 1 2) (TT u 1 2) (TT d 1 2) x = _
    rw [DZ_t]
    exact dz_ix 1 2 x y h0 h1 h2
  · change DU (RR lg) (RR lb) (SS W 2) (TT z 1 2) (TT u 1 2) (TT d 1 2) (CC B 2) x = _
    rw [DU_t]
    exact du_ix 1 2 x y h0 h1 h2
  · change DZ (RR lg) (SS W 2) (TT z 0 2) (TT u 0 2) (TT d 0 2) x = _
    rw [DZ_t]
    exact dz_ix 0 2 x y h0 (h1.trans (by omega)) h2
  · change DU (RR lg) (RR lb) (SS W 2) (TT z 0 2) (TT u 0 2) (TT d 0 2) (CC B 2) x = _
    rw [DU_t]
    exact du_ix 0 2 x y h0 (h1.trans (by omega)) h2
  · change DZ (RR lg) (SS W 1) (TT z 3 1) (TT u 3 1) (TT d 3 1) x = _
    rw [DZ_t]
    exact dz_ix 3 1 x y h0 h1 h2
  · change DU (RR lg) (RR lb) (SS W 1) (TT z 3 1) (TT u 3 1) (TT d 3 1) (CC B 1) x = _
    rw [DU_t]
    exact du_ix 3 1 x y h0 h1 h2
  · change DZ (RR lg) (SS W 1) (TT z 2 1) (TT u 2 1) (TT d 2 1) x = _
    rw [DZ_t]
    exact dz_ix 2 1 x y h0 h1 h2
  · change DU (RR lg) (RR lb) (SS W 1) (TT z 2 1) (TT u 2 1) (TT d 2 1) (CC B 1) x = _
    rw [DU_t]
    exact du_ix 2 1 x y h0 h1 h2
  · change DZ (RR lg) (SS W 1) (TT z 1 1) (TT u 1 1) (TT d 1 1) x = _
    rw [DZ_t]
    exact dz_ix 1 1 x y h0 h1 h2
  · change DU (RR lg) (RR lb) (SS W 1) (TT z 1 1) (TT u 1 1) (TT d 1 1) (CC B 1) x = _
    rw [DU_t]
    exact du_ix 1 1 x y h0 h1 h2
  · change DZ (RR lg) (SS W 1) (TT z 0 1) (TT u 0 1) (TT d 0 1) x = _
    rw [DZ_t]
    exact dz_ix 0 1 x y h0 (h1.trans (by omega)) h2
  · change DU (RR lg) (RR lb) (SS W 1) (TT z 0 1) (TT u 0 1) (TT d 0 1) (CC B 1) x = _
    rw [DU_t]
    exact du_ix 0 1 x y h0 (h1.trans (by omega)) h2
  · change DZ (RR lg) (SS W 0) (TT z 3 0) (TT u 3 0) (TT d 3 0) x = _
    rw [DZ_t]
    exact dz_ix 3 0 x y h0 h1 (h2.trans (by omega))
  · change DU (RR lg) (RR lb) (SS W 0) (TT z 3 0) (TT u 3 0) (TT d 3 0) (CC B 0) x = _
    rw [DU_t]
    exact du_ix 3 0 x y h0 h1 (h2.trans (by omega))
  · change DZ (RR lg) (SS W 0) (TT z 2 0) (TT u 2 0) (TT d 2 0) x = _
    rw [DZ_t]
    exact dz_ix 2 0 x y h0 h1 (h2.trans (by omega))
  · change DU (RR lg) (RR lb) (SS W 0) (TT z 2 0) (TT u 2 0) (TT d 2 0) (CC B 0) x = _
    rw [DU_t]
    exact du_ix 2 0 x y h0 h1 (h2.trans (by omega))
  · change DZ (RR lg) (SS W 0) (TT z 1 0) (TT u 1 0) (TT d 1 0) x = _
    rw [DZ_t]
    exact dz_ix 1 0 x y h0 h1 (h2.trans (by omega))
  · change DU (RR lg) (RR lb) (SS W 0) (TT z 1 0) (TT u 1 0) (TT d 1 0) (CC B 0) x = _
    rw [DU_t]
    exact du_ix 1 0 x y h0 h1 (h2.trans (by omega))
  · change DZ (RR lg) (SS W 0) (TT z 0 0) (TT u 0 0) (TT d 0 0) x = _
    rw [DZ_t]
    exact dz_ix 0 0 x y h0 (h1.trans (by omega)) (h2.trans (by omega))
  · change DU (RR lg) (RR lb) (SS W 0) (TT z 0 0) (TT u 0 0) (TT d 0 0) (CC B 0) x = _
    rw [DU_t]
    exact du_ix 0 0 x y h0 (h1.trans (by omega)) (h2.trans (by omega))

end Cert.Sgu
-- ==== Proof.Out12.lean ====
module

public import proofs.«01_k».proof.Proof.Point

/-! The gradient of the mixing matrices after one grid point. -/

@[expose] public section

set_option maxRecDepth 16384
set_option maxHeartbeats 4000000

noncomputable section

namespace Cert.Sgu

open Idealize.ShloMosaic Cert.KernelIdeal Cert.KernelIdeal.Gen

variable {m : (ℓ : Loc nD τ sig) → Buf (Elt Ideal) ℓ} {c : Dev nD} {t : Fin cfg0.N}
  {u z d : ℕ → ℕ → ℝ} {lg lb : ℕ → ℝ} {W : ℕ → ℕ → ℕ → ℝ} {B : ℕ → ℕ → ℝ}

variable {P : ℕ → ℕ → ℕ → ℝ}

/-- What is there after one grid point. -/
theorem out12_A (hb : Blocks m c t u z d lg lb W B) (h0 : t.val % 16 = 0) (h1 : ¬ t.val % 16 = 15) :
    (outsAt0 m c t.val t.isLt).2.1 = (A3 (wAcc lg lb z u d (fun _ _ _ => 0)) : FVec Ideal S4x128x128 .f32) := by
  rw [outsAt0_A m c t h0 h1]
  dsimp only
  frame_open
  simp (disch := decide) only [↓ View.readCov_skip, ↓ View.readCov_cons_toLoadRect, ↓ View.readCov_fill]
  frame_out
  simp only [View.canon_cons, overlay_overlay]
  simp only [overlay_canon]
  simp only [read_unread_whole, zero_stack, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  refine canon4 _ _ _ _ _ _ _ _ _ _ ?_ ?_ ?_ ?_
  · change (DW (RR lg) (RR lb) (TT z 3 3) (TT u 3 3) (TT d 3 3) (DW (RR lg) (RR lb) (TT z 2 3) (TT u 2 3) (TT d 2 3) (DW (RR lg) (RR lb) (TT z 1 3) (TT u 1 3) (TT d 1 3) (DW (RR lg) (RR lb) (TT z 0 3) (TT u 0 3) (TT d 0 3) (SS (fun _ _ _ => 0) 3))))) = _
    rw [SS_S32, DW_t, DW_t, DW_t, DW_t]
    rfl
  · change (DW (RR lg) (RR lb) (TT z 3 2) (TT u 3 2) (TT d 3 2) (DW (RR lg) (RR lb) (TT z 2 2) (TT u 2 2) (TT d 2 2) (DW (RR lg) (RR lb) (TT z 1 2) (TT u 1 2) (TT d 1 2) (DW (RR lg) (RR lb) (TT z 0 2) (TT u 0 2) (TT d 0 2) (SS (fun _ _ _ => 0) 2))))) = _
    rw [SS_S32, DW_t, DW_t, DW_t, DW_t]
    rfl
  · change (DW (RR lg) (RR lb) (TT z 3 1) (TT u 3 1) (TT d 3 1) (DW (RR lg) (RR lb) (TT z 2 1) (TT u 2 1) (TT d 2 1) (DW (RR lg) (RR lb) (TT z 1 1) (TT u 1 1) (TT d 1 1) (DW (RR lg) (RR lb) (TT z 0 1) (TT u 0 1) (TT d 0 1) (SS (fun _ _ _ => 0) 1))))) = _
    rw [SS_S32, DW_t, DW_t, DW_t, DW_t]
    rfl
  · change (DW (RR lg) (RR lb) (TT z 3 0) (TT u 3 0) (TT d 3 0) (DW (RR lg) (RR lb) (TT z 2 0) (TT u 2 0) (TT d 2 0) (DW (RR lg) (RR lb) (TT z 1 0) (TT u 1 0) (TT d 1 0) (DW (RR lg) (RR lb) (TT z 0 0) (TT u 0 0) (TT d 0 0) (SS (fun _ _ _ => 0) 0))))) = _
    rw [SS_S32, DW_t, DW_t, DW_t, DW_t]
    rfl

/-- What is there after one grid point. -/
theorem out12_B (hb : Blocks m c t u z d lg lb W B) (h0 : ¬ t.val % 16 = 0) (h1 : ¬ t.val % 16 = 15) (hp : ∀ h, (outsAt0 m c (t.val - 1) h).2.1 = (A3 P : FVec Ideal S4x128x128 .f32)) :
    (outsAt0 m c t.val t.isLt).2.1 = (A3 (wAcc lg lb z u d P) : FVec Ideal S4x128x128 .f32) := by
  rw [outsAt0_B m c t h0 h1]
  dsimp only
  frame_open
  simp (disch := decide) only [↓ View.readCov_skip, ↓ View.readCov_cons_toLoadRect, ↓ View.readCov_fill]
  frame_out
  simp only [View.canon_cons, overlay_overlay]
  simp only [overlay_canon]
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  refine canon4 _ _ _ _ _ _ _ _ _ _ ?_ ?_ ?_ ?_
  · change (DW (RR lg) (RR lb) (TT z 3 3) (TT u 3 3) (TT d 3 3) (DW (RR lg) (RR lb) (TT z 2 3) (TT u 2 3) (TT d 2 3) (DW (RR lg) (RR lb) (TT z 1 3) (TT u 1 3) (TT d 1 3) (DW (RR lg) (RR lb) (TT z 0 3) (TT u 0 3) (TT d 0 3) (SS P 3))))) = _
    rw [SS_S32, DW_t, DW_t, DW_t, DW_t]
    rfl
  · change (DW (RR lg) (RR lb) (TT z 3 2) (TT u 3 2) (TT d 3 2) (DW (RR lg) (RR lb) (TT z 2 2) (TT u 2 2) (TT d 2 2) (DW (RR lg) (RR lb) (TT z 1 2) (TT u 1 2) (TT d 1 2) (DW (RR lg) (RR lb) (TT z 0 2) (TT u 0 2) (TT d 0 2) (SS P 2))))) = _
    rw [SS_S32, DW_t, DW_t, DW_t, DW_t]
    rfl
  · change (DW (RR lg) (RR lb) (TT z 3 1) (TT u 3 1) (TT d 3 1) (DW (RR lg) (RR lb) (TT z 2 1) (TT u 2 1) (TT d 2 1) (DW (RR lg) (RR lb) (TT z 1 1) (TT u 1 1) (TT d 1 1) (DW (RR lg) (RR lb) (TT z 0 1) (TT u 0 1) (TT d 0 1) (SS P 1))))) = _
    rw [SS_S32, DW_t, DW_t, DW_t, DW_t]
    rfl
  · change (DW (RR lg) (RR lb) (TT z 3 0) (TT u 3 0) (TT d 3 0) (DW (RR lg) (RR lb) (TT z 2 0) (TT u 2 0) (TT d 2 0) (DW (RR lg) (RR lb) (TT z 1 0) (TT u 1 0) (TT d 1 0) (DW (RR lg) (RR lb) (TT z 0 0) (TT u 0 0) (TT d 0 0) (SS P 0))))) = _
    rw [SS_S32, DW_t, DW_t, DW_t, DW_t]
    rfl

/-- What is there after one grid point. -/
theorem out12_C (hb : Blocks m c t u z d lg lb W B) (h0 : ¬ t.val % 16 = 0) (h1 : t.val % 16 = 15) (hp : ∀ h, (outsAt0 m c (t.val - 1) h).2.1 = (A3 P : FVec Ideal S4x128x128 .f32)) :
    (outsAt0 m c t.val t.isLt).2.1 = (A3 (wAcc lg lb z u d P) : FVec Ideal S4x128x128 .f32) := by
  rw [outsAt0_C m c t h0 h1]
  dsimp only
  frame_open
  simp (disch := decide) only [↓ View.readCov_skip, ↓ View.readCov_cons_toLoadRect, ↓ View.readCov_fill]
  frame_out
  simp only [View.canon_cons, overlay_overlay]
  simp only [overlay_canon]
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  refine canon4 _ _ _ _ _ _ _ _ _ _ ?_ ?_ ?_ ?_
  · change (DW (RR lg) (RR lb) (TT z 3 3) (TT u 3 3) (TT d 3 3) (DW (RR lg) (RR lb) (TT z 2 3) (TT u 2 3) (TT d 2 3) (DW (RR lg) (RR lb) (TT z 1 3) (TT u 1 3) (TT d 1 3) (DW (RR lg) (RR lb) (TT z 0 3) (TT u 0 3) (TT d 0 3) (SS P 3))))) = _
    rw [SS_S32, DW_t, DW_t, DW_t, DW_t]
    rfl
  · change (DW (RR lg) (RR lb) (TT z 3 2) (TT u 3 2) (TT d 3 2) (DW (RR lg) (RR lb) (TT z 2 2) (TT u 2 2) (TT d 2 2) (DW (RR lg) (RR lb) (TT z 1 2) (TT u 1 2) (TT d 1 2) (DW (RR lg) (RR lb) (TT z 0 2) (TT u 0 2) (TT d 0 2) (SS P 2))))) = _
    rw [SS_S32, DW_t, DW_t, DW_t, DW_t]
    rfl
  · change (DW (RR lg) (RR lb) (TT z 3 1) (TT u 3 1) (TT d 3 1) (DW (RR lg) (RR lb) (TT z 2 1) (TT u 2 1) (TT d 2 1) (DW (RR lg) (RR lb) (TT z 1 1) (TT u 1 1) (TT d 1 1) (DW (RR lg) (RR lb) (TT z 0 1) (TT u 0 1) (TT d 0 1) (SS P 1))))) = _
    rw [SS_S32, DW_t, DW_t, DW_t, DW_t]
    rfl
  · change (DW (RR lg) (RR lb) (TT z 3 0) (TT u 3 0) (TT d 3 0) (DW (RR lg) (RR lb) (TT z 2 0) (TT u 2 0) (TT d 2 0) (DW (RR lg) (RR lb) (TT z 1 0) (TT u 1 0) (TT d 1 0) (DW (RR lg) (RR lb) (TT z 0 0) (TT u 0 0) (TT d 0 0) (SS P 0))))) = _
    rw [SS_S32, DW_t, DW_t, DW_t, DW_t]
    rfl

end Cert.Sgu
-- ==== Proof.Out13.lean ====
module

public import proofs.«01_k».proof.Proof.Point

/-! The gradient of the biases at the last grid point, and the two products of matrices at every grid point. -/

@[expose] public section

set_option maxRecDepth 16384
set_option maxHeartbeats 4000000

noncomputable section

namespace Cert.Sgu

open Idealize.ShloMosaic Cert.KernelIdeal Cert.KernelIdeal.Gen

variable {m : (ℓ : Loc nD τ sig) → Buf (Elt Ideal) ℓ} {c : Dev nD} {t : Fin cfg0.N}
  {u z d : ℕ → ℕ → ℝ} {lg lb : ℕ → ℝ} {W : ℕ → ℕ → ℕ → ℝ} {B : ℕ → ℕ → ℝ}

/-- The last grid point's row sums, one group in each of the first four lanes. -/
theorem lanes (f : ℕ → ℕ → ℕ → ℝ) : k0_pay1 (F := Ideal) (k0_pay2 (S32 (f 0)) (S32 (f 1)) (S32 (f 2)) (S32 (f 3)))
    = (A2 fun i g => if g < 4 then ∑ l : Fin 128, f g i l else 0 : FVec Ideal S128x128 .f32) := by
  funext j
  idx_vars j
  pointwise [k0_pay1, k0_pay2]
  simp only [L2_ix, L3_ix, zero_add, coe_sum, ← EReal.coe_zero, coe_ite]
  have hj : j1.val < 128 := j1.isLt
  have sel : ∀ (k : ℕ) (_ : k < 128) (a b : EReal), Scalar.select (IntOp.cmpi .eq (BitVec.ofNat 32 j1.val) (BitVec.ofNat 32 k)) a b
      = if j1.val = k then a else b := by
    intro k hk a b
    rw [WordCmp.cmpi_eq_ofNat (by omega) (by omega)]
    by_cases h : j1.val = k <;> simp [h, Scalar.select]
  refine (sel 3 (by omega) _ _).trans ?_
  by_cases h3 : j1.val = 3
  · rw [if_pos h3, h3]; rfl
  rw [if_neg h3]
  refine (sel 2 (by omega) _ _).trans ?_
  by_cases h2 : j1.val = 2
  · rw [if_pos h2, h2]; rfl
  rw [if_neg h2]
  refine (sel 1 (by omega) _ _).trans ?_
  by_cases h1 : j1.val = 1
  · rw [if_pos h1, h1]; rfl
  rw [if_neg h1]
  refine (sel 0 (by omega) _ _).trans ?_
  by_cases h0 : j1.val = 0
  · rw [if_pos h0, h0]; rfl
  rw [if_neg h0, if_neg (by omega)]

variable {P : ℕ → ℕ → ℕ → ℝ}

/-- The biases' gradient after the last grid point. -/
theorem out13_C (hb : Blocks m c t u z d lg lb W B) (h0 : ¬ t.val % 16 = 0) (h1 : t.val % 16 = 15) (hp : ∀ h, (outsAt0 m c (t.val - 1) h).2.2.2.2.2.2.2 = (A3 P : FVec Ideal S4x128x128 .f32)) :
    (outsAt0 m c t.val t.isLt).2.2.1 = (A2 fun i g => if g < 4 then ∑ l : Fin 128, bAcc u d P g i l else 0 : FVec Ideal S128x128 .f32) := by
  rw [outsAt0_C m c t h0 h1]
  dsimp only
  frame_open
  simp (disch := decide) only [↓ View.readCov_skip, ↓ View.readCov_cons_toLoadRect, ↓ View.readCov_fill]
  frame_out
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  change k0_pay1 (F := Ideal) (k0_pay2 (DB (TT u 3 0) (TT d 3 0) (DB (TT u 2 0) (TT d 2 0) (DB (TT u 1 0) (TT d 1 0) (DB (TT u 0 0) (TT d 0 0) (SS P 0))))) (DB (TT u 3 1) (TT d 3 1) (DB (TT u 2 1) (TT d 2 1) (DB (TT u 1 1) (TT d 1 1) (DB (TT u 0 1) (TT d 0 1) (SS P 1))))) (DB (TT u 3 2) (TT d 3 2) (DB (TT u 2 2) (TT d 2 2) (DB (TT u 1 2) (TT d 1 2) (DB (TT u 0 2) (TT d 0 2) (SS P 2))))) (DB (TT u 3 3) (TT d 3 3) (DB (TT u 2 3) (TT d 2 3) (DB (TT u 1 3) (TT d 1 3) (DB (TT u 0 3) (TT d 0 3) (SS P 3)))))) = _
  simp only [SS_S32, DB_t]
  exact lanes (bAcc u d P)

/-- A product of two matrices, one grid point's rows added. -/
theorem out16_A (h0 : t.val % 16 = 0) (h1 : ¬ t.val % 16 = 15) (X : FVec Ideal S512x1024 .bf16) (Y : FVec Ideal S512x1024 .bf16) (hX : iblk m c 7 t = X) (hY : iblk m c 8 t = Y)
    (i : Fin 1024) (j : Fin 1024) : ((outsAt0 m c t.val t.isLt).2.2.2.2.2.1 : FVec Ideal S1024x1024 .f32) (ix2 i j)
    = (((0 : EReal)) : EReal) + ∑ r : Fin 512, X (ix2 r i) * Y (ix2 r j) := by
  rw [outsAt0_A m c t h0 h1]
  dsimp only
  frame_open
  simp (disch := decide) only [↓ View.readCov_skip, ↓ View.readCov_cons_toLoadRect, ↓ View.readCov_fill]
  frame_out
  simp only [read_unread_whole, hX, hY]
  pointwise []

/-- A product of two matrices, one grid point's rows added. -/
theorem out16_B (h0 : ¬ t.val % 16 = 0) (h1 : ¬ t.val % 16 = 15) (X : FVec Ideal S512x1024 .bf16) (Y : FVec Ideal S512x1024 .bf16) (hX : iblk m c 7 t = X) (hY : iblk m c 8 t = Y)
    (i : Fin 1024) (j : Fin 1024) : ((outsAt0 m c t.val t.isLt).2.2.2.2.2.1 : FVec Ideal S1024x1024 .f32) (ix2 i j)
    = ((((outsAt0 m c (t.val - 1) (Nat.lt_of_le_of_lt (Nat.sub_le _ _) t.isLt)).2.2.2.2.2.1 : FVec Ideal S1024x1024 .f32) (ix2 i j)) : EReal) + ∑ r : Fin 512, X (ix2 r i) * Y (ix2 r j) := by
  rw [outsAt0_B m c t h0 h1]
  dsimp only
  frame_open
  simp (disch := decide) only [↓ View.readCov_skip, ↓ View.readCov_cons_toLoadRect, ↓ View.readCov_fill]
  frame_out
  simp only [read_unread_whole, hX, hY]
  pointwise []

/-- A product of two matrices, one grid point's rows added. -/
theorem out16_C (h0 : ¬ t.val % 16 = 0) (h1 : t.val % 16 = 15) (X : FVec Ideal S512x1024 .bf16) (Y : FVec Ideal S512x1024 .bf16) (hX : iblk m c 7 t = X) (hY : iblk m c 8 t = Y)
    (i : Fin 1024) (j : Fin 1024) : ((outsAt0 m c t.val t.isLt).2.2.2.2.2.1 : FVec Ideal S1024x1024 .f32) (ix2 i j)
    = ((((outsAt0 m c (t.val - 1) (Nat.lt_of_le_of_lt (Nat.sub_le _ _) t.isLt)).2.2.2.2.2.1 : FVec Ideal S1024x1024 .f32) (ix2 i j)) : EReal) + ∑ r : Fin 512, X (ix2 r i) * Y (ix2 r j) := by
  rw [outsAt0_C m c t h0 h1]
  dsimp only
  frame_open
  simp (disch := decide) only [↓ View.readCov_skip, ↓ View.readCov_cons_toLoadRect, ↓ View.readCov_fill]
  frame_out
  simp only [read_unread_whole, hX, hY]
  pointwise []

/-- A product of two matrices, one grid point's rows added. -/
theorem out17_A (h0 : t.val % 16 = 0) (h1 : ¬ t.val % 16 = 15) (X : FVec Ideal S512x2816 .bf16) (Y : FVec Ideal S512x1024 .bf16) (hX : iblk m c 9 t = X) (hY : iblk m c 10 t = Y)
    (i : Fin 2816) (j : Fin 1024) : ((outsAt0 m c t.val t.isLt).2.2.2.2.2.2.1 : FVec Ideal S2816x1024 .f32) (ix2 i j)
    = (((0 : EReal)) : EReal) + ∑ r : Fin 512, X (ix2 r i) * Y (ix2 r j) := by
  rw [outsAt0_A m c t h0 h1]
  dsimp only
  frame_open
  simp (disch := decide) only [↓ View.readCov_skip, ↓ View.readCov_cons_toLoadRect, ↓ View.readCov_fill]
  frame_out
  simp only [read_unread_whole, hX, hY]
  pointwise []

/-- A product of two matrices, one grid point's rows added. -/
theorem out17_B (h0 : ¬ t.val % 16 = 0) (h1 : ¬ t.val % 16 = 15) (X : FVec Ideal S512x2816 .bf16) (Y : FVec Ideal S512x1024 .bf16) (hX : iblk m c 9 t = X) (hY : iblk m c 10 t = Y)
    (i : Fin 2816) (j : Fin 1024) : ((outsAt0 m c t.val t.isLt).2.2.2.2.2.2.1 : FVec Ideal S2816x1024 .f32) (ix2 i j)
    = ((((outsAt0 m c (t.val - 1) (Nat.lt_of_le_of_lt (Nat.sub_le _ _) t.isLt)).2.2.2.2.2.2.1 : FVec Ideal S2816x1024 .f32) (ix2 i j)) : EReal) + ∑ r : Fin 512, X (ix2 r i) * Y (ix2 r j) := by
  rw [outsAt0_B m c t h0 h1]
  dsimp only
  frame_open
  simp (disch := decide) only [↓ View.readCov_skip, ↓ View.readCov_cons_toLoadRect, ↓ View.readCov_fill]
  frame_out
  simp only [read_unread_whole, hX, hY]
  pointwise []

/-- A product of two matrices, one grid point's rows added. -/
theorem out17_C (h0 : ¬ t.val % 16 = 0) (h1 : t.val % 16 = 15) (X : FVec Ideal S512x2816 .bf16) (Y : FVec Ideal S512x1024 .bf16) (hX : iblk m c 9 t = X) (hY : iblk m c 10 t = Y)
    (i : Fin 2816) (j : Fin 1024) : ((outsAt0 m c t.val t.isLt).2.2.2.2.2.2.1 : FVec Ideal S2816x1024 .f32) (ix2 i j)
    = ((((outsAt0 m c (t.val - 1) (Nat.lt_of_le_of_lt (Nat.sub_le _ _) t.isLt)).2.2.2.2.2.2.1 : FVec Ideal S2816x1024 .f32) (ix2 i j)) : EReal) + ∑ r : Fin 512, X (ix2 r i) * Y (ix2 r j) := by
  rw [outsAt0_C m c t h0 h1]
  dsimp only
  frame_open
  simp (disch := decide) only [↓ View.readCov_skip, ↓ View.readCov_cons_toLoadRect, ↓ View.readCov_fill]
  frame_out
  simp only [read_unread_whole, hX, hY]
  pointwise []

end Cert.Sgu
-- ==== Proof.Out14.lean ====
module

public import proofs.«01_k».proof.Proof.Point

/-! The gradient of the scale after one grid point. -/

@[expose] public section

set_option maxRecDepth 16384
set_option maxHeartbeats 4000000

noncomputable section

namespace Cert.Sgu

open Idealize.ShloMosaic Cert.KernelIdeal Cert.KernelIdeal.Gen

variable {m : (ℓ : Loc nD τ sig) → Buf (Elt Ideal) ℓ} {c : Dev nD} {t : Fin cfg0.N}
  {u z d : ℕ → ℕ → ℝ} {lg lb : ℕ → ℝ} {W : ℕ → ℕ → ℕ → ℝ} {B : ℕ → ℕ → ℝ}

variable {P : ℕ → ℝ}

/-- What is there after one grid point. -/
theorem out14_A (hb : Blocks m c t u z d lg lb W B) (h0 : t.val % 16 = 0) (h1 : ¬ t.val % 16 = 15) :
    (outsAt0 m c t.val t.isLt).2.2.2.1 = (R32 (lgAcc W z u d (fun _ => 0)) : FVec Ideal S1x128 .f32) := by
  rw [outsAt0_A m c t h0 h1]
  dsimp only
  frame_open
  simp (disch := decide) only [↓ View.readCov_skip, ↓ View.readCov_cons_toLoadRect, ↓ View.readCov_fill]
  frame_out
  simp only [read_unread_whole, zero_row, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  change (DLG (SS W 3) (TT z 3 3) (TT u 3 3) (TT d 3 3) (DLG (SS W 3) (TT z 2 3) (TT u 2 3) (TT d 2 3) (DLG (SS W 3) (TT z 1 3) (TT u 1 3) (TT d 1 3) (DLG (SS W 3) (TT z 0 3) (TT u 0 3) (TT d 0 3) (DLG (SS W 2) (TT z 3 2) (TT u 3 2) (TT d 3 2) (DLG (SS W 2) (TT z 2 2) (TT u 2 2) (TT d 2 2) (DLG (SS W 2) (TT z 1 2) (TT u 1 2) (TT d 1 2) (DLG (SS W 2) (TT z 0 2) (TT u 0 2) (TT d 0 2) (DLG (SS W 1) (TT z 3 1) (TT u 3 1) (TT d 3 1) (DLG (SS W 1) (TT z 2 1) (TT u 2 1) (TT d 2 1) (DLG (SS W 1) (TT z 1 1) (TT u 1 1) (TT d 1 1) (DLG (SS W 1) (TT z 0 1) (TT u 0 1) (TT d 0 1) (DLG (SS W 0) (TT z 3 0) (TT u 3 0) (TT d 3 0) (DLG (SS W 0) (TT z 2 0) (TT u 2 0) (TT d 2 0) (DLG (SS W 0) (TT z 1 0) (TT u 1 0) (TT d 1 0) (DLG (SS W 0) (TT z 0 0) (TT u 0 0) (TT d 0 0) (RR (fun _ => 0)))))))))))))))))) = _
  simp only [← R32_RR, DLG_t]
  rfl

/-- What is there after one grid point. -/
theorem out14_B (hb : Blocks m c t u z d lg lb W B) (h0 : ¬ t.val % 16 = 0) (h1 : ¬ t.val % 16 = 15) (hp : ∀ h, (outsAt0 m c (t.val - 1) h).2.2.2.1 = (R32 P : FVec Ideal S1x128 .f32)) :
    (outsAt0 m c t.val t.isLt).2.2.2.1 = (R32 (lgAcc W z u d P) : FVec Ideal S1x128 .f32) := by
  rw [outsAt0_B m c t h0 h1]
  dsimp only
  frame_open
  simp (disch := decide) only [↓ View.readCov_skip, ↓ View.readCov_cons_toLoadRect, ↓ View.readCov_fill]
  frame_out
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  change (DLG (SS W 3) (TT z 3 3) (TT u 3 3) (TT d 3 3) (DLG (SS W 3) (TT z 2 3) (TT u 2 3) (TT d 2 3) (DLG (SS W 3) (TT z 1 3) (TT u 1 3) (TT d 1 3) (DLG (SS W 3) (TT z 0 3) (TT u 0 3) (TT d 0 3) (DLG (SS W 2) (TT z 3 2) (TT u 3 2) (TT d 3 2) (DLG (SS W 2) (TT z 2 2) (TT u 2 2) (TT d 2 2) (DLG (SS W 2) (TT z 1 2) (TT u 1 2) (TT d 1 2) (DLG (SS W 2) (TT z 0 2) (TT u 0 2) (TT d 0 2) (DLG (SS W 1) (TT z 3 1) (TT u 3 1) (TT d 3 1) (DLG (SS W 1) (TT z 2 1) (TT u 2 1) (TT d 2 1) (DLG (SS W 1) (TT z 1 1) (TT u 1 1) (TT d 1 1) (DLG (SS W 1) (TT z 0 1) (TT u 0 1) (TT d 0 1) (DLG (SS W 0) (TT z 3 0) (TT u 3 0) (TT d 3 0) (DLG (SS W 0) (TT z 2 0) (TT u 2 0) (TT d 2 0) (DLG (SS W 0) (TT z 1 0) (TT u 1 0) (TT d 1 0) (DLG (SS W 0) (TT z 0 0) (TT u 0 0) (TT d 0 0) (RR P))))))))))))))))) = _
  simp only [← R32_RR, DLG_t]
  rfl

/-- What is there after one grid point. -/
theorem out14_C (hb : Blocks m c t u z d lg lb W B) (h0 : ¬ t.val % 16 = 0) (h1 : t.val % 16 = 15) (hp : ∀ h, (outsAt0 m c (t.val - 1) h).2.2.2.1 = (R32 P : FVec Ideal S1x128 .f32)) :
    (outsAt0 m c t.val t.isLt).2.2.2.1 = (R32 (lgAcc W z u d P) : FVec Ideal S1x128 .f32) := by
  rw [outsAt0_C m c t h0 h1]
  dsimp only
  frame_open
  simp (disch := decide) only [↓ View.readCov_skip, ↓ View.readCov_cons_toLoadRect, ↓ View.readCov_fill]
  frame_out
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  change (DLG (SS W 3) (TT z 3 3) (TT u 3 3) (TT d 3 3) (DLG (SS W 3) (TT z 2 3) (TT u 2 3) (TT d 2 3) (DLG (SS W 3) (TT z 1 3) (TT u 1 3) (TT d 1 3) (DLG (SS W 3) (TT z 0 3) (TT u 0 3) (TT d 0 3) (DLG (SS W 2) (TT z 3 2) (TT u 3 2) (TT d 3 2) (DLG (SS W 2) (TT z 2 2) (TT u 2 2) (TT d 2 2) (DLG (SS W 2) (TT z 1 2) (TT u 1 2) (TT d 1 2) (DLG (SS W 2) (TT z 0 2) (TT u 0 2) (TT d 0 2) (DLG (SS W 1) (TT z 3 1) (TT u 3 1) (TT d 3 1) (DLG (SS W 1) (TT z 2 1) (TT u 2 1) (TT d 2 1) (DLG (SS W 1) (TT z 1 1) (TT u 1 1) (TT d 1 1) (DLG (SS W 1) (TT z 0 1) (TT u 0 1) (TT d 0 1) (DLG (SS W 0) (TT z 3 0) (TT u 3 0) (TT d 3 0) (DLG (SS W 0) (TT z 2 0) (TT u 2 0) (TT d 2 0) (DLG (SS W 0) (TT z 1 0) (TT u 1 0) (TT d 1 0) (DLG (SS W 0) (TT z 0 0) (TT u 0 0) (TT d 0 0) (RR P))))))))))))))))) = _
  simp only [← R32_RR, DLG_t]
  rfl

end Cert.Sgu
-- ==== Proof.Out15.lean ====
module

public import proofs.«01_k».proof.Proof.Point

/-! The gradient of the shift after one grid point. -/

@[expose] public section

set_option maxRecDepth 16384
set_option maxHeartbeats 4000000

noncomputable section

namespace Cert.Sgu

open Idealize.ShloMosaic Cert.KernelIdeal Cert.KernelIdeal.Gen

variable {m : (ℓ : Loc nD τ sig) → Buf (Elt Ideal) ℓ} {c : Dev nD} {t : Fin cfg0.N}
  {u z d : ℕ → ℕ → ℝ} {lg lb : ℕ → ℝ} {W : ℕ → ℕ → ℕ → ℝ} {B : ℕ → ℕ → ℝ}

variable {P : ℕ → ℝ}

/-- What is there after one grid point. -/
theorem out15_A (hb : Blocks m c t u z d lg lb W B) (h0 : t.val % 16 = 0) (h1 : ¬ t.val % 16 = 15) :
    (outsAt0 m c t.val t.isLt).2.2.2.2.1 = (R32 (lbAcc W u d (fun _ => 0)) : FVec Ideal S1x128 .f32) := by
  rw [outsAt0_A m c t h0 h1]
  dsimp only
  frame_open
  simp (disch := decide) only [↓ View.readCov_skip, ↓ View.readCov_cons_toLoadRect, ↓ View.readCov_fill]
  frame_out
  simp only [read_unread_whole, zero_row, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  change (DLB (SS W 3) (TT u 3 3) (TT d 3 3) (DLB (SS W 3) (TT u 2 3) (TT d 2 3) (DLB (SS W 3) (TT u 1 3) (TT d 1 3) (DLB (SS W 3) (TT u 0 3) (TT d 0 3) (DLB (SS W 2) (TT u 3 2) (TT d 3 2) (DLB (SS W 2) (TT u 2 2) (TT d 2 2) (DLB (SS W 2) (TT u 1 2) (TT d 1 2) (DLB (SS W 2) (TT u 0 2) (TT d 0 2) (DLB (SS W 1) (TT u 3 1) (TT d 3 1) (DLB (SS W 1) (TT u 2 1) (TT d 2 1) (DLB (SS W 1) (TT u 1 1) (TT d 1 1) (DLB (SS W 1) (TT u 0 1) (TT d 0 1) (DLB (SS W 0) (TT u 3 0) (TT d 3 0) (DLB (SS W 0) (TT u 2 0) (TT d 2 0) (DLB (SS W 0) (TT u 1 0) (TT d 1 0) (DLB (SS W 0) (TT u 0 0) (TT d 0 0) (RR (fun _ => 0)))))))))))))))))) = _
  simp only [← R32_RR, DLB_t]
  rfl

/-- What is there after one grid point. -/
theorem out15_B (hb : Blocks m c t u z d lg lb W B) (h0 : ¬ t.val % 16 = 0) (h1 : ¬ t.val % 16 = 15) (hp : ∀ h, (outsAt0 m c (t.val - 1) h).2.2.2.2.1 = (R32 P : FVec Ideal S1x128 .f32)) :
    (outsAt0 m c t.val t.isLt).2.2.2.2.1 = (R32 (lbAcc W u d P) : FVec Ideal S1x128 .f32) := by
  rw [outsAt0_B m c t h0 h1]
  dsimp only
  frame_open
  simp (disch := decide) only [↓ View.readCov_skip, ↓ View.readCov_cons_toLoadRect, ↓ View.readCov_fill]
  frame_out
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  change (DLB (SS W 3) (TT u 3 3) (TT d 3 3) (DLB (SS W 3) (TT u 2 3) (TT d 2 3) (DLB (SS W 3) (TT u 1 3) (TT d 1 3) (DLB (SS W 3) (TT u 0 3) (TT d 0 3) (DLB (SS W 2) (TT u 3 2) (TT d 3 2) (DLB (SS W 2) (TT u 2 2) (TT d 2 2) (DLB (SS W 2) (TT u 1 2) (TT d 1 2) (DLB (SS W 2) (TT u 0 2) (TT d 0 2) (DLB (SS W 1) (TT u 3 1) (TT d 3 1) (DLB (SS W 1) (TT u 2 1) (TT d 2 1) (DLB (SS W 1) (TT u 1 1) (TT d 1 1) (DLB (SS W 1) (TT u 0 1) (TT d 0 1) (DLB (SS W 0) (TT u 3 0) (TT d 3 0) (DLB (SS W 0) (TT u 2 0) (TT d 2 0) (DLB (SS W 0) (TT u 1 0) (TT d 1 0) (DLB (SS W 0) (TT u 0 0) (TT d 0 0) (RR P))))))))))))))))) = _
  simp only [← R32_RR, DLB_t]
  rfl

/-- What is there after one grid point. -/
theorem out15_C (hb : Blocks m c t u z d lg lb W B) (h0 : ¬ t.val % 16 = 0) (h1 : t.val % 16 = 15) (hp : ∀ h, (outsAt0 m c (t.val - 1) h).2.2.2.2.1 = (R32 P : FVec Ideal S1x128 .f32)) :
    (outsAt0 m c t.val t.isLt).2.2.2.2.1 = (R32 (lbAcc W u d P) : FVec Ideal S1x128 .f32) := by
  rw [outsAt0_C m c t h0 h1]
  dsimp only
  frame_open
  simp (disch := decide) only [↓ View.readCov_skip, ↓ View.readCov_cons_toLoadRect, ↓ View.readCov_fill]
  frame_out
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  change (DLB (SS W 3) (TT u 3 3) (TT d 3 3) (DLB (SS W 3) (TT u 2 3) (TT d 2 3) (DLB (SS W 3) (TT u 1 3) (TT d 1 3) (DLB (SS W 3) (TT u 0 3) (TT d 0 3) (DLB (SS W 2) (TT u 3 2) (TT d 3 2) (DLB (SS W 2) (TT u 2 2) (TT d 2 2) (DLB (SS W 2) (TT u 1 2) (TT d 1 2) (DLB (SS W 2) (TT u 0 2) (TT d 0 2) (DLB (SS W 1) (TT u 3 1) (TT d 3 1) (DLB (SS W 1) (TT u 2 1) (TT d 2 1) (DLB (SS W 1) (TT u 1 1) (TT d 1 1) (DLB (SS W 1) (TT u 0 1) (TT d 0 1) (DLB (SS W 0) (TT u 3 0) (TT d 3 0) (DLB (SS W 0) (TT u 2 0) (TT d 2 0) (DLB (SS W 0) (TT u 1 0) (TT d 1 0) (DLB (SS W 0) (TT u 0 0) (TT d 0 0) (RR P))))))))))))))))) = _
  simp only [← R32_RR, DLB_t]
  rfl

end Cert.Sgu
-- ==== Proof.Out18.lean ====
module

public import proofs.«01_k».proof.Proof.Point

/-! The scratch of the gradient of the biases after one grid point. -/

@[expose] public section

set_option maxRecDepth 16384
set_option maxHeartbeats 4000000

noncomputable section

namespace Cert.Sgu

open Idealize.ShloMosaic Cert.KernelIdeal Cert.KernelIdeal.Gen

variable {m : (ℓ : Loc nD τ sig) → Buf (Elt Ideal) ℓ} {c : Dev nD} {t : Fin cfg0.N}
  {u z d : ℕ → ℕ → ℝ} {lg lb : ℕ → ℝ} {W : ℕ → ℕ → ℕ → ℝ} {B : ℕ → ℕ → ℝ}

variable {P : ℕ → ℕ → ℕ → ℝ}

/-- What is there after one grid point. -/
theorem out18_A (hb : Blocks m c t u z d lg lb W B) (h0 : t.val % 16 = 0) (h1 : ¬ t.val % 16 = 15) :
    (outsAt0 m c t.val t.isLt).2.2.2.2.2.2.2 = (A3 (bAcc u d (fun _ _ _ => 0)) : FVec Ideal S4x128x128 .f32) := by
  rw [outsAt0_A m c t h0 h1]
  dsimp only
  frame_open
  simp (disch := decide) only [↓ View.readCov_skip, ↓ View.readCov_cons_toLoadRect, ↓ View.readCov_fill]
  frame_out
  simp only [View.canon_cons, overlay_overlay]
  simp only [overlay_canon]
  simp only [read_unread_whole, zero_stack, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  refine canon4 _ _ _ _ _ _ _ _ _ _ ?_ ?_ ?_ ?_
  · change (DB (TT u 3 3) (TT d 3 3) (DB (TT u 2 3) (TT d 2 3) (DB (TT u 1 3) (TT d 1 3) (DB (TT u 0 3) (TT d 0 3) (SS (fun _ _ _ => 0) 3))))) = _
    rw [SS_S32, DB_t, DB_t, DB_t, DB_t]
    rfl
  · change (DB (TT u 3 2) (TT d 3 2) (DB (TT u 2 2) (TT d 2 2) (DB (TT u 1 2) (TT d 1 2) (DB (TT u 0 2) (TT d 0 2) (SS (fun _ _ _ => 0) 2))))) = _
    rw [SS_S32, DB_t, DB_t, DB_t, DB_t]
    rfl
  · change (DB (TT u 3 1) (TT d 3 1) (DB (TT u 2 1) (TT d 2 1) (DB (TT u 1 1) (TT d 1 1) (DB (TT u 0 1) (TT d 0 1) (SS (fun _ _ _ => 0) 1))))) = _
    rw [SS_S32, DB_t, DB_t, DB_t, DB_t]
    rfl
  · change (DB (TT u 3 0) (TT d 3 0) (DB (TT u 2 0) (TT d 2 0) (DB (TT u 1 0) (TT d 1 0) (DB (TT u 0 0) (TT d 0 0) (SS (fun _ _ _ => 0) 0))))) = _
    rw [SS_S32, DB_t, DB_t, DB_t, DB_t]
    rfl

/-- What is there after one grid point. -/
theorem out18_B (hb : Blocks m c t u z d lg lb W B) (h0 : ¬ t.val % 16 = 0) (h1 : ¬ t.val % 16 = 15) (hp : ∀ h, (outsAt0 m c (t.val - 1) h).2.2.2.2.2.2.2 = (A3 P : FVec Ideal S4x128x128 .f32)) :
    (outsAt0 m c t.val t.isLt).2.2.2.2.2.2.2 = (A3 (bAcc u d P) : FVec Ideal S4x128x128 .f32) := by
  rw [outsAt0_B m c t h0 h1]
  dsimp only
  frame_open
  simp (disch := decide) only [↓ View.readCov_skip, ↓ View.readCov_cons_toLoadRect, ↓ View.readCov_fill]
  frame_out
  simp only [View.canon_cons, overlay_overlay]
  simp only [overlay_canon]
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  refine canon4 _ _ _ _ _ _ _ _ _ _ ?_ ?_ ?_ ?_
  · change (DB (TT u 3 3) (TT d 3 3) (DB (TT u 2 3) (TT d 2 3) (DB (TT u 1 3) (TT d 1 3) (DB (TT u 0 3) (TT d 0 3) (SS P 3))))) = _
    rw [SS_S32, DB_t, DB_t, DB_t, DB_t]
    rfl
  · change (DB (TT u 3 2) (TT d 3 2) (DB (TT u 2 2) (TT d 2 2) (DB (TT u 1 2) (TT d 1 2) (DB (TT u 0 2) (TT d 0 2) (SS P 2))))) = _
    rw [SS_S32, DB_t, DB_t, DB_t, DB_t]
    rfl
  · change (DB (TT u 3 1) (TT d 3 1) (DB (TT u 2 1) (TT d 2 1) (DB (TT u 1 1) (TT d 1 1) (DB (TT u 0 1) (TT d 0 1) (SS P 1))))) = _
    rw [SS_S32, DB_t, DB_t, DB_t, DB_t]
    rfl
  · change (DB (TT u 3 0) (TT d 3 0) (DB (TT u 2 0) (TT d 2 0) (DB (TT u 1 0) (TT d 1 0) (DB (TT u 0 0) (TT d 0 0) (SS P 0))))) = _
    rw [SS_S32, DB_t, DB_t, DB_t, DB_t]
    rfl

/-- What is there after one grid point. -/
theorem out18_C (hb : Blocks m c t u z d lg lb W B) (h0 : ¬ t.val % 16 = 0) (h1 : t.val % 16 = 15) (hp : ∀ h, (outsAt0 m c (t.val - 1) h).2.2.2.2.2.2.2 = (A3 P : FVec Ideal S4x128x128 .f32)) :
    (outsAt0 m c t.val t.isLt).2.2.2.2.2.2.2 = (A3 (bAcc u d P) : FVec Ideal S4x128x128 .f32) := by
  rw [outsAt0_C m c t h0 h1]
  dsimp only
  frame_open
  simp (disch := decide) only [↓ View.readCov_skip, ↓ View.readCov_cons_toLoadRect, ↓ View.readCov_fill]
  frame_out
  simp only [View.canon_cons, overlay_overlay]
  simp only [overlay_canon]
  simp only [read_unread_whole, hp, hb.hu, hb.hz, hb.hd, hb.hlg, hb.hlb, hb.hW, hb.hB, R32_RR, ldt_0_0, ldt_0_1, ldt_0_2, ldt_0_3, ldt_1_0, ldt_1_1, ldt_1_2, ldt_1_3, ldt_2_0, ldt_2_1, ldt_2_2, ldt_2_3, ldt_3_0, ldt_3_1, ldt_3_2, ldt_3_3, lds_0, lds_1, lds_2, lds_3, ldc_0, ldc_1, ldc_2, ldc_3]
  refine canon4 _ _ _ _ _ _ _ _ _ _ ?_ ?_ ?_ ?_
  · change (DB (TT u 3 3) (TT d 3 3) (DB (TT u 2 3) (TT d 2 3) (DB (TT u 1 3) (TT d 1 3) (DB (TT u 0 3) (TT d 0 3) (SS P 3))))) = _
    rw [SS_S32, DB_t, DB_t, DB_t, DB_t]
    rfl
  · change (DB (TT u 3 2) (TT d 3 2) (DB (TT u 2 2) (TT d 2 2) (DB (TT u 1 2) (TT d 1 2) (DB (TT u 0 2) (TT d 0 2) (SS P 2))))) = _
    rw [SS_S32, DB_t, DB_t, DB_t, DB_t]
    rfl
  · change (DB (TT u 3 1) (TT d 3 1) (DB (TT u 2 1) (TT d 2 1) (DB (TT u 1 1) (TT d 1 1) (DB (TT u 0 1) (TT d 0 1) (SS P 1))))) = _
    rw [SS_S32, DB_t, DB_t, DB_t, DB_t]
    rfl
  · change (DB (TT u 3 0) (TT d 3 0) (DB (TT u 2 0) (TT d 2 0) (DB (TT u 1 0) (TT d 1 0) (DB (TT u 0 0) (TT d 0 0) (SS P 0))))) = _
    rw [SS_S32, DB_t, DB_t, DB_t, DB_t]
    rfl

end Cert.Sgu
-- ==== Proof.Acc.lean ====
module

public import proofs.«01_k».proof.Proof.Sums
public import proofs.«01_k».proof.Proof.Out11
public import proofs.«01_k».proof.Proof.Out12
public import proofs.«01_k».proof.Proof.Out13
public import proofs.«01_k».proof.Proof.Out14
public import proofs.«01_k».proof.Proof.Out15
public import proofs.«01_k».proof.Proof.Out18

/-! What the accumulators hold after each grid point. -/

@[expose] public section

set_option maxRecDepth 16384

noncomputable section

namespace Cert.Sgu

open Idealize.ShloMosaic Cert.KernelIdeal Cert.KernelIdeal.Gen Finset

variable {m : (ℓ : Loc nD τ sig) → Buf (Elt Ideal) ℓ} {c : Dev nD}
  {U Z D : ℕ → ℕ → ℝ} {lg lb : ℕ → ℝ} {W : ℕ → ℕ → ℕ → ℝ} {B : ℕ → ℕ → ℝ}

/-- The gradient of the mixing matrices after a grid point. -/
theorem acc12 (h : Args m c U Z D lg lb W B) : ∀ (n : ℕ) (hn : n < cfg0.N),
    (outsAt0 m c n hn).2.1 = (A3 (wSum U Z D lg lb (n + 1)) : FVec Ideal S4x128x128 .f32)
  | 0, hn => by
    have e := out12_A (blocks h ⟨0, hn⟩) (Nat.zero_mod _) (by show ¬ 0 % 16 = 15; decide)
    rw [← wSum_zero U Z D lg lb] at e
    exact e.trans (by rw [wAcc_sum])
  | n + 1, hn => by
    have hN : n + 1 < 16 := lt_of_lt_of_eq hn N_0
    have ih := acc12 h n (Nat.lt_of_succ_lt hn)
    have h0 : ¬ (n + 1) % 16 = 0 := by omega
    by_cases h1 : (n + 1) % 16 = 15
    · exact (out12_C (blocks h ⟨n + 1, hn⟩) h0 h1 (fun _ => ih)).trans (by rw [wAcc_sum])
    · exact (out12_B (blocks h ⟨n + 1, hn⟩) h0 h1 (fun _ => ih)).trans (by rw [wAcc_sum])

/-- The gradient of the biases, before the row sums, after a grid point. -/
theorem acc18 (h : Args m c U Z D lg lb W B) : ∀ (n : ℕ) (hn : n < cfg0.N),
    (outsAt0 m c n hn).2.2.2.2.2.2.2 = (A3 (bSum U D (n + 1)) : FVec Ideal S4x128x128 .f32)
  | 0, hn => by
    have e := out18_A (blocks h ⟨0, hn⟩) (Nat.zero_mod _) (by show ¬ 0 % 16 = 15; decide)
    rw [← bSum_zero U D] at e
    exact e.trans (by rw [bAcc_sum])
  | n + 1, hn => by
    have hN : n + 1 < 16 := lt_of_lt_of_eq hn N_0
    have ih := acc18 h n (Nat.lt_of_succ_lt hn)
    have h0 : ¬ (n + 1) % 16 = 0 := by omega
    by_cases h1 : (n + 1) % 16 = 15
    · exact (out18_C (blocks h ⟨n + 1, hn⟩) h0 h1 (fun _ => ih)).trans (by rw [bAcc_sum])
    · exact (out18_B (blocks h ⟨n + 1, hn⟩) h0 h1 (fun _ => ih)).trans (by rw [bAcc_sum])

/-- The gradient of the scale after a grid point. -/
theorem acc14 (h : Args m c U Z D lg lb W B) : ∀ (n : ℕ) (hn : n < cfg0.N),
    (outsAt0 m c n hn).2.2.2.1 = (R32 (lgSum U Z D W (n + 1)) : FVec Ideal S1x128 .f32)
  | 0, hn => by
    have e := out14_A (blocks h ⟨0, hn⟩) (Nat.zero_mod _) (by show ¬ 0 % 16 = 15; decide)
    rw [← lgSum_zero U Z D W] at e
    exact e.trans (by rw [lgAcc_sum])
  | n + 1, hn => by
    have hN : n + 1 < 16 := lt_of_lt_of_eq hn N_0
    have ih := acc14 h n (Nat.lt_of_succ_lt hn)
    have h0 : ¬ (n + 1) % 16 = 0 := by omega
    by_cases h1 : (n + 1) % 16 = 15
    · exact (out14_C (blocks h ⟨n + 1, hn⟩) h0 h1 (fun _ => ih)).trans (by rw [lgAcc_sum])
    · exact (out14_B (blocks h ⟨n + 1, hn⟩) h0 h1 (fun _ => ih)).trans (by rw [lgAcc_sum])

/-- The gradient of the shift after a grid point. -/
theorem acc15 (h : Args m c U Z D lg lb W B) : ∀ (n : ℕ) (hn : n < cfg0.N),
    (outsAt0 m c n hn).2.2.2.2.1 = (R32 (lbSum U D W (n + 1)) : FVec Ideal S1x128 .f32)
  | 0, hn => by
    have e := out15_A (blocks h ⟨0, hn⟩) (Nat.zero_mod _) (by show ¬ 0 % 16 = 15; decide)
    rw [← lbSum_zero U D W] at e
    exact e.trans (by rw [lbAcc_sum])
  | n + 1, hn => by
    have hN : n + 1 < 16 := lt_of_lt_of_eq hn N_0
    have ih := acc15 h n (Nat.lt_of_succ_lt hn)
    have h0 : ¬ (n + 1) % 16 = 0 := by omega
    by_cases h1 : (n + 1) % 16 = 15
    · exact (out15_C (blocks h ⟨n + 1, hn⟩) h0 h1 (fun _ => ih)).trans (by rw [lbAcc_sum])
    · exact (out15_B (blocks h ⟨n + 1, hn⟩) h0 h1 (fun _ => ih)).trans (by rw [lbAcc_sum])

/-- The first factor of the product, by token. -/
def fst16 (m : (ℓ : Loc nD τ sig) → Buf (Elt Ideal) ℓ) (c : Dev nD) : FVec Ideal S8192x1024 .bf16 := m ((c.tc : Thread nD τ).loc main_arg6)

/-- The second factor of the product, by token. -/
def snd16 (m : (ℓ : Loc nD τ sig) → Buf (Elt Ideal) ℓ) (c : Dev nD) : FVec Ideal S8192x1024 .bf16 := m ((c.tc : Thread nD τ).loc main_arg7)

/-- A token's product of the two factors' entries, zero past the last token. -/
def prod16 (m : (ℓ : Loc nD τ sig) → Buf (Elt Ideal) ℓ) (c : Dev nD) (i : Fin 1024) (j : Fin 1024) (r : ℕ) : EReal :=
  if hr : r < 8192 then fst16 m c (ix2 ⟨r, hr⟩ i) * snd16 m c (ix2 ⟨r, hr⟩ j) else 0

theorem prod16_blk (t : Fin cfg0.N) (i : Fin 1024) (j : Fin 1024) :
    ∑ r : Fin 512, fst16 m c (ix2 ⟨t.val * 512 + r.val, by have := N16 t; omega⟩ i) * snd16 m c (ix2 ⟨t.val * 512 + r.val, by have := N16 t; omega⟩ j)
      = ∑ r : Fin 512, prod16 m c i j (t.val * 512 + r) := by
  refine Finset.sum_congr rfl fun r _ => ?_
  have ht := N16 t
  have hr : t.val * 512 + r.val < 8192 := by omega
  unfold prod16
  rw [dif_pos hr]

/-- The product of the two matrices over the first tokens, after a grid point. -/
theorem acc16 (i : Fin 1024) (j : Fin 1024) : ∀ (n : ℕ) (hn : n < cfg0.N),
    ((outsAt0 m c n hn).2.2.2.2.2.1 : FVec Ideal S1024x1024 .f32) (ix2 i j) = ∑ r ∈ range (512 * (n + 1)), prod16 m c i j r
  | 0, hn => by
    refine (out16_A (t := ⟨0, hn⟩) (Nat.zero_mod _) (by show ¬ 0 % 16 = 15; decide) _ _ (blk7 _) (blk8 _) i j).trans ?_
    refine (congrArg (0 + ·) (prod16_blk ⟨0, hn⟩ i j)).trans ?_
    rw [next512, Nat.mul_zero, Finset.range_zero, Finset.sum_empty]
    simp only [Nat.zero_mul]
  | n + 1, hn => by
    have hN : n + 1 < 16 := lt_of_lt_of_eq hn N_0
    have ih := acc16 i j n (Nat.lt_of_succ_lt hn)
    have h0 : ¬ (n + 1) % 16 = 0 := by omega
    rw [next512, ← ih]
    by_cases h1 : (n + 1) % 16 = 15
    · refine (out16_C (t := ⟨n + 1, hn⟩) h0 h1 _ _ (blk7 _) (blk8 _) i j).trans ?_
      exact congrArg (_ + ·) (prod16_blk ⟨n + 1, hn⟩ i j)
    · refine (out16_B (t := ⟨n + 1, hn⟩) h0 h1 _ _ (blk7 _) (blk8 _) i j).trans ?_
      exact congrArg (_ + ·) (prod16_blk ⟨n + 1, hn⟩ i j)

theorem prod16_all (i : Fin 1024) (j : Fin 1024) : ∑ r ∈ range 8192, prod16 m c i j r
    = ∑ t : Fin 8192, fst16 m c (ix2 t i) * snd16 m c (ix2 t j) := by
  rw [Finset.sum_range]
  refine Finset.sum_congr rfl fun t _ => ?_
  unfold prod16
  rw [dif_pos t.isLt]

/-- The first factor of the product, by token. -/
def fst17 (m : (ℓ : Loc nD τ sig) → Buf (Elt Ideal) ℓ) (c : Dev nD) : FVec Ideal S8192x2816 .bf16 := m ((c.tc : Thread nD τ).loc main_arg8)

/-- The second factor of the product, by token. -/
def snd17 (m : (ℓ : Loc nD τ sig) → Buf (Elt Ideal) ℓ) (c : Dev nD) : FVec Ideal S8192x1024 .bf16 := m ((c.tc : Thread nD τ).loc main_arg9)

/-- A token's product of the two factors' entries, zero past the last token. -/
def prod17 (m : (ℓ : Loc nD τ sig) → Buf (Elt Ideal) ℓ) (c : Dev nD) (i : Fin 2816) (j : Fin 1024) (r : ℕ) : EReal :=
  if hr : r < 8192 then fst17 m c (ix2 ⟨r, hr⟩ i) * snd17 m c (ix2 ⟨r, hr⟩ j) else 0

theorem prod17_blk (t : Fin cfg0.N) (i : Fin 2816) (j : Fin 1024) :
    ∑ r : Fin 512, fst17 m c (ix2 ⟨t.val * 512 + r.val, by have := N16 t; omega⟩ i) * snd17 m c (ix2 ⟨t.val * 512 + r.val, by have := N16 t; omega⟩ j)
      = ∑ r : Fin 512, prod17 m c i j (t.val * 512 + r) := by
  refine Finset.sum_congr rfl fun r _ => ?_
  have ht := N16 t
  have hr : t.val * 512 + r.val < 8192 := by omega
  unfold prod17
  rw [dif_pos hr]

/-- The product of the two matrices over the first tokens, after a grid point. -/
theorem acc17 (i : Fin 2816) (j : Fin 1024) : ∀ (n : ℕ) (hn : n < cfg0.N),
    ((outsAt0 m c n hn).2.2.2.2.2.2.1 : FVec Ideal S2816x1024 .f32) (ix2 i j) = ∑ r ∈ range (512 * (n + 1)), prod17 m c i j r
  | 0, hn => by
    refine (out17_A (t := ⟨0, hn⟩) (Nat.zero_mod _) (by show ¬ 0 % 16 = 15; decide) _ _ (blk9 _) (blk10 _) i j).trans ?_
    refine (congrArg (0 + ·) (prod17_blk ⟨0, hn⟩ i j)).trans ?_
    rw [next512, Nat.mul_zero, Finset.range_zero, Finset.sum_empty]
    simp only [Nat.zero_mul]
  | n + 1, hn => by
    have hN : n + 1 < 16 := lt_of_lt_of_eq hn N_0
    have ih := acc17 i j n (Nat.lt_of_succ_lt hn)
    have h0 : ¬ (n + 1) % 16 = 0 := by omega
    rw [next512, ← ih]
    by_cases h1 : (n + 1) % 16 = 15
    · refine (out17_C (t := ⟨n + 1, hn⟩) h0 h1 _ _ (blk9 _) (blk10 _) i j).trans ?_
      exact congrArg (_ + ·) (prod17_blk ⟨n + 1, hn⟩ i j)
    · refine (out17_B (t := ⟨n + 1, hn⟩) h0 h1 _ _ (blk9 _) (blk10 _) i j).trans ?_
      exact congrArg (_ + ·) (prod17_blk ⟨n + 1, hn⟩ i j)

theorem prod17_all (i : Fin 2816) (j : Fin 1024) : ∑ r ∈ range 8192, prod17 m c i j r
    = ∑ t : Fin 8192, fst17 m c (ix2 t i) * snd17 m c (ix2 t j) := by
  rw [Finset.sum_range]
  refine Finset.sum_congr rfl fun t _ => ?_
  unfold prod17
  rw [dif_pos t.isLt]

end Cert.Sgu
-- ==== Proof.Final.lean ====
module

public import proofs.«01_k».proof.Proof.Acc
public import Idealize.ShloMosaic.Lib.Pipeline.ValueKit.Partial

/-! What the output arrays hold after the run. -/

@[expose] public section

set_option maxRecDepth 16384

noncomputable section

namespace Cert.Sgu

open Idealize.ShloMosaic Cert.KernelIdeal Cert.KernelIdeal.Gen Finset

variable {m : (ℓ : Loc nD τ sig) → Buf (Elt Ideal) ℓ} {c : Dev nD}
  {U Z D : ℕ → ℕ → ℝ} {lg lb : ℕ → ℝ} {W : ℕ → ℕ → ℕ → ℝ} {B : ℕ → ℕ → ℝ}

theorem block_duR (t i l : ℕ) (Bs : ℕ → ℕ → ℝ) : duR (fun i l => U (t * 512 + i) l) (fun i l => Z (t * 512 + i) l) (fun i l => D (t * 512 + i) l) lg lb W Bs i l
    = duR U Z D lg lb W Bs (t * 512 + i) l := by
  unfold duR
  simp only [tl_blk]
  rw [show (t * 512 + i) / 128 = 4 * t + i / 128 by omega, show (t * 512 + i) % 128 = i % 128 by omega]

theorem block_dzR (t i l : ℕ) : dzR (fun i l => U (t * 512 + i) l) (fun i l => Z (t * 512 + i) l) (fun i l => D (t * 512 + i) l) lg W i l
    = dzR U Z D lg W (t * 512 + i) l := by
  unfold dzR
  simp only [tl_blk]
  rw [show (t * 512 + i) / 128 = 4 * t + i / 128 by omega, show (t * 512 + i) % 128 = i % 128 by omega]

theorem pad_duR (t l : ℕ) (hl : l < 512) : duR U Z D lg lb W (fun g i => if g < 4 then B g i else 0) t l = duR U Z D lg lb W B t l := by
  have h : l / 128 < 4 := by omega
  unfold duR
  simp only [h, if_true]

/-- The gradients one grid point writes, at their place in the array. -/
theorem point11 (h : Args m c U Z D lg lb W B) (t : Fin cfg0.N) (y : S2x512x512.Idx) :
    ((outsAt0 m c t.val t.isLt).1 : FVec Ideal S2x512x512 .bf16) y
      = (((if (y 0).val < 1 then duR U Z D lg lb W B (t.val * 512 + (y 1).val) (y 2).val else dzR U Z D lg W (t.val * 512 + (y 1).val) (y 2).val : ℝ)) : EReal) := by
  have hl : (y 2).val < 512 := (y 2).isLt
  have key : (outsAt0 m c t.val t.isLt).1 = (L3 fun k i l => if k < 1
      then duR (fun i l => U (t.val * 512 + i) l) (fun i l => Z (t.val * 512 + i) l) (fun i l => D (t.val * 512 + i) l) lg lb W (fun g i => if g < 4 then B g i else 0) i l
      else dzR (fun i l => U (t.val * 512 + i) l) (fun i l => Z (t.val * 512 + i) l) (fun i l => D (t.val * 512 + i) l) lg W i l : FVec Ideal S2x512x512 .bf16) := by
    have hN := N16 t
    by_cases h0 : t.val % 16 = 0
    · exact out11_A (blocks h t) h0 (by omega)
    · by_cases h1 : t.val % 16 = 15
      · exact out11_C (blocks h t) h0 h1
      · exact out11_B (blocks h t) h0 h1
  refine (congrFun key y).trans ?_
  simp only [block_duR, block_dzR]
  change ((if (y 0).val < 1 then duR U Z D lg lb W (fun g i => if g < 4 then B g i else 0) (t.val * 512 + (y 1).val) (y 2).val
    else dzR U Z D lg W (t.val * 512 + (y 1).val) (y 2).val : ℝ) : EReal) = _
  rw [pad_duR _ _ hl]

theorem idx11 : ∀ t, win0_11.index t = ![0, t.val, 0] := by decide +kernel

/-- The gradients of the gate and of the gated tokens. -/
theorem arr11 (h : Args m c U Z D lg lb W B) : (dats m 0 c).arrAt 11 cfg0.N
    = (L3 fun k t c => if k < 1 then duR U Z D lg lb W B t c else dzR U Z D lg W t c : FVec Ideal S2x8192x512 .bf16) := by
  refine (dats m 0 c).arrAt_eq_of_covers 11 _ (by decide +kernel) fun t hf y => ?_
  blk_simp
  rw [after0_11]
  refine (point11 h t y).trans ?_
  have hN := N16 t
  have h1 : (y 1).val < 512 := (y 1).isLt
  have e : (win0_11.blk t).view.emb y = (ix3 (y 0 : Fin 2) (⟨t.val * 512 + (y 1).val, by omega⟩ : Fin 8192) (y 2 : Fin 512) : S2x8192x512.Idx) := by
    blk_ext [idx11 t]
  rw [e]
  rfl

/-- The gradient of the mixing matrices. -/
theorem arr12 (h : Args m c U Z D lg lb W B) : (dats m 0 c).arrAt 12 cfg0.N
    = (L3 fun g i j => ∑ n : Fin 64, dw lg lb (tl Z n g) (tl U n g) (tl D n g) i j : FVec Ideal S4x128x128 .f32) := by
  refine (dats m 0 c).arrAt_eq_of_after_last 12 t0_15 (by decide +kernel) _ fun j => ?_
  rw [after0_12]
  refine (congrFun (acc12 h 15 _) _).trans ?_
  exact congrArg (fun x : ℝ => (x : EReal)) (wSum_all U Z D lg lb (j 0).val (j 1).val (j 2).val)

/-- The gradient of the biases, one group in each of the first four lanes. -/
theorem arr13 (h : Args m c U Z D lg lb W B) : (dats m 0 c).arrAt 13 cfg0.N
    = (L2 fun i g => if g < 4 then ∑ n : Fin 64, ∑ l : Fin 128, dmx (tl U n g) (tl D n g) i l else 0 : FVec Ideal S128x128 .f32) := by
  refine (dats m 0 c).arrAt_eq_of_after_last 13 t0_15 (by decide +kernel) _ fun j => ?_
  rw [after0_13]
  refine (congrFun (out13_C (blocks h t0_15) (by decide) (by decide) fun _ => acc18 h 14 _) _).trans ?_
  refine congrArg (fun x : ℝ => (x : EReal)) (?_ : _ = if (j 1).val < 4 then ∑ n : Fin 64, ∑ l : Fin 128, dmx (tl U n (j 1).val) (tl D n (j 1).val) (j 0).val l else 0)
  rw [← bSum_all, ← bAcc_sum U D 15]
  rfl

/-- The gradient of the normalisation's scale. -/
theorem arr14 (h : Args m c U Z D lg lb W B) : (dats m 0 c).arrAt 14 cfg0.N
    = (L2 fun _ l => ∑ t : Fin 8192, ∑ g : Fin 4, dzn (W g) (tl U (t / 128) g) (tl D (t / 128) g) (t % 128) l * xh (fun k => Z t (g * 128 + k)) l : FVec Ideal S1x128 .f32) := by
  refine (dats m 0 c).arrAt_eq_of_after_last 14 t0_15 (by decide +kernel) _ fun j => ?_
  rw [after0_14]
  refine (congrFun (acc14 h 15 _) _).trans ?_
  exact congrArg (fun x : ℝ => (x : EReal)) (lgSum_all U Z D W (j 1).val)

/-- The gradient of the normalisation's shift. -/
theorem arr15 (h : Args m c U Z D lg lb W B) : (dats m 0 c).arrAt 15 cfg0.N
    = (L2 fun _ l => ∑ t : Fin 8192, ∑ g : Fin 4, dzn (W g) (tl U (t / 128) g) (tl D (t / 128) g) (t % 128) l : FVec Ideal S1x128 .f32) := by
  refine (dats m 0 c).arrAt_eq_of_after_last 15 t0_15 (by decide +kernel) _ fun j => ?_
  rw [after0_15]
  refine (congrFun (acc15 h 15 _) _).trans ?_
  exact congrArg (fun x : ℝ => (x : EReal)) (lbSum_all U D W (j 1).val)

end Cert.Sgu
-- ==== Proof.Prods.lean ====
module

public import proofs.«01_k».proof.Proof.Acc
public import Idealize.ShloMosaic.Lib.Pipeline.ValueKit.Partial

/-! What the arrays of the two products over the tokens hold after the run. -/

@[expose] public section

set_option maxRecDepth 16384

noncomputable section

namespace Cert.Sgu

open Idealize.ShloMosaic Cert.KernelIdeal Cert.KernelIdeal.Gen Finset

variable {m : (ℓ : Loc nD τ sig) → Buf (Elt Ideal) ℓ} {c : Dev nD}
  {U Z D : ℕ → ℕ → ℝ} {lg lb : ℕ → ℝ} {W : ℕ → ℕ → ℕ → ℝ} {B : ℕ → ℕ → ℝ}

theorem block_duR (t i l : ℕ) (Bs : ℕ → ℕ → ℝ) : duR (fun i l => U (t * 512 + i) l) (fun i l => Z (t * 512 + i) l) (fun i l => D (t * 512 + i) l) lg lb W Bs i l
    = duR U Z D lg lb W Bs (t * 512 + i) l := by
  unfold duR
  simp only [tl_blk]
  rw [show (t * 512 + i) / 128 = 4 * t + i / 128 by omega, show (t * 512 + i) % 128 = i % 128 by omega]

theorem block_dzR (t i l : ℕ) : dzR (fun i l => U (t * 512 + i) l) (fun i l => Z (t * 512 + i) l) (fun i l => D (t * 512 + i) l) lg W i l
    = dzR U Z D lg W (t * 512 + i) l := by
  unfold dzR
  simp only [tl_blk]
  rw [show (t * 512 + i) / 128 = 4 * t + i / 128 by omega, show (t * 512 + i) % 128 = i % 128 by omega]

theorem pad_duR (t l : ℕ) (hl : l < 512) : duR U Z D lg lb W (fun g i => if g < 4 then B g i else 0) t l = duR U Z D lg lb W B t l := by
  have h : l / 128 < 4 := by omega
  unfold duR
  simp only [h, if_true]

/-- The product over the tokens that is the gradient of the output projection's weights. -/
@[irreducible] def prodO (a b : FVec Ideal S8192x1024 .bf16) (i j : Fin 1024) : EReal := ∑ t : Fin 8192, a (ix2 t i) * b (ix2 t j)

/-- The product over the tokens that is the gradient of the projection's second half. -/
@[irreducible] def prodP (a : FVec Ideal S8192x2816 .bf16) (b : FVec Ideal S8192x1024 .bf16) (i : Fin 2816) (j : Fin 1024) : EReal := ∑ t : Fin 8192, a (ix2 t i) * b (ix2 t j)

/-- The first product, complete after the last grid point. -/
theorem last16 (i j : Fin 1024) (hn) : ((outsAt0 m c 15 hn).2.2.2.2.2.1 : FVec Ideal S1024x1024 .f32) (ix2 i j) = prodO (fst16 m c) (snd16 m c) i j := by
  rw [acc16]
  unfold prodO
  exact prod16_all i j

/-- The second product, complete after the last grid point. -/
theorem lastp17 (i : Fin 2816) (j : Fin 1024) (hn) : ((outsAt0 m c 15 hn).2.2.2.2.2.2.1 : FVec Ideal S2816x1024 .f32) (ix2 i j) = prodP (fst17 m c) (snd17 m c) i j := by
  rw [acc17]
  unfold prodP
  exact prod17_all i j

/-- The gradient of the output projection's weights. -/
theorem arr16 : (dats m 0 c).arrAt 16 cfg0.N
    = (fun i => prodO (fst16 m c) (snd16 m c) (i 0) (i 1) : FVec Ideal S1024x1024 .f32) := by
  refine (dats m 0 c).arrAt_eq_of_after_last 16 t0_15 (by decide +kernel) _ fun j => ?_
  rw [after0_16]
  have e : (fun a => ⟨(j a).val, (j a).isLt⟩ : S1024x1024.Idx) = ix2 (j 0 : Fin 1024) (j 1 : Fin 1024) := by
    funext a; match a with | 0 => rfl | 1 => rfl
  exact (congrArg ((outsAt0 m c 15 t0_15.isLt).2.2.2.2.2.1 : FVec Ideal S1024x1024 .f32) e).trans (last16 (j 0 : Fin 1024) (j 1 : Fin 1024) _)

/-- The second product is written back after the last grid point only. -/
theorem last17 : ∀ t, (cfg0.win 17).flush t = true → t = t0_15 := by decide +kernel

/-- … to the second half of its array. -/
theorem idx17 : win0_17.index t0_15 = ![1, 0] := by decide +kernel

/-- The array of the projection's gradient enters with the gate's half in it. -/
theorem V_v2_6 : V m c main_v2_6 = m ((c.tc : Thread nD τ).loc main_arg10) := by
  unfold V
  simp only [hostOps0, hostOps0_1, hostOps0_2, List.flatten_cons, List.flatten_nil, List.append_nil, List.cons_append,
      List.nil_append, StableHlo.after_cons, StableHlo.after_nil]
  rfl

/-- The gradient of the projection's weights: the gate's half as given, the other half the product. -/
theorem arr17 : (dats m 0 c).arrAt 17 cfg0.N = projR (fst17 m c) (snd17 m c) (m ((c.tc : Thread nD τ).loc main_arg10)) := by
  refine ((dats m 0 c).arrAt_eq_of_coversWhere 17
    (fun i : S5632x1024.Idx => prodP (fst17 m c) (snd17 m c) ⟨(i 0).val - 2816, low_row i⟩ (i 1))
    (P := fun i : S5632x1024.Idx => 1 ≤ (i 0).val / 2816) (fun β => 1 ≤ β (0 : Fin _)) (by decide +kernel)
    (fun t hf y => ?_) (fun j => by blk_simp [Pipeline.Window.cell_apply])).trans ?_
  · obtain rfl := last17 t hf
    rw [after0_17]
    have hy : (y 0).val < 2816 := (y 0).isLt
    have e : (win0_17.blk t0_15).view.emb y = (ix2 (⟨2816 + (y 0).val, by omega⟩ : Fin 5632) (y 1 : Fin 1024) : S5632x1024.Idx) := by
      blk_ext [idx17]
    rw [e]
    have e1 : ((cfg0.win 17).xinj (cfg0.grid.coords t0_15) y : S2816x1024.Idx) = ix2 (y 0 : Fin 2816) (y 1 : Fin 1024) := by
      funext a; match a with | 0 => rfl | 1 => rfl
    have e2 : (⟨(2816 + (y 0).val) - 2816, by omega⟩ : Fin 2816) = (y 0 : Fin 2816) := Fin.ext (Nat.add_sub_cancel_left _ _)
    exact (congrArg ((outsAt0 m c 15 t0_15.isLt).2.2.2.2.2.2.1 : FVec Ideal S2816x1024 .f32) e1).trans
      ((lastp17 (y 0 : Fin 2816) (y 1 : Fin 1024) _).trans
        (congrArg (fun k : Fin 2816 => prodP (fst17 m c) (snd17 m c) k (y 1 : Fin 1024)) e2.symm))
  · funext i
    unfold projR
    by_cases hi : (i 0).val < 2816
    · rw [if_pos hi, if_neg (by omega), A_eq]
      exact congrFun V_v2_6 i
    · rw [if_neg hi, if_pos (by omega)]
      unfold prodP
      rfl

end Cert.Sgu
-- ==== Proof.Finite.lean ====
module

public import Idealize.ShloMosaic.Lib.ReduceAll
public import Idealize.ShloMosaic.Lib.IdealHost

/-! An array that a precondition calls finite holds real numbers. -/

@[expose] public section

noncomputable section

namespace Cert.Sgu

open Idealize.ShloMosaic

/-- The bits of the infinity that the precondition compares with. -/
theorem bits_inf : Ideal.ofBits .f32 0x7F800000#32 = (⊤ : EReal) := by
  simp [Ideal.ofBits, Ideal.ieee]

/-- An extended real whose absolute value is below infinity is a real number. -/
theorem real_of_abs_lt {x : EReal} (h : max x (-x) < ⊤) : ∃ r : ℝ, x = (r : EReal) := by
  induction x with
  | bot => simp at h
  | top => simp at h
  | coe r => exact ⟨r, rfl⟩

/-- An array whose entries' absolute values are all below infinity holds real numbers. -/
theorem all_finite {s : Shape} {ax : List (Fin s.rank)} (x : FVec Ideal s .f32) (hb : (⟨0, ![]⟩ : Shape).BroadcastsInDim s (![] : Fin 0 → Fin s.rank))
    (hr : s.ReducesTo ax ⟨0, ![]⟩) (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .f32 0x7F800000#32))) (constantI ⟨0, ![]⟩ 1 1#1) hr hu j = 1#1)
    (i : s.Idx) : ∃ r : ℝ, x i = (r : EReal) := by
  have e := Host.reduce_andi_all _ _ _ _ j h i
  have e' : BitVec.ofBool (decide (max (x i) (-(x i)) < Ideal.ofBits .f32 0x7F800000#32)) = 1#1 := e
  rw [bits_inf] at e'
  refine real_of_abs_lt ?_
  by_contra hn
  rw [decide_eq_false hn] at e'
  exact absurd e' (by decide)

end Cert.Sgu
-- ==== Proof.Pre.lean ====
module

public import proofs.«01_k».proof.Pre_finite_inputs
public import proofs.«01_k».proof.Proof.Inputs
public import proofs.«01_k».proof.Proof.Finite
public import Idealize.ShloMosaic.Lib.ReduceAll
public import Idealize.ShloMosaic.Lib.Affine

/-! What the precondition says: the arguments of the gating unit hold real numbers. -/

@[expose] public section

set_option maxRecDepth 16384

noncomputable section

namespace Cert.Sgu

open Idealize.ShloMosaic

/-- The shape relations of the precondition's operations. -/
instance preFacts : Cert.Pre_finite_inputs.Facts where
  slices_S8192x2560_S8192x1024_0_1536 := by decide
  bcast_S_S8192x1024 := by decide
  reducesTo_S8192x1024_S_d0_1 := by decide
  h_S_ := by decide
  bcast_S_S8192x512 := by decide
  reducesTo_S8192x512_S_d0_1 := by decide
  bcast_S_S1x128 := by decide
  reducesTo_S1x128_S_d0_1 := by decide
  bcast_S_S4x128x128 := by decide
  reducesTo_S4x128x128_S_d0_1_2 := by decide
  bcast_S_S4x128 := by decide
  reducesTo_S4x128_S_d0_1 := by decide

/-- A matrix of real numbers is one of them indexed by all the natural numbers. -/
theorem real2 {a b : ℕ} (x : FVec Ideal ⟨2, ![a, b]⟩ .f32) (h : ∀ i, ∃ r : ℝ, x i = (r : EReal)) : ∃ f : ℕ → ℕ → ℝ, x = A2 f := by
  choose g hg using h
  refine ⟨fun i j => if h : i < a ∧ j < b then g (ix2 ⟨i, h.1⟩ ⟨j, h.2⟩) else 0, ?_⟩
  funext y
  have hy : (y 0).val < a ∧ (y 1).val < b := ⟨(y 0).isLt, (y 1).isLt⟩
  show _ = (((if h : (y 0).val < a ∧ (y 1).val < b then g (ix2 ⟨(y 0).val, h.1⟩ ⟨(y 1).val, h.2⟩) else 0 : ℝ)) : EReal)
  have e : y = ix2 ⟨(y 0).val, hy.1⟩ ⟨(y 1).val, hy.2⟩ := by
    funext k; match k with | 0 => rfl | 1 => rfl
  rw [dif_pos hy, ← hg, ← e]

/-- The same of a stack of matrices. -/
theorem real3 {a b c : ℕ} (x : FVec Ideal ⟨3, ![a, b, c]⟩ .f32) (h : ∀ i, ∃ r : ℝ, x i = (r : EReal)) : ∃ f : ℕ → ℕ → ℕ → ℝ, x = A3 f := by
  choose g hg using h
  refine ⟨fun i j k => if h : i < a ∧ j < b ∧ k < c then g (ix3 ⟨i, h.1⟩ ⟨j, h.2.1⟩ ⟨k, h.2.2⟩) else 0, ?_⟩
  funext y
  have hy : (y 0).val < a ∧ (y 1).val < b ∧ (y 2).val < c := ⟨(y 0).isLt, (y 1).isLt, (y 2).isLt⟩
  show _ = (((if h : (y 0).val < a ∧ (y 1).val < b ∧ (y 2).val < c then g (ix3 ⟨(y 0).val, h.1⟩ ⟨(y 1).val, h.2.1⟩ ⟨(y 2).val, h.2.2⟩) else 0 : ℝ)) : EReal)
  have e : y = ix3 ⟨(y 0).val, hy.1⟩ ⟨(y 1).val, hy.2.1⟩ ⟨(y 2).val, hy.2.2⟩ := by
    funext k; match k with | 0 => rfl | 1 => rfl | 2 => rfl
  rw [dif_pos hy, ← hg, ← e]

/-- The same of a row. -/
theorem real1 (x : FVec Ideal ⟨2, ![1, 128]⟩ .f32) (h : ∀ i, ∃ r : ℝ, x i = (r : EReal)) : ∃ f : ℕ → ℝ, x = R32 f := by
  obtain ⟨f, rfl⟩ := real2 x h
  refine ⟨f 0, ?_⟩
  funext y
  idx_vars y
  have e : y0.val = 0 := by omega
  show ((f y0.val y1.val : ℝ) : EReal) = ((f 0 y1.val : ℝ) : EReal)
  rw [e]

open Cert.KernelIdeal in
/-- Under the precondition the arguments of the gating unit hold real numbers. -/
theorem args_of_pre (m : (ℓ : Loc nD τ sig) → Buf (Elt Ideal) ℓ) (c : Dev nD)
    (a6 a7 a9 : FVec Ideal S8192x1024 .bf16) (a8 : FVec Ideal S8192x2816 .bf16) (a10 : FVec Ideal S5632x1024 .f32)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) a6 a7 a8 a9 a10 = fun _ => 1#1) :
    ∃ U Z D lg lb W B, Args m c U Z D lg lb W B := by
  have h' := congrFun h (fun a : Fin 0 => a.elim0)
  unfold Cert.Pre_finite_inputs.fn Cert.Pre_finite_inputs.fn_part1 at h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  have g0 := all_finite _ _ _ _ _ h0
  obtain ⟨D, hD⟩ := real2 _ (all_finite _ _ _ _ _ h1)
  obtain ⟨lg, hlg⟩ := real1 _ (all_finite _ _ _ _ _ h2)
  obtain ⟨lb, hlb⟩ := real1 _ (all_finite _ _ _ _ _ h3)
  obtain ⟨W, hW⟩ := real3 _ (all_finite _ _ _ _ _ h4)
  obtain ⟨B, hB⟩ := real2 _ (all_finite _ _ _ _ _ h5)
  obtain ⟨P, hP⟩ := real2 _ g0
  refine ⟨P, fun t k => P t (512 + k), D, lg, lb, W, B, fun t k => ?_, fun t k => ?_, hD, hlg, hlb, hW, hB⟩
  · refine Eq.trans ?_ (congrFun hP (ix2 t ⟨k.val, by omega⟩))
    refine congrArg (m ((c.tc : Thread nD τ).loc main_arg0) : FVec Ideal S8192x2560 .f32) ?_
    funext a
    match a with
    | 0 => exact Fin.ext (Nat.zero_add _).symm
    | 1 => rfl
  · refine Eq.trans ?_ (congrFun hP (ix2 t ⟨512 + k.val, by omega⟩))
    refine congrArg (m ((c.tc : Thread nD τ).loc main_arg0) : FVec Ideal S8192x2560 .f32) ?_
    funext a
    match a with
    | 0 => exact Fin.ext (Nat.zero_add _).symm
    | 1 => exact Fin.ext (by show 2048 + k.val = 1536 + (512 + k.val); omega)

end Cert.Sgu
-- ==== Proof.Agree.lean ====
module

public import proofs.«01_k».proof.Proof.Final
public import proofs.«01_k».proof.Proof.Prods
public import proofs.«01_k».proof.Proof.Pre
public import proofs.«01_k».proof.Proof.Gen.ReferenceIdeal.Run

/-! The kernel and the reference, from memories agreeing on the arguments, end with equal results. -/

@[expose] public section

set_option maxRecDepth 16384

noncomputable section

namespace Cert.Sgu

open Idealize.ShloMosaic Idealize.SL.Sem StableHlo

section Reference

open Cert.ReferenceIdeal Cert.ReferenceIdeal.Value Cert.ReferenceIdeal.Gen

variable {V0 : Valuation τ sig (Elt Ideal)} {U Z : ℕ → ℕ → ℝ}

/-- The gate's half of the reference's slices. -/
theorem ref_hU (a0 : FVec Ideal S8192x2560 .f32) (h0 : V0 (Proc.devRef .tc main_arg0) = a0)
    (hU : ∀ (t : Fin 8192) (k : Fin 512), a0 (ix2 t ⟨1536 + k.val, by omega⟩) = ((U t k : ℝ) : EReal)) : res_main_v3 V0 = A2 (a := 8192) (b := 512) U := by
  funext y
  idx_vars y
  refine Eq.trans ?_ (hU y0 y1)
  unfold res_main_v3
  rw [h0]
  refine congrArg a0 ?_
  funext a
  match a with
  | 0 => exact Fin.ext (Nat.zero_add _)
  | 1 => rfl

/-- The gated tokens' half of the reference's slices. -/
theorem ref_hZ (a0 : FVec Ideal S8192x2560 .f32) (h0 : V0 (Proc.devRef .tc main_arg0) = a0)
    (hZ : ∀ (t : Fin 8192) (k : Fin 512), a0 (ix2 t ⟨2048 + k.val, by omega⟩) = ((Z t k : ℝ) : EReal)) : res_main_v4 V0 = A2 (a := 8192) (b := 512) Z := by
  funext y
  idx_vars y
  refine Eq.trans ?_ (hZ y0 y1)
  unfold res_main_v4
  rw [h0]
  refine congrArg a0 ?_
  funext a
  match a with
  | 0 => exact Fin.ext (Nat.zero_add _)
  | 1 => rfl

end Reference

section Both

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- A buffer of the reference at the start. -/
abbrev refAt (m' : (ℓ : Loc Cert.ReferenceIdeal.nD Cert.ReferenceIdeal.τ Cert.ReferenceIdeal.sig) → Buf (Elt Ideal) ℓ) (c : Dev Cert.ReferenceIdeal.nD)
    (r : Ref Cert.ReferenceIdeal.sig .tc) := m' ((c.tc : Thread Cert.ReferenceIdeal.nD Cert.ReferenceIdeal.τ).loc r)

/-- A buffer of the kernel's program at the start. -/
abbrev kerAt (m : (ℓ : Loc Cert.KernelIdeal.nD Cert.KernelIdeal.τ Cert.KernelIdeal.sig) → Buf (Elt Ideal) ℓ) (c : Dev Cert.KernelIdeal.nD)
    (r : Ref Cert.KernelIdeal.sig .tc) := m ((c.tc : Thread Cert.KernelIdeal.nD Cert.KernelIdeal.τ).loc r)

/-- The reference's seven results are what the kernel's seven output arrays hold. -/
theorem agree {U Z D : ℕ → ℕ → ℝ} {lg lb : ℕ → ℝ} {W : ℕ → ℕ → ℕ → ℝ} {B : ℕ → ℕ → ℝ} (h : Args m c U Z D lg lb W B)
    (hag : refAt m' c Cert.ReferenceIdeal.main_arg0 = kerAt m c Cert.KernelIdeal.main_arg0
      ∧ refAt m' c Cert.ReferenceIdeal.main_arg1 = kerAt m c Cert.KernelIdeal.main_arg1
      ∧ refAt m' c Cert.ReferenceIdeal.main_arg2 = kerAt m c Cert.KernelIdeal.main_arg2
      ∧ refAt m' c Cert.ReferenceIdeal.main_arg3 = kerAt m c Cert.KernelIdeal.main_arg3
      ∧ refAt m' c Cert.ReferenceIdeal.main_arg4 = kerAt m c Cert.KernelIdeal.main_arg4
      ∧ refAt m' c Cert.ReferenceIdeal.main_arg5 = kerAt m c Cert.KernelIdeal.main_arg5
      ∧ refAt m' c Cert.ReferenceIdeal.main_arg6 = kerAt m c Cert.KernelIdeal.main_arg6
      ∧ refAt m' c Cert.ReferenceIdeal.main_arg7 = kerAt m c Cert.KernelIdeal.main_arg7
      ∧ refAt m' c Cert.ReferenceIdeal.main_arg8 = kerAt m c Cert.KernelIdeal.main_arg8
      ∧ refAt m' c Cert.ReferenceIdeal.main_arg9 = kerAt m c Cert.KernelIdeal.main_arg9
      ∧ refAt m' c Cert.ReferenceIdeal.main_arg10 = kerAt m c Cert.KernelIdeal.main_arg10) :
    Cert.ReferenceIdeal.Value.val4 (launchContents m' c) (Proc.devRef .tc Cert.ReferenceIdeal.main_v180) = (Cert.KernelIdeal.Gen.dats m 0 c).arrAt 11 Cert.KernelIdeal.cfg0.N
    ∧ Cert.ReferenceIdeal.Value.val4 (launchContents m' c) (Proc.devRef .tc Cert.ReferenceIdeal.main_v106) = (Cert.KernelIdeal.Gen.dats m 0 c).arrAt 12 Cert.KernelIdeal.cfg0.N
    ∧ Cert.ReferenceIdeal.Value.val4 (launchContents m' c) (Proc.devRef .tc Cert.ReferenceIdeal.main_v182) = (Cert.KernelIdeal.Gen.dats m 0 c).arrAt 13 Cert.KernelIdeal.cfg0.N
    ∧ Cert.ReferenceIdeal.Value.val4 (launchContents m' c) (Proc.devRef .tc Cert.ReferenceIdeal.main_v183) = (Cert.KernelIdeal.Gen.dats m 0 c).arrAt 14 Cert.KernelIdeal.cfg0.N
    ∧ Cert.ReferenceIdeal.Value.val4 (launchContents m' c) (Proc.devRef .tc Cert.ReferenceIdeal.main_v184) = (Cert.KernelIdeal.Gen.dats m 0 c).arrAt 15 Cert.KernelIdeal.cfg0.N
    ∧ Cert.ReferenceIdeal.Value.val4 (launchContents m' c) (Proc.devRef .tc Cert.ReferenceIdeal.main_v170) = (Cert.KernelIdeal.Gen.dats m 0 c).arrAt 16 Cert.KernelIdeal.cfg0.N
    ∧ Cert.ReferenceIdeal.Value.val4 (launchContents m' c) (Proc.devRef .tc Cert.ReferenceIdeal.main_v187) = (Cert.KernelIdeal.Gen.dats m 0 c).arrAt 17 Cert.KernelIdeal.cfg0.N := by
  obtain ⟨e0, e1, e2, e3, e4, e5, e6, e7, e8, e9, e10⟩ := hag
  have hU := ref_hU (V0 := launchContents m' c) _ e0 h.hU
  have hZ := ref_hZ (V0 := launchContents m' c) _ e0 h.hZ
  have hD := e1.trans h.hD
  have hlg := e2.trans h.hlg
  have hlb := e3.trans h.hlb
  have hW := e4.trans h.hW
  have hB := e5.trans h.hB
  refine ⟨(ref_uz _ U Z D lg lb W B hU hZ hD hlg hlb hW hB).trans (arr11 h).symm, (ref_w _ U Z D lg lb W B hU hZ hD hlg hlb hW hB).trans (arr12 h).symm,
    (ref_b _ U Z D lg lb W B hU hZ hD hlg hlb hW hB).trans (arr13 h).symm, (ref_lg _ U Z D lg lb W B hU hZ hD hlg hlb hW hB).trans (arr14 h).symm,
    (ref_lb _ U Z D lg lb W B hU hZ hD hlg hlb hW hB).trans (arr15 h).symm,
    (ref_o (V0 := launchContents m' c) (fst16 m c) (snd16 m c) e6 e7).trans (Eq.trans ?_ arr16.symm),
    (ref_p (V0 := launchContents m' c) (fst17 m c) (snd17 m c) _ e8 e9 e10).trans arr17.symm⟩
  unfold prodO
  rfl

end Both

end Cert.Sgu
-- ==== Proof.GateUp.lean ====
module

public import proofs.«01_k».proof.Proof.Lift
public import proofs.«01_k».proof.Proof.Gen.Kernel3Ideal.Value
public import proofs.«01_k».proof.Proof.Gen.Reference3Ideal.Run
public import Idealize.ShloMosaic.Lib.Pipeline.ValueKit

/-! The feed-forward block's projection to its gate and its values, and the gated product. -/

@[expose] public section

set_option maxRecDepth 16384

noncomputable section

namespace Cert.GateUp

open Idealize.ShloMosaic

section

open Cert.Reference3Ideal Cert.Reference3Ideal.Gen

/-- An entry of the projection. -/
@[irreducible] def proj (x : FVec Ideal S8192x1024 .bf16) (w : FVec Ideal S5632x1024 .bf16) (i : Fin 8192) (k : Fin 5632) : EReal :=
  ∑ q : Fin 1024, x (ix2 i q) * w (ix2 k q)

/-- An entry of the gate. -/
def gate (x : FVec Ideal S8192x1024 .bf16) (w : FVec Ideal S5632x1024 .bf16) (i : Fin 8192) (k : Fin 2816) : EReal :=
  proj x w i ⟨k.val, by omega⟩

/-- An entry of the values. -/
def value (x : FVec Ideal S8192x1024 .bf16) (w : FVec Ideal S5632x1024 .bf16) (i : Fin 8192) (k : Fin 2816) : EReal :=
  proj x w i ⟨2816 + k.val, by omega⟩

/-- The logistic function through the hyperbolic tangent, at every extended real. -/
theorem sigmoid (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.logistic_bot]
    show ((1 / 2 : ℝ) : EReal) * ((-1 : ℝ) : EReal) + ((1 / 2 : ℝ) : EReal) = 0
    rw [← EReal.coe_mul, ← EReal.coe_add]
    norm_num
  | top =>
    rw [EReal.coe_mul_top_of_pos (by norm_num), Ideal.logistic_top]
    show ((1 / 2 : ℝ) : EReal) * ((1 : ℝ) : EReal) + ((1 / 2 : ℝ) : EReal) = 1
    rw [← EReal.coe_mul, ← EReal.coe_add]
    norm_num
  | coe r =>
    rw [Ideal.logistic_coe, ← EReal.coe_mul]
    show ((1 / 2 : ℝ) : EReal) * ((Real.tanh (1 / 2 * r) : ℝ) : EReal) + ((1 / 2 : ℝ) : EReal) = _
    rw [← EReal.coe_mul, ← EReal.coe_add]
    refine congrArg (fun q : ℝ => (q : EReal)) ?_
    rw [Real.tanh_eq_sinh_div_cosh, Real.sinh_eq, Real.cosh_eq]
    have e : Real.exp (-r) = Real.exp (-(1 / 2 * r)) * Real.exp (-(1 / 2 * r)) := by rw [← Real.exp_add]; ring_nf
    have p : Real.exp (1 / 2 * r) * Real.exp (-(1 / 2 * r)) = 1 := by rw [← Real.exp_add]; simp
    have p1 := Real.exp_pos (1 / 2 * r)
    have p2 := Real.exp_pos (-(1 / 2 * r))
    rw [e]
    field_simp
    have p' : Real.exp (r / 2) * Real.exp (-(r / 2)) = 1 := by rw [← Real.exp_add]; simp
    linear_combination 2 * Real.exp (-(r / 2)) * p'

/-- The reference's projection. -/
abbrev P (x : FVec Ideal S8192x1024 .bf16) (w : FVec Ideal S5632x1024 .bf16) : FVec Ideal S8192x5632 .f32 :=
  Host.dotGeneral (F := Ideal) dot_S8192x1024_S1024x5632_S8192x5632_1_0_0_1_n_n none (extf .f32 x bitsLt_bf16_f32) (transpose S1024x5632 [1, 0] (extf .f32 w bitsLt_bf16_f32) transposes_S5632x1024_S1024x5632_1_0)

theorem P_apply (x : FVec Ideal S8192x1024 .bf16) (w : FVec Ideal S5632x1024 .bf16) (i : Fin 8192) (k : Fin 5632) : P x w (ix2 i k) = proj x w i k := by
  unfold proj
  pointwise [P]

theorem lo (x : FVec Ideal S8192x1024 .bf16) (w : FVec Ideal S5632x1024 .bf16) (i : Fin 8192) (k : Fin 2816) :
    (extractStridedSlice S8192x2816 ![0, 0] (P x w) slices_S8192x5632_S8192x2816_0_0 : FVec Ideal S8192x2816 .f32) (ix2 i k) = gate x w i k := by
  unfold gate
  rw [← P_apply]
  generalize P x w = p
  pointwise []

theorem hi (x : FVec Ideal S8192x1024 .bf16) (w : FVec Ideal S5632x1024 .bf16) (i : Fin 8192) (k : Fin 2816) :
    (extractStridedSlice S8192x2816 ![0, 2816] (P x w) slices_S8192x5632_S8192x2816_0_2816 : FVec Ideal S8192x2816 .f32) (ix2 i k) = value x w i k := by
  unfold value
  rw [← P_apply]
  generalize P x w = p
  pointwise []

/-- The reference's gate. -/
theorem ref0 (x : FVec Ideal S8192x1024 .bf16) (w : FVec Ideal S5632x1024 .bf16) :
    (truncf .bf16 (extractStridedSlice S8192x2816 ![0, 0] (P x w) slices_S8192x5632_S8192x2816_0_0) bitsLt_bf16_f32 : FVec Ideal S8192x2816 .bf16)
      = fun i => gate x w (i 0) (i 1) := by
  funext i
  idx_vars i
  exact lo x w i0 i1

/-- The reference's values. -/
theorem ref1 (x : FVec Ideal S8192x1024 .bf16) (w : FVec Ideal S5632x1024 .bf16) :
    (truncf .bf16 (extractStridedSlice S8192x2816 ![0, 2816] (P x w) slices_S8192x5632_S8192x2816_0_2816) bitsLt_bf16_f32 : FVec Ideal S8192x2816 .bf16)
      = fun i => value x w (i 0) (i 1) := by
  funext i
  idx_vars i
  exact hi x w i0 i1

/-- The reference's gated product, from its halves. -/
theorem gated (g u : FVec Ideal S8192x2816 .f32) (i : Fin 8192) (k : Fin 2816) :
    (truncf .bf16 (mulf (mulf g (Host.divf (broadcastInDim S8192x2816 ![] bcast_S_S8192x2816 (constant S_ .f32 0x3F800000#32)) (addf (broadcastInDim S8192x2816 ![] bcast_S_S8192x2816 (constant S_ .f32 0x3F800000#32)) (Host.exp (Host.negf g))))) u) bitsLt_bf16_f32 : FVec Ideal S8192x2816 .bf16) (ix2 i k)
      = g (ix2 i k) * Ideal.logistic (g (ix2 i k)) * u (ix2 i k) := by
  pointwise []
  unfold Ideal.logistic
  rfl

/-- The reference's gated product. -/
theorem ref2 (x : FVec Ideal S8192x1024 .bf16) (w : FVec Ideal S5632x1024 .bf16) :
    (truncf .bf16 (mulf (mulf (extractStridedSlice S8192x2816 ![0, 0] (P x w) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (P x w) slices_S8192x5632_S8192x2816_0_0)))))) (extractStridedSlice S8192x2816 ![0, 2816] (P x w) slices_S8192x5632_S8192x2816_0_2816)) bitsLt_bf16_f32 : FVec Ideal S8192x2816 .bf16)
      = fun i => gate x w (i 0) (i 1) * Ideal.logistic (gate x w (i 0) (i 1)) * value x w (i 0) (i 1) := by
  funext i
  idx_vars i
  rw [gated, lo, hi]

end

section

open Cert.Kernel3Ideal Cert.Kernel3Ideal.Gen

variable (m : (ℓ : Loc nD τ sig) → Buf (Elt Ideal) ℓ) (c : Dev nD)

/-- The tokens. -/
abbrev tok : FVec Ideal S8192x1024 .bf16 := m ((c.tc : Thread nD τ).loc main_arg0)

/-- The projection's weights, one row per output. -/
abbrev wts : FVec Ideal S5632x1024 .bf16 := m ((c.tc : Thread nD τ).loc main_arg1)

theorem idx : ∀ t, win0_0.index t = ![t.val % 16, 0] ∧ win0_1.index t = ![t.val / 16, 0] ∧ win0_2.index t = ![t.val / 16 + 2, 0]
    ∧ win0_3.index t = ![t.val % 16, t.val / 16] ∧ win0_4.index t = ![t.val % 16, t.val / 16] ∧ win0_5.index t = ![t.val % 16, t.val / 16] := by
  decide +kernel

theorem N32 (t : Fin cfg0.N) : t.val < 32 := lt_of_lt_of_eq t.isLt N_0

/-- The row of an entry of a grid point's block. -/
abbrev row (t : Fin cfg0.N) (i : Fin 512) : Fin 8192 := ⟨t.val % 16 * 512 + i.val, by omega⟩

/-- The column of an entry of a grid point's block. -/
abbrev col (t : Fin cfg0.N) (k : Fin 1408) : Fin 2816 := ⟨t.val / 16 * 1408 + k.val, by have := N32 t; omega⟩

theorem blk0 (t : Fin cfg0.N) (i : Fin 512) (q : Fin 1024) : (iblk m c 0 t : FVec Ideal S512x1024 .bf16) (ix2 i q) = tok m c (ix2 (row t i) q) := by
  blk_ext [iblk, V, idx t]

theorem blk1 (t : Fin cfg0.N) (k : Fin 1408) (q : Fin 1024) : (iblk m c 1 t : FVec Ideal S1408x1024 .bf16) (ix2 k q)
    = wts m c (ix2 ⟨(col t k).val, by omega⟩ q) := by
  blk_ext [iblk, V, idx t]

theorem blk2 (t : Fin cfg0.N) (k : Fin 1408) (q : Fin 1024) : (iblk m c 2 t : FVec Ideal S1408x1024 .bf16) (ix2 k q)
    = wts m c (ix2 ⟨2816 + (col t k).val, by omega⟩ q) := by
  blk_ext [iblk, V, idx t]

theorem pay1 (x : FVec Ideal S512x1024 .bf16) (w : FVec Ideal S1408x1024 .bf16) (i : Fin 512) (k : Fin 1408) :
    (k0_pay1 x w : FVec Ideal S512x1408 .f32) (ix2 i k) = ∑ q : Fin 1024, x (ix2 i q) * w (ix2 k q) := by
  pointwise [k0_pay1]

theorem pay2 (x : FVec Ideal S512x1024 .bf16) (w : FVec Ideal S1408x1024 .bf16) (i : Fin 512) (k : Fin 1408) :
    (k0_pay2 x w : FVec Ideal S512x1408 .f32) (ix2 i k) = ∑ q : Fin 1024, x (ix2 i q) * w (ix2 k q) := pay1 x w i k

theorem gate_blk (t : Fin cfg0.N) (i : Fin 512) (k : Fin 1408) :
    (k0_pay1 (iblk m c 0 t) (iblk m c 1 t) : FVec Ideal S512x1408 .f32) (ix2 i k) = gate (tok m c) (wts m c) (row t i) (col t k) := by
  rw [pay1]
  unfold gate proj
  exact Finset.sum_congr rfl fun q _ => by rw [blk0, blk1]

theorem value_blk (t : Fin cfg0.N) (i : Fin 512) (k : Fin 1408) :
    (k0_pay2 (iblk m c 0 t) (iblk m c 2 t) : FVec Ideal S512x1408 .f32) (ix2 i k) = value (tok m c) (wts m c) (row t i) (col t k) := by
  rw [pay2]
  unfold value proj
  exact Finset.sum_congr rfl fun q _ => by rw [blk0, blk2]

theorem pay5 (x : FVec Ideal S512x1024 .bf16) (w v : FVec Ideal S1408x1024 .bf16) (i : Fin 512) (k : Fin 1408) :
    (k0_pay5 x w v : FVec Ideal S512x1408 .bf16) (ix2 i k)
      = (k0_pay1 x w : FVec Ideal S512x1408 .f32) (ix2 i k) * Ideal.logistic ((k0_pay1 x w : FVec Ideal S512x1408 .f32) (ix2 i k))
        * (k0_pay2 x v : FVec Ideal S512x1408 .f32) (ix2 i k) := by
  rw [← sigmoid]
  pointwise [k0_pay5]
  simp only [Sgu.bits_half]

theorem emb3 (t : Fin cfg0.N) (i : Fin 512) (k : Fin 1408) : (win0_3.blk t).view.emb (ix2 i k) = (ix2 (row t i) (col t k) : S8192x2816.Idx) := by
  blk_ext [idx t]

theorem emb4 (t : Fin cfg0.N) (i : Fin 512) (k : Fin 1408) : (win0_4.blk t).view.emb (ix2 i k) = (ix2 (row t i) (col t k) : S8192x2816.Idx) := by
  blk_ext [idx t]

theorem emb5 (t : Fin cfg0.N) (i : Fin 512) (k : Fin 1408) : (win0_5.blk t).view.emb (ix2 i k) = (ix2 (row t i) (col t k) : S8192x2816.Idx) := by
  blk_ext [idx t]

/-- The gate's array after the run. -/
theorem arr3 : (dats m 0 c).arrAt 3 cfg0.N = (fun i => gate (tok m c) (wts m c) (i 0) (i 1) : FVec Ideal S8192x2816 .bf16) := by
  refine (dats m 0 c).arrAt_eq_of_covers 3 _ (by decide +kernel) fun t hf y => ?_
  blk_simp
  rw [after0_3]
  frame_out
  idx_vars y
  rw [emb3]
  refine Eq.trans ?_ (gate_blk m c t y0 y1)
  pointwise [k0_pay3]

/-- The values' array after the run. -/
theorem arr4 : (dats m 0 c).arrAt 4 cfg0.N = (fun i => value (tok m c) (wts m c) (i 0) (i 1) : FVec Ideal S8192x2816 .bf16) := by
  refine (dats m 0 c).arrAt_eq_of_covers 4 _ (by decide +kernel) fun t hf y => ?_
  blk_simp
  rw [after0_4]
  frame_out
  idx_vars y
  rw [emb4]
  refine Eq.trans ?_ (value_blk m c t y0 y1)
  pointwise [k0_pay4]

/-- The gated product's array after the run. -/
theorem arr5 : (dats m 0 c).arrAt 5 cfg0.N = (fun i => gate (tok m c) (wts m c) (i 0) (i 1) * Ideal.logistic (gate (tok m c) (wts m c) (i 0) (i 1))
    * value (tok m c) (wts m c) (i 0) (i 1) : FVec Ideal S8192x2816 .bf16) := by
  refine (dats m 0 c).arrAt_eq_of_covers 5 _ (by decide +kernel) fun t hf y => ?_
  blk_simp
  rw [after0_5]
  frame_out
  idx_vars y
  rw [emb5]
  refine (pay5 _ _ _ y0 y1).trans ?_
  rw [gate_blk, value_blk]
  rfl

end

end Cert.GateUp
-- ==== Proof.Products.lean ====
module

public import Idealize.ShloMosaic.Lib.Pointwise
public import Idealize.ShloMosaic.Lib.IdealHost
public import Mathlib.Algebra.BigOperators.Intervals

/-! Sums over the tokens, block by block. -/

@[expose] public section

noncomputable section

namespace Cert.Products

open Idealize.ShloMosaic Finset

/-- A sum over blocks of equal size is the sum over everything. -/
theorem sum_blocks {M : Type} [AddCommMonoid M] (b : ℕ) (f : ℕ → M) (n : ℕ) :
    ∑ s ∈ range n, ∑ r : Fin b, f (s * b + r) = ∑ q ∈ range (n * b), f q := by
  induction n with
  | zero => simp
  | succ n ih =>
    rw [sum_range_succ, ih, Nat.succ_mul, sum_range_add]
    exact congrArg _ (Finset.sum_range fun r => f (n * b + r)).symm

/-- A token's product of two matrices' entries, zero past the last token. -/
def term {a b : ℕ} {φ ψ : FTy} (x : FVec Ideal ⟨2, ![8192, a]⟩ φ) (y : FVec Ideal ⟨2, ![8192, b]⟩ ψ) (i : Fin a) (j : Fin b) (r : ℕ) : EReal :=
  if hr : r < 8192 then x (ix2 ⟨r, hr⟩ i) * y (ix2 ⟨r, hr⟩ j) else 0

/-- The product over the tokens. -/
@[irreducible] def prod {a b : ℕ} {φ ψ : FTy} (x : FVec Ideal ⟨2, ![8192, a]⟩ φ) (y : FVec Ideal ⟨2, ![8192, b]⟩ ψ) (i : Fin a) (j : Fin b) : EReal :=
  ∑ t : Fin 8192, x (ix2 t i) * y (ix2 t j)

/-- The product over the tokens, in eight blocks of 1024. -/
theorem prod_blocks {a b : ℕ} {φ ψ : FTy} (x : FVec Ideal ⟨2, ![8192, a]⟩ φ) (y : FVec Ideal ⟨2, ![8192, b]⟩ ψ) (i : Fin a) (j : Fin b) :
    ∑ s ∈ range 8, ∑ r : Fin 1024, term x y i j (s * 1024 + r) = prod x y i j := by
  rw [sum_blocks 1024 (term x y i j) 8, Finset.sum_range]
  unfold prod
  refine Finset.sum_congr rfl fun t _ => ?_
  unfold term
  rw [dif_pos t.isLt]

end Cert.Products
-- ==== Proof.GradDown.lean ====
module

public import proofs.«01_k».proof.Proof.Products
public import proofs.«01_k».proof.Proof.Gen.Kernel4Ideal.Value
public import proofs.«01_k».proof.Proof.Gen.Reference4Ideal.Run
public import Idealize.ShloMosaic.Lib.Pipeline.ValueKit

/-! The gradient of the feed-forward block's down projection. -/

@[expose] public section

set_option maxRecDepth 16384

noncomputable section

namespace Cert.GradDown

open Idealize.ShloMosaic Cert.Kernel4Ideal Cert.Kernel4Ideal.Gen Cert.Kernel4Ideal.Value Finset Cert.Products

variable (m : (ℓ : Loc nD τ sig) → Buf (Elt Ideal) ℓ) (c : Dev nD)

/-- The activations. -/
abbrev act : FVec Ideal S8192x2816 .bf16 := m ((c.tc : Thread nD τ).loc main_arg0)

/-- The gradient of the projection's output. -/
abbrev dy : FVec Ideal S8192x1024 .bf16 := m ((c.tc : Thread nD τ).loc main_arg1)

/-- What a grid point adds to an entry. -/
def addend (n : ℕ) (i : S1408x1024.Idx) : EReal :=
  ∑ r : Fin 1024, if h : n / 8 < 2 then term (act m c) (dy m c) ⟨n / 8 * 1408 + (i 0).val, by have : (i 0).val < 1408 := (i 0).isLt; omega⟩ (i 1 : Fin 1024) (n % 8 * 1024 + r.val) else 0

theorem N16 (t : Fin cfg0.N) : t.val < 16 := lt_of_lt_of_eq t.isLt N_0

theorem idx : ∀ t, win0_0.index t = ![t.val % 8, t.val / 8] ∧ win0_1.index t = ![t.val % 8, 0] := by
  decide +kernel

theorem blk0 (t : Fin cfg0.N) (r : Fin 1024) (i : Fin 1408) : (iblk m c 0 t : FVec Ideal S1024x1408 .bf16) (ix2 r i)
    = act m c (ix2 ⟨t.val % 8 * 1024 + r.val, by omega⟩ ⟨t.val / 8 * 1408 + i.val, by have := N16 t; omega⟩) := by
  have := N16 t
  blk_ext [iblk, V, idx t]

theorem blk1 (t : Fin cfg0.N) (r : Fin 1024) (i : Fin 1024) : (iblk m c 1 t : FVec Ideal S1024x1024 .bf16) (ix2 r i)
    = dy m c (ix2 ⟨t.val % 8 * 1024 + r.val, by omega⟩ i) := by
  have := N16 t
  blk_ext [iblk, V, idx t]

theorem pay2 (acc : FVec Ideal S1408x1024 .f32) (x : FVec Ideal S1024x1408 .bf16) (y : FVec Ideal S1024x1024 .bf16) (i : Fin 1408) (j : Fin 1024) :
    (k0_pay2 acc x y : FVec Ideal S1408x1024 .f32) (ix2 i j) = acc (ix2 i j) + ∑ r : Fin 1024, x (ix2 r i) * y (ix2 r j) := by
  pointwise [k0_pay2]

theorem pay1 (i : Fin 1408) (j : Fin 1024) : (k0_pay1 : FVec Ideal S1408x1024 .f32) (ix2 i j) = 0 := by
  pointwise [k0_pay1]

/-- A step adds its addend. -/
theorem step_add (n : ℕ) (h : n < cfg0.N) (acc : FVec Ideal S1408x1024 .f32) (i : S1408x1024.Idx) :
    (k0_pay2 acc (iblk m c 0 ⟨n, h⟩) (iblk m c 1 ⟨n, h⟩) : FVec Ideal S1408x1024 .f32) i = acc i + addend m c n i := by
  idx_vars i
  rw [pay2]
  refine congrArg (_ + ·) ?_
  unfold addend
  refine Finset.sum_congr rfl fun r _ => ?_
  have hn : n < 16 := lt_of_lt_of_eq h N_0
  rw [blk0, blk1, dif_pos (by omega : n / 8 < 2)]
  unfold term
  rw [dif_pos (by omega)]
  rfl

/-- The array after the run: the product over all the tokens. -/
theorem final : (G2 m c : FVec Ideal S2816x1024 .f32) = fun i => prod (act m c) (dy m c) (i 0) (i 1) := by
  funext i
  idx_vars i
  unfold G2
  have e : 8 * run2Of (ix2 i0 i1) + 7 < cfg0.N := by
    have : cfg0.N = 16 := N_0
    show 8 * (1 * (i0.val / 1408 - 0) + 1 * (i1.val / 1024 - 0)) + 7 < cfg0.N
    omega
  rw [dif_pos e]
  have q : run2Of (ix2 i0 i1) = i0.val / 1408 := by
    show (1 * (i0.val / 1408 - 0) + 1 * (i1.val / 1024 - 0)) = _
    omega
  refine (Pipeline.accAt_add_apply (reset2 m c) (step2 m c) (fun _ => (0 : EReal)) (addend m c) (8 * run2Of (ix2 i0 i1)) 7
    (fun h i => ?_) (fun n h acc i _ _ => step_add m c n h acc i) 7 le_rfl e _).trans ?_
  · refine (step_add m c _ h _ i).trans ?_
    idx_vars i
    rw [pay1]
  · rw [zero_add, q]
    refine Eq.trans ?_ (prod_blocks (act m c) (dy m c) i0 i1)
    refine Finset.sum_congr rfl fun s hs => ?_
    have hs : s < 8 := Finset.mem_range.1 hs
    unfold addend
    refine Finset.sum_congr rfl fun r _ => ?_
    have h1 : (8 * (i0.val / 1408) + s) / 8 = i0.val / 1408 := by omega
    have h2 : (8 * (i0.val / 1408) + s) % 8 = s := by omega
    rw [dif_pos (by omega), h2]
    congr 1
    · exact Fin.ext (by show (8 * (i0.val / 1408) + s) / 8 * 1408 + i0.val % 1408 = i0.val; omega)
    · exact Fin.ext (by show i1.val % 1024 = i1.val; omega)

/-- The reference's result, entry by entry. -/
theorem ref (x : FVec Ideal S8192x2816 .bf16) (y : FVec Ideal S8192x1024 .bf16) :
    (transpose S2816x1024 [1, 0] (Host.dotGeneral (F := Ideal) Cert.Reference4Ideal.dot_S8192x1024_S8192x2816_S1024x2816_0_0_1_1_n_n none (extf .f32 y Cert.Reference4Ideal.Gen.bitsLt_bf16_f32) (extf .f32 x Cert.Reference4Ideal.Gen.bitsLt_bf16_f32)) Cert.Reference4Ideal.Gen.transposes_S1024x2816_S2816x1024_1_0 : FVec Ideal S2816x1024 .f32)
      = fun i => prod x y (i 0) (i 1) := by
  funext i
  idx_vars i
  pointwise []
  unfold prod
  exact Finset.sum_congr rfl fun t _ => mul_comm _ _

end Cert.GradDown
-- ==== Proof.GradIn.lean ====
module

public import proofs.«01_k».proof.Proof.Products
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

/-! The gradient of the mixer's input projection. -/

@[expose] public section

set_option maxRecDepth 16384

noncomputable section

namespace Cert.GradIn

open Idealize.ShloMosaic Finset Cert.Products

/-- The five gradients of the projection's outputs, side by side. -/
def cat {n : ℕ} (x : FVec Ideal ⟨3, ![3, n, 512]⟩ .f32) (y : FVec Ideal ⟨3, ![2, n, 512]⟩ .bf16) (i : Fin n) (k : Fin 2560) : EReal :=
  if h : k.val < 512 then x (ix3 0 i ⟨k.val, h⟩)
  else if h : k.val - 512 < 512 then x (ix3 1 i ⟨k.val - 512, h⟩)
  else if h : k.val - 512 - 512 < 512 then x (ix3 2 i ⟨k.val - 512 - 512, h⟩)
  else if h : k.val - 512 - 512 - 512 < 512 then y (ix3 0 i ⟨k.val - 512 - 512 - 512, h⟩)
  else y (ix3 1 i ⟨k.val - 512 - 512 - 512 - 512, by omega⟩)

/-- … as a matrix. -/
def rows (x : FVec Ideal ⟨3, ![3, 8192, 512]⟩ .f32) (y : FVec Ideal ⟨3, ![2, 8192, 512]⟩ .bf16) : FVec Ideal ⟨2, ![8192, 2560]⟩ .f32 :=
  fun i => cat x y (i 0) (i 1)

section

open Cert.Reference5Ideal Cert.Reference5Ideal.Gen

theorem rows_ref (x : FVec Ideal S3x8192x512 .f32) (y : FVec Ideal S2x8192x512 .bf16) :
    (concatenate S8192x2560 1 [⟨S8192x512, ((shapeCast _ (extractStridedSlice S1x8192x512 ![0, 0, 0] x slices_S3x8192x512_S1x8192x512_0_0_0) shapeCasts_S1x8192x512_S8192x512) : FVec Ideal S8192x512 .f32)⟩, ⟨S8192x512, ((shapeCast _ (extractStridedSlice S1x8192x512 ![1, 0, 0] x slices_S3x8192x512_S1x8192x512_1_0_0) shapeCasts_S1x8192x512_S8192x512) : FVec Ideal S8192x512 .f32)⟩, ⟨S8192x512, ((shapeCast _ (extractStridedSlice S1x8192x512 ![2, 0, 0] x slices_S3x8192x512_S1x8192x512_2_0_0) shapeCasts_S1x8192x512_S8192x512) : FVec Ideal S8192x512 .f32)⟩, ⟨S8192x512, ((extf .f32 (shapeCast _ (extractStridedSlice S1x8192x512 ![0, 0, 0] y slices_S2x8192x512_S1x8192x512_0_0_0) shapeCasts_S1x8192x512_S8192x512) bitsLt_bf16_f32) : FVec Ideal S8192x512 .f32)⟩, ⟨S8192x512, ((extf .f32 (shapeCast _ (extractStridedSlice S1x8192x512 ![1, 0, 0] y slices_S2x8192x512_S1x8192x512_1_0_0) shapeCasts_S1x8192x512_S8192x512) bitsLt_bf16_f32) : FVec Ideal S8192x512 .f32)⟩] concatenates_S8192x512_S8192x512_S8192x512_S8192x512_S8192x512_S8192x2560_d1 : FVec Ideal S8192x2560 .f32) = rows x y := by
  funext i
  idx_vars i
  pointwise []
  rfl

/-- The reference's result, entry by entry. -/
theorem ref (x : FVec Ideal S3x8192x512 .f32) (y : FVec Ideal S2x8192x512 .bf16) (a : FVec Ideal S8192x1024 .bf16) (d : FVec Ideal S8192x2560 .f32) (hd : d = rows x y) :
    (truncf .bf16 (transpose S2560x1024 [1, 0] (transpose S1024x2560 [1, 0] (Host.dotGeneral (F := Ideal) dot_S8192x2560_S8192x1024_S2560x1024_0_0_1_1_n_n none d (extf .f32 a bitsLt_bf16_f32)) transposes_S2560x1024_S1024x2560_1_0) transposes_S1024x2560_S2560x1024_1_0) bitsLt_bf16_f32 : FVec Ideal S2560x1024 .bf16)
      = fun i => prod (rows x y) a (i 0) (i 1) := by
  rw [← hd]
  funext i
  idx_vars i
  pointwise []
  unfold prod
  rfl

end

section

open Cert.Kernel5Ideal Cert.Kernel5Ideal.Gen Cert.Kernel5Ideal.Value

variable (m : (ℓ : Loc nD τ sig) → Buf (Elt Ideal) ℓ) (c : Dev nD)

/-- The gradients of the projection's outputs. -/
abbrev dp : FVec Ideal ⟨2, ![8192, 2560]⟩ .f32 := rows (m ((c.tc : Thread nD τ).loc main_arg0)) (m ((c.tc : Thread nD τ).loc main_arg1))

/-- The projection's inputs. -/
abbrev inp : FVec Ideal S8192x1024 .bf16 := m ((c.tc : Thread nD τ).loc main_arg2)

theorem N8 (t : Fin cfg0.N) : t.val < 8 := lt_of_lt_of_eq t.isLt N_0

theorem idx : ∀ t, win0_0.index t = ![0, t.val, 0] ∧ win0_1.index t = ![0, t.val, 0] ∧ win0_2.index t = ![t.val, 0] := by
  decide +kernel

theorem blk0 (t : Fin cfg0.N) (g : Fin 3) (r : Fin 1024) (i : Fin 512) : (iblk m c 0 t : FVec Ideal S3x1024x512 .f32) (ix3 g r i)
    = (m ((c.tc : Thread nD τ).loc main_arg0) : FVec Ideal S3x8192x512 .f32) (ix3 g ⟨t.val * 1024 + r.val, by have := N8 t; omega⟩ i) := by
  blk_ext [iblk, V, idx t]

theorem blk1 (t : Fin cfg0.N) (g : Fin 2) (r : Fin 1024) (i : Fin 512) : (iblk m c 1 t : FVec Ideal S2x1024x512 .bf16) (ix3 g r i)
    = (m ((c.tc : Thread nD τ).loc main_arg1) : FVec Ideal S2x8192x512 .bf16) (ix3 g ⟨t.val * 1024 + r.val, by have := N8 t; omega⟩ i) := by
  blk_ext [iblk, V, idx t]

theorem blk2 (t : Fin cfg0.N) (r : Fin 1024) (i : Fin 1024) : (iblk m c 2 t : FVec Ideal S1024x1024 .bf16) (ix2 r i)
    = inp m c (ix2 ⟨t.val * 1024 + r.val, by have := N8 t; omega⟩ i) := by
  blk_ext [iblk, V, idx t]

/-- What a grid point's step makes of the accumulator. -/
abbrev step (x : FVec Ideal S3x1024x512 .f32) (y : FVec Ideal S2x1024x512 .bf16) (a : FVec Ideal S1024x1024 .bf16) (acc : FVec Ideal S2560x1024 .f32) : FVec Ideal S2560x1024 .f32 :=
  k0_pay2 (View.ld (Val := Elt Ideal) (e' := .f32) x (Rect.unit (s := S3x1024x512) ![0, 0, 0] S1x1024x512.size inb_S3x1024x512_S1x1024x512_0_0_0))
    (View.ld (Val := Elt Ideal) (e' := .f32) x (Rect.unit (s := S3x1024x512) ![1, 0, 0] S1x1024x512.size inb_S3x1024x512_S1x1024x512_1_0_0))
    (View.ld (Val := Elt Ideal) (e' := .f32) x (Rect.unit (s := S3x1024x512) ![2, 0, 0] S1x1024x512.size inb_S3x1024x512_S1x1024x512_2_0_0))
    (View.ld (Val := Elt Ideal) (e' := .bf16) y (Rect.unit (s := S2x1024x512) ![0, 0, 0] S1x1024x512.size inb_S2x1024x512_S1x1024x512_0_0_0))
    (View.ld (Val := Elt Ideal) (e' := .bf16) y (Rect.unit (s := S2x1024x512) ![1, 0, 0] S1x1024x512.size inb_S2x1024x512_S1x1024x512_1_0_0)) acc a

theorem ld3 (x : FVec Ideal S3x1024x512 .f32) (g : Fin 3) (h) (r : Fin 1024) (i : Fin 512) :
    (View.ld (Val := Elt Ideal) (e' := .f32) x (Rect.unit (s := S3x1024x512) ![g.val, 0, 0] S1x1024x512.size h) : FVec Ideal S1x1024x512 .f32) (ix3 0 r i) = x (ix3 g r i) := by
  match g with
  | 0 => pointwise [View.ld]
  | 1 => pointwise [View.ld]
  | 2 => pointwise [View.ld]

theorem ld2 (x : FVec Ideal S2x1024x512 .bf16) (g : Fin 2) (h) (r : Fin 1024) (i : Fin 512) :
    (View.ld (Val := Elt Ideal) (e' := .bf16) x (Rect.unit (s := S2x1024x512) ![g.val, 0, 0] S1x1024x512.size h) : FVec Ideal S1x1024x512 .bf16) (ix3 0 r i) = x (ix3 g r i) := by
  match g with
  | 0 => pointwise [View.ld]
  | 1 => pointwise [View.ld]

theorem pay2 (a b d : FVec Ideal S1x1024x512 .f32) (e f : FVec Ideal S1x1024x512 .bf16) (acc : FVec Ideal S2560x1024 .f32) (y : FVec Ideal S1024x1024 .bf16)
    (i : Fin 2560) (j : Fin 1024) :
    (k0_pay2 a b d e f acc y : FVec Ideal S2560x1024 .f32) (ix2 i j) = acc (ix2 i j) + ∑ r : Fin 1024,
      (if h : i.val < 512 then a (ix3 0 r ⟨i.val, h⟩)
      else if h : i.val - 512 < 512 then b (ix3 0 r ⟨i.val - 512, h⟩)
      else if h : i.val - 512 - 512 < 512 then d (ix3 0 r ⟨i.val - 512 - 512, h⟩)
      else if h : i.val - 512 - 512 - 512 < 512 then e (ix3 0 r ⟨i.val - 512 - 512 - 512, h⟩)
      else f (ix3 0 r ⟨i.val - 512 - 512 - 512 - 512, by omega⟩)) * y (ix2 r j) := by
  pointwise [k0_pay2]

theorem step_apply (x : FVec Ideal S3x1024x512 .f32) (y : FVec Ideal S2x1024x512 .bf16) (a : FVec Ideal S1024x1024 .bf16) (acc : FVec Ideal S2560x1024 .f32)
    (i : Fin 2560) (j : Fin 1024) : step x y a acc (ix2 i j) = acc (ix2 i j) + ∑ r : Fin 1024, cat x y r i * a (ix2 r j) := by
  refine (pay2 _ _ _ _ _ _ _ i j).trans (congrArg (_ + ·) (Finset.sum_congr rfl fun r _ => congrArg (· * _) ?_))
  unfold cat
  split
  · exact ld3 x 0 _ r _
  split
  · exact ld3 x 1 _ r _
  split
  · exact ld3 x 2 _ r _
  split
  · exact ld2 y 0 _ r _
  · exact ld2 y 1 _ r _

/-- A step adds the next block of tokens. -/
theorem step_blk (t : Fin cfg0.N) (acc : FVec Ideal S2560x1024 .f32) (i : Fin 2560) (j : Fin 1024) :
    step (iblk m c 0 t) (iblk m c 1 t) (iblk m c 2 t) acc (ix2 i j)
      = acc (ix2 i j) + ∑ r : Fin 1024, term (dp m c) (inp m c) i j (t.val * 1024 + r.val) := by
  rw [step_apply]
  refine congrArg (_ + ·) (Finset.sum_congr rfl fun r _ => ?_)
  have hr : t.val * 1024 + r.val < 8192 := by have := N8 t; omega
  unfold term
  rw [dif_pos hr, blk2]
  refine congrArg (· * _) ?_
  show _ = cat _ _ (⟨t.val * 1024 + r.val, hr⟩ : Fin 8192) i
  unfold cat
  simp only [blk0, blk1]

theorem scr_A (t : Fin cfg0.N) (h0 : t.val % 8 = 0) (h1 : ¬ t.val % 8 = 7) :
    (outsAt0 m c t.val t.isLt).2 = (step (iblk m c 0 t) (iblk m c 1 t) (iblk m c 2 t) k0_pay1 : FVec Ideal S2560x1024 .f32) := by
  rw [outsAt0_A m c t h0 h1]
  dsimp only
  frame_open
  simp (disch := decide) only [↓ View.readCov_skip, ↓ View.readCov_cons_toLoadRect, ↓ View.readCov_fill]
  frame_out

theorem scr_B (t : Fin cfg0.N) (h0 : ¬ t.val % 8 = 0) (h1 : ¬ t.val % 8 = 7) :
    (outsAt0 m c t.val t.isLt).2 = step (iblk m c 0 t) (iblk m c 1 t) (iblk m c 2 t) (outsAt0 m c (t.val - 1) (Nat.lt_of_le_of_lt (Nat.sub_le _ _) t.isLt)).2 := by
  rw [outsAt0_B m c t h0 h1]
  dsimp only
  frame_open
  simp (disch := decide) only [↓ View.readCov_skip, ↓ View.readCov_cons_toLoadRect, ↓ View.readCov_fill]
  frame_out
  rw [read_unread_whole]

theorem out_C (t : Fin cfg0.N) (h0 : ¬ t.val % 8 = 0) (h1 : t.val % 8 = 7) :
    (outsAt0 m c t.val t.isLt).1 = k0_pay3 (F := Ideal) (step (iblk m c 0 t) (iblk m c 1 t) (iblk m c 2 t) (outsAt0 m c (t.val - 1) (Nat.lt_of_le_of_lt (Nat.sub_le _ _) t.isLt)).2) := by
  rw [outsAt0_C m c t h0 h1]
  dsimp only
  frame_open
  simp (disch := decide) only [↓ View.readCov_skip, ↓ View.readCov_cons_toLoadRect, ↓ View.readCov_fill]
  frame_out
  rw [read_unread_whole]

theorem pay1 (i : Fin 2560) (j : Fin 1024) : (k0_pay1 : FVec Ideal S2560x1024 .f32) (ix2 i j) = 0 := by
  pointwise [k0_pay1]

/-- The accumulator after a grid point but the last. -/
theorem acc (i : Fin 2560) (j : Fin 1024) : ∀ (n : ℕ) (hn : n < cfg0.N), n < 7 →
    ((outsAt0 m c n hn).2 : FVec Ideal S2560x1024 .f32) (ix2 i j) = ∑ s ∈ range (n + 1), ∑ r : Fin 1024, term (dp m c) (inp m c) i j (s * 1024 + r.val)
  | 0, hn, _ => by
    rw [scr_A m c ⟨0, hn⟩ (Nat.zero_mod _) (by show ¬ 0 % 8 = 7; decide), step_blk, pay1, zero_add, Finset.sum_range_one]
  | n + 1, hn, h7 => by
    rw [Finset.sum_range_succ, ← acc i j n (Nat.lt_of_succ_lt hn) (by omega)]
    exact (congrFun (scr_B m c ⟨n + 1, hn⟩ (by show ¬ (n + 1) % 8 = 0; omega) (by show ¬ (n + 1) % 8 = 7; omega)) _).trans (step_blk m c ⟨n + 1, hn⟩ _ i j)

/-- What the last grid point leaves: the product over all the tokens. -/
theorem last (i : Fin 2560) (j : Fin 1024) (n : ℕ) (h6 : n = 6) (hn : n + 1 < cfg0.N) :
    ((outsAt0 m c (n + 1) hn).1 : FVec Ideal S2560x1024 .bf16) (ix2 i j) = prod (dp m c) (inp m c) i j := by
  have p3 : ∀ v : FVec Ideal S2560x1024 .f32, (k0_pay3 v : FVec Ideal S2560x1024 .bf16) (ix2 i j) = v (ix2 i j) := by
    intro v
    pointwise [k0_pay3]
  refine (congrFun (out_C m c ⟨n + 1, hn⟩ (by show ¬ (n + 1) % 8 = 0; omega) (by show (n + 1) % 8 = 7; omega)) _).trans ((p3 _).trans ?_)
  refine (step_blk m c ⟨n + 1, hn⟩ _ _ _).trans ?_
  refine (congrArg (· + _) (acc m c i j n _ (by omega))).trans ?_
  rw [← prod_blocks (dp m c) (inp m c) i j]
  subst h6
  exact (Finset.sum_range_succ _ 7).symm

/-- The array after the run. -/
theorem arr3 : (dats m 0 c).arrAt 3 cfg0.N = (fun i => prod (dp m c) (inp m c) (i 0) (i 1) : FVec Ideal S2560x1024 .bf16) := by
  refine (dats m 0 c).arrAt_eq_of_after_last 3 t0_7 (by decide +kernel) _ fun j => ?_
  rw [after0_3]
  have e : (fun a => ⟨(j a).val, (j a).isLt⟩ : S2560x1024.Idx) = ix2 (j 0 : Fin 2560) (j 1 : Fin 1024) := by
    funext a; match a with | 0 => rfl | 1 => rfl
  exact (congrArg ((outsAt0 m c 7 t0_7.isLt).1 : FVec Ideal S2560x1024 .bf16) e).trans (last m c (j 0 : Fin 2560) (j 1 : Fin 1024) 6 rfl _)

end

end Cert.GradIn
-- ==== Proof.Calls.lean ====
/- The forward products of the feed-forward, and the gradients of w_down and w_in: their claims from the arrays after the run. -/
module

public import proofs.«01_k».proof.Defs
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Reference3Ideal.Run
public import proofs.«01_k».proof.Proof.Gen.Reference4Ideal.Run
public import proofs.«01_k».proof.Proof.Gen.Reference5Ideal.Run
public import Idealize.ShloMosaic.Adequacy
public import Idealize.ShloMosaic.Init
public import proofs.«01_k».proof.Proof.GateUp
public import proofs.«01_k».proof.Proof.GradDown
public import proofs.«01_k».proof.Proof.GradIn

@[expose] public section

noncomputable section

namespace Cert.Calls

open Idealize.ShloMosaic Idealize.SL.Sem

/-- The reference of the feed-forward's products runs, keeps its arguments and leaves every counter at zero. -/
theorem frame3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The reference of w_down's gradient runs, keeps its arguments and leaves every counter at zero. -/
theorem frame4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The reference of w_in's gradient runs, keeps its arguments and leaves every counter at zero. -/
theorem frame5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- Gate, value and gated value: kernel and reference end with equal results from equal arguments. -/
theorem algebraic3 : Cert.algebraic_Kernel3Ideal_Reference3Ideal := by
  intro m ρ m' ρ' _ hag
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N,
    fun c => (Cert.Kernel3Ideal.Gen.dats m 0 c).arrAt 5 Cert.Kernel3Ideal.cfg0.N, Cert.Kernel3Ideal.Value.run_blocks m ρ,
    (θ_run Cert.Reference3Ideal.defs _ _).mono (fun r h c => ?_) (Cert.Reference3Ideal.Value.run (F := Ideal) m' ρ')⟩
  obtain ⟨r0, r1, r2, rest⟩ := h c
  obtain ⟨a0, a1⟩ := hag c
  refine ⟨r0.trans ?_, r1.trans ?_, r2.trans ?_, rest⟩
  · rw [a0, a1]
    exact (Cert.GateUp.ref0 _ _).trans (Cert.GateUp.arr3 m c).symm
  · rw [a0, a1]
    exact (Cert.GateUp.ref1 _ _).trans (Cert.GateUp.arr4 m c).symm
  · rw [a0, a1]
    exact (Cert.GateUp.ref2 _ _).trans (Cert.GateUp.arr5 m c).symm

/-- The gradient of w_down: kernel and reference end with equal results from equal arguments. -/
theorem algebraic4 : Cert.algebraic_Kernel4Ideal_Reference4Ideal := by
  intro m ρ m' ρ' _ hag
  refine ⟨fun c => Cert.Kernel4Ideal.Value.G2 m c, Cert.Kernel4Ideal.Value.run m ρ,
    (θ_run Cert.Reference4Ideal.defs _ _).mono (fun r h c => ?_) (Cert.Reference4Ideal.Value.run (F := Ideal) m' ρ')⟩
  obtain ⟨r0, rest⟩ := h c
  obtain ⟨a0, a1⟩ := hag c
  refine ⟨r0.trans ?_, rest⟩
  rw [a0, a1]
  exact (Cert.GradDown.ref _ _).trans (Cert.GradDown.final m c).symm

/-- The gradient of w_in: kernel and reference end with equal results from equal arguments. -/
theorem algebraic5 : Cert.algebraic_Kernel5Ideal_Reference5Ideal := by
  intro m ρ m' ρ' _ hag
  refine ⟨fun c => Cert.Kernel5Ideal.Value.G3 m c, Cert.Kernel5Ideal.Value.run m ρ,
    (θ_run Cert.Reference5Ideal.defs _ _).mono (fun r h c => ?_) (Cert.Reference5Ideal.Value.run (F := Ideal) m' ρ')⟩
  obtain ⟨r0, rest⟩ := h c
  obtain ⟨a0, a1, a2⟩ := hag c
  refine ⟨r0.trans ?_, rest⟩
  rw [a0, a1, a2]
  exact (Cert.GradIn.ref _ _ _ _ (Cert.GradIn.rows_ref _ _)).trans ((Cert.GradIn.arr3 m c).symm.trans (Cert.Kernel5Ideal.Value.final3 m c))

end Cert.Calls

end
-- ==== Proof.Norms.lean ====
module

public import proofs.«01_k».proof.Proof.Lift
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import Idealize.ShloMosaic.Lib.Pipeline.ValueKit

/-! The projection into the mixers after its rms norm, and the feed-forward's last product with the rms norm after it. -/

@[expose] public section

set_option maxRecDepth 16384

noncomputable section

namespace Cert.Norms

open Idealize.ShloMosaic

/-- The reciprocal root mean square of a row of 1024 entries. -/
@[irreducible] def rstd (y : Fin 1024 → EReal) : EReal :=
  Ideal.rsqrt (Ideal.div (∑ k, y k * y k) (Ideal.ofBits .f32 0x44800000#32) + Ideal.ofBits .f32 0x358637BD#32)

/-- An entry of a product of two matrices. -/
@[irreducible] def prod {a b d : ℕ} (x : Fin a → Fin b → EReal) (w : Fin b → Fin d → EReal) (i : Fin a) (j : Fin d) : EReal :=
  ∑ q : Fin b, x i q * w q j

section

open Cert.Kernel7Ideal Cert.Kernel7Ideal.Gen

variable (m : (ℓ : Loc nD τ sig) → Buf (Elt Ideal) ℓ) (c : Dev nD)

/-- The product of the gated values with the last weights. -/
abbrev down (x : FVec Ideal S8192x2816 .bf16) (w : FVec Ideal S2816x1024 .bf16) : Fin 8192 → Fin 1024 → EReal :=
  prod (fun i q => x (ix2 i q)) fun q j => w (ix2 q j)

/-- The residual path plus the normalised product. -/
def resid (y : Fin 8192 → Fin 1024 → EReal) (h : FVec Ideal S8192x1024 .f32) (g : FVec Ideal S1x1024 .f32) (i : Fin 8192) (j : Fin 1024) : EReal :=
  h (ix2 i j) + y i j * rstd (y i) * g (ix2 0 j)

/-- The gated values. -/
abbrev act : FVec Ideal S8192x2816 .bf16 := m ((c.tc : Thread nD τ).loc main_arg0)

/-- The weights. -/
abbrev wts : FVec Ideal S2816x1024 .bf16 := m ((c.tc : Thread nD τ).loc main_arg1)

/-- The residual path. -/
abbrev res : FVec Ideal S8192x1024 .f32 := m ((c.tc : Thread nD τ).loc main_arg2)

/-- The norm's gain. -/
abbrev gain : FVec Ideal S1x1024 .f32 := m ((c.tc : Thread nD τ).loc main_arg3)

theorem idx7 : ∀ t, win0_0.index t = ![t.val, 0] ∧ win0_1.index t = ![0, 0] ∧ win0_2.index t = ![t.val, 0]
    ∧ win0_3.index t = ![0, 0] ∧ win0_4.index t = ![t.val, 0] ∧ win0_5.index t = ![t.val, 0] := by
  decide +kernel

theorem N16 (t : Fin cfg0.N) : t.val < 16 := lt_of_lt_of_eq t.isLt N_0

/-- The row of an entry of a grid point's block. -/
abbrev row (t : Fin cfg0.N) (i : Fin 512) : Fin 8192 := ⟨t.val * 512 + i.val, by have := N16 t; omega⟩

theorem blk0 (t : Fin cfg0.N) (i : Fin 512) (q : Fin 2816) : (iblk m c 0 t : FVec Ideal S512x2816 .bf16) (ix2 i q) = act m c (ix2 (row t i) q) := by
  blk_ext [iblk, V, idx7 t]

theorem blk1 (t : Fin cfg0.N) (q : Fin 2816) (j : Fin 1024) : (iblk m c 1 t : FVec Ideal S2816x1024 .bf16) (ix2 q j) = wts m c (ix2 q j) := by
  blk_ext [iblk, V, idx7 t]

theorem blk2 (t : Fin cfg0.N) (i : Fin 512) (j : Fin 1024) : (iblk m c 2 t : FVec Ideal S512x1024 .f32) (ix2 i j) = res m c (ix2 (row t i) j) := by
  blk_ext [iblk, V, idx7 t]

theorem blk3 (t : Fin cfg0.N) (i : Fin 1) (j : Fin 1024) : (iblk m c 3 t : FVec Ideal S1x1024 .f32) (ix2 i j) = gain m c (ix2 i j) := by
  blk_ext [iblk, V, idx7 t]

theorem pay1 (x : FVec Ideal S512x2816 .bf16) (w : FVec Ideal S2816x1024 .bf16) (i : Fin 512) (j : Fin 1024) :
    (k0_pay1 x w : FVec Ideal S512x1024 .f32) (ix2 i j) = ∑ q : Fin 2816, x (ix2 i q) * w (ix2 q j) := by
  pointwise [k0_pay1]

theorem pay2 (x : FVec Ideal S512x2816 .bf16) (w : FVec Ideal S2816x1024 .bf16) (i : Fin 512) (j : Fin 1024) :
    (k0_pay2 x w : FVec Ideal S512x1024 .f32) (ix2 i j) = (k0_pay1 x w : FVec Ideal S512x1024 .f32) (ix2 i j) := by
  pointwise [k0_pay2]

theorem pay3 (x : FVec Ideal S512x2816 .bf16) (w : FVec Ideal S2816x1024 .bf16) (h : FVec Ideal S512x1024 .f32) (g : FVec Ideal S1x1024 .f32) (i : Fin 512) (j : Fin 1024) :
    (k0_pay3 x w h g : FVec Ideal S512x1024 .f32) (ix2 i j)
      = h (ix2 i j) + (k0_pay1 x w : FVec Ideal S512x1024 .f32) (ix2 i j) * rstd (fun k => (k0_pay1 x w : FVec Ideal S512x1024 .f32) (ix2 i k)) * g (ix2 0 j) := by
  unfold rstd
  pointwise [k0_pay3]

theorem down_blk (t : Fin cfg0.N) (i : Fin 512) (j : Fin 1024) :
    (k0_pay1 (iblk m c 0 t) (iblk m c 1 t) : FVec Ideal S512x1024 .f32) (ix2 i j) = down (act m c) (wts m c) (row t i) j := by
  rw [pay1]
  unfold down prod
  exact Finset.sum_congr rfl fun q _ => by rw [blk0, blk1]

theorem emb4 (t : Fin cfg0.N) (i : Fin 512) (k : Fin 1024) : (win0_4.blk t).view.emb (ix2 i k) = (ix2 (row t i) k : S8192x1024.Idx) := by
  blk_ext [idx7 t]

theorem emb5 (t : Fin cfg0.N) (i : Fin 512) (k : Fin 1024) : (win0_5.blk t).view.emb (ix2 i k) = (ix2 (row t i) k : S8192x1024.Idx) := by
  blk_ext [idx7 t]

/-- The product's array after the run. -/
theorem arr7_4 : (dats m 0 c).arrAt 4 cfg0.N = (fun i => down (act m c) (wts m c) (i 0) (i 1) : FVec Ideal S8192x1024 .f32) := by
  refine (dats m 0 c).arrAt_eq_of_covers 4 _ (by decide +kernel) fun t hf y => ?_
  blk_simp
  rw [after0_4]
  frame_out
  idx_vars y
  rw [emb4]
  exact (pay2 _ _ y0 y1).trans (down_blk m c t y0 y1)

/-- The array of the next residual path after the run. -/
theorem arr7_5 : (dats m 0 c).arrAt 5 cfg0.N = (fun i => resid (down (act m c) (wts m c)) (res m c) (gain m c) (i 0) (i 1) : FVec Ideal S8192x1024 .f32) := by
  refine (dats m 0 c).arrAt_eq_of_covers 5 _ (by decide +kernel) fun t hf y => ?_
  blk_simp
  rw [after0_5]
  frame_out
  idx_vars y
  rw [emb5]
  refine (pay3 _ _ _ _ y0 y1).trans ?_
  have e : (fun k => (k0_pay1 (iblk m c 0 t) (iblk m c 1 t) : FVec Ideal S512x1024 .f32) (ix2 y0 k)) = down (act m c) (wts m c) (row t y0) :=
    funext fun k => down_blk m c t y0 k
  rw [e, down_blk, blk2, blk3]
  rfl

end

section

open Cert.Reference7Ideal Cert.Reference7Ideal.Gen

/-- The reference's product. -/
abbrev Y (x : FVec Ideal S8192x2816 .bf16) (w : FVec Ideal S2816x1024 .bf16) : FVec Ideal S8192x1024 .f32 :=
  Host.dotGeneral (F := Ideal) dot_S8192x2816_S2816x1024_S8192x1024_1_0_0_1_n_n none (extf .f32 x bitsLt_bf16_f32) (extf .f32 w bitsLt_bf16_f32)

theorem Y_apply (x : FVec Ideal S8192x2816 .bf16) (w : FVec Ideal S2816x1024 .bf16) (i : Fin 8192) (j : Fin 1024) : Y x w (ix2 i j) = down x w i j := by
  unfold down prod
  pointwise [Y]

theorem ref7_0 (x : FVec Ideal S8192x2816 .bf16) (w : FVec Ideal S2816x1024 .bf16) : Y x w = fun i => down x w (i 0) (i 1) := by
  funext i
  idx_vars i
  exact Y_apply x w i0 i1

theorem normed (y : FVec Ideal S8192x1024 .f32) (h : FVec Ideal S8192x1024 .f32) (g : FVec Ideal S1x1024 .f32) (i : Fin 8192) (j : Fin 1024) :
    (addf h (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))) : FVec Ideal S8192x1024 .f32) (ix2 i j)
      = h (ix2 i j) + y (ix2 i j) * rstd (fun k => y (ix2 i k)) * g (ix2 0 j) := by
  unfold rstd
  pointwise []

/-- The reference's next residual path. -/
theorem ref7_1 (x : FVec Ideal S8192x2816 .bf16) (w : FVec Ideal S2816x1024 .bf16) (h : FVec Ideal S8192x1024 .f32) (g : FVec Ideal S1x1024 .f32) :
    (addf h (mulf (mulf (Y x w) (broadcastInDim S8192x1024 ![0, 1] bcast_S8192x1_S8192x1024_0_1 (Host.rsqrt (addf (Host.divf (broadcastInDim S8192x1 ![0] bcast_S8192_S8192x1_0 (Host.reduceAdd (mulf (Y x w) (Y x w)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))) : FVec Ideal S8192x1024 .f32)
      = fun i => resid (down x w) h g (i 0) (i 1) := by
  funext i
  idx_vars i
  refine (normed (Y x w) h g i0 i1).trans ?_
  have e : (fun k => Y x w (ix2 i0 k)) = down x w i0 := funext fun k => Y_apply x w i0 k
  rw [e, Y_apply]
  rfl

end

section

open Cert.Kernel6Ideal Cert.Kernel6Ideal.Gen

variable (m : (ℓ : Loc nD τ sig) → Buf (Elt Ideal) ℓ) (c : Dev nD)

/-- The normalised tokens. -/
def normal (x : FVec Ideal S8192x1024 .f32) (g : FVec Ideal S1x1024 .f32) (i : Fin 8192) (j : Fin 1024) : EReal :=
  x (ix2 i j) * rstd (fun k => x (ix2 i k)) * g (ix2 0 j)

/-- The projection of the normalised tokens. -/
abbrev into (x : FVec Ideal S8192x1024 .f32) (g : FVec Ideal S1x1024 .f32) (w : FVec Ideal S2560x1024 .bf16) : Fin 8192 → Fin 2560 → EReal :=
  prod (normal x g) fun q j => w (ix2 j q)

/-- The tokens. -/
abbrev tok : FVec Ideal S8192x1024 .f32 := m ((c.tc : Thread nD τ).loc main_arg0)

/-- The norm's gain. -/
abbrev gain6 : FVec Ideal S1x1024 .f32 := m ((c.tc : Thread nD τ).loc main_arg1)

/-- The projection's weights, one row per output. -/
abbrev wts6 : FVec Ideal S2560x1024 .bf16 := m ((c.tc : Thread nD τ).loc main_arg2)

theorem idx6 : ∀ t, win0_0.index t = ![t.val, 0] ∧ win0_1.index t = ![0, 0] ∧ win0_2.index t = ![0, 0]
    ∧ win0_3.index t = ![t.val, 0] ∧ win0_4.index t = ![t.val, 0] := by
  decide +kernel

theorem N16' (t : Fin cfg0.N) : t.val < 16 := lt_of_lt_of_eq t.isLt N_0

/-- The row of an entry of a grid point's block. -/
abbrev row6 (t : Fin cfg0.N) (i : Fin 512) : Fin 8192 := ⟨t.val * 512 + i.val, by have := N16' t; omega⟩

theorem blk6_0 (t : Fin cfg0.N) (i : Fin 512) (q : Fin 1024) : (iblk m c 0 t : FVec Ideal S512x1024 .f32) (ix2 i q) = tok m c (ix2 (row6 t i) q) := by
  blk_ext [iblk, V, idx6 t]

theorem blk6_1 (t : Fin cfg0.N) (i : Fin 1) (q : Fin 1024) : (iblk m c 1 t : FVec Ideal S1x1024 .f32) (ix2 i q) = gain6 m c (ix2 i q) := by
  blk_ext [iblk, V, idx6 t]

theorem blk6_2 (t : Fin cfg0.N) (k : Fin 2560) (q : Fin 1024) : (iblk m c 2 t : FVec Ideal S2560x1024 .bf16) (ix2 k q) = wts6 m c (ix2 k q) := by
  blk_ext [iblk, V, idx6 t]

theorem pay6_1 (x : FVec Ideal S512x1024 .f32) (g : FVec Ideal S1x1024 .f32) (i : Fin 512) (j : Fin 1024) :
    (k0_pay1 x g : FVec Ideal S512x1024 .bf16) (ix2 i j) = x (ix2 i j) * rstd (fun k => x (ix2 i k)) * g (ix2 0 j) := by
  unfold rstd
  pointwise [k0_pay1]

theorem pay6_2 (x : FVec Ideal S512x1024 .f32) (g : FVec Ideal S1x1024 .f32) (i : Fin 512) (j : Fin 1024) :
    (k0_pay2 x g : FVec Ideal S512x1024 .bf16) (ix2 i j) = (k0_pay1 x g : FVec Ideal S512x1024 .bf16) (ix2 i j) := by
  pointwise [k0_pay2]

theorem pay6_3 (x : FVec Ideal S512x1024 .f32) (g : FVec Ideal S1x1024 .f32) (w : FVec Ideal S2560x1024 .bf16) (i : Fin 512) (j : Fin 2560) :
    (k0_pay3 x g w : FVec Ideal S512x2560 .f32) (ix2 i j) = ∑ q : Fin 1024, (k0_pay1 x g : FVec Ideal S512x1024 .bf16) (ix2 i q) * w (ix2 j q) := by
  pointwise [k0_pay3]

theorem normal_blk (t : Fin cfg0.N) (i : Fin 512) (j : Fin 1024) :
    (k0_pay1 (iblk m c 0 t) (iblk m c 1 t) : FVec Ideal S512x1024 .bf16) (ix2 i j) = normal (tok m c) (gain6 m c) (row6 t i) j := by
  rw [pay6_1]
  have e : (fun k => (iblk m c 0 t : FVec Ideal S512x1024 .f32) (ix2 i k)) = fun k => tok m c (ix2 (row6 t i) k) :=
    funext fun k => blk6_0 m c t i k
  rw [e, blk6_0, blk6_1]
  rfl

theorem emb6_3 (t : Fin cfg0.N) (i : Fin 512) (k : Fin 2560) : (win0_3.blk t).view.emb (ix2 i k) = (ix2 (row6 t i) k : S8192x2560.Idx) := by
  blk_ext [idx6 t]

theorem emb6_4 (t : Fin cfg0.N) (i : Fin 512) (k : Fin 1024) : (win0_4.blk t).view.emb (ix2 i k) = (ix2 (row6 t i) k : S8192x1024.Idx) := by
  blk_ext [idx6 t]

/-- The projection's array after the run. -/
theorem arr6_3 : (dats m 0 c).arrAt 3 cfg0.N = (fun i => into (tok m c) (gain6 m c) (wts6 m c) (i 0) (i 1) : FVec Ideal S8192x2560 .f32) := by
  refine (dats m 0 c).arrAt_eq_of_covers 3 _ (by decide +kernel) fun t hf y => ?_
  blk_simp
  rw [after0_3]
  frame_out
  idx_vars y
  rw [emb6_3]
  refine (pay6_3 _ _ _ y0 y1).trans ?_
  show _ = into (tok m c) (gain6 m c) (wts6 m c) (row6 t y0) y1
  unfold into prod
  exact Finset.sum_congr rfl fun q _ => by rw [normal_blk, blk6_2]

/-- The array of the normalised tokens after the run. -/
theorem arr6_4 : (dats m 0 c).arrAt 4 cfg0.N = (fun i => normal (tok m c) (gain6 m c) (i 0) (i 1) : FVec Ideal S8192x1024 .bf16) := by
  refine (dats m 0 c).arrAt_eq_of_covers 4 _ (by decide +kernel) fun t hf y => ?_
  blk_simp
  rw [after0_4]
  frame_out
  idx_vars y
  rw [emb6_4]
  exact (pay6_2 _ _ y0 y1).trans (normal_blk m c t y0 y1)

end

section

open Cert.Reference6Ideal Cert.Reference6Ideal.Gen

/-- The reference's normalised tokens. -/
abbrev A (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))

theorem A_apply (x : FVec Ideal S8192x1024 .f32) (g : FVec Ideal S1x1024 .f32) (i : Fin 8192) (j : Fin 1024) : A x g (ix2 i j) = normal x g i j := by
  unfold normal rstd
  pointwise [A]

/-- The reference's projection. -/
theorem ref6_0 (x : FVec Ideal S8192x1024 .f32) (g : FVec Ideal S1x1024 .f32) (w : FVec Ideal S2560x1024 .bf16) :
    (Host.dotGeneral (F := Ideal) dot_S8192x1024_S1024x2560_S8192x2560_1_0_0_1_n_n none (A x g) (transpose S1024x2560 [1, 0] (extf .f32 w bitsLt_bf16_f32) transposes_S2560x1024_S1024x2560_1_0) : FVec Ideal S8192x2560 .f32)
      = fun i => into x g w (i 0) (i 1) := by
  have e : ∀ (a : FVec Ideal S8192x1024 .f32) (i : Fin 8192) (j : Fin 2560), (Host.dotGeneral (F := Ideal) dot_S8192x1024_S1024x2560_S8192x2560_1_0_0_1_n_n none a (transpose S1024x2560 [1, 0] (extf .f32 w bitsLt_bf16_f32) transposes_S2560x1024_S1024x2560_1_0) : FVec Ideal S8192x2560 .f32) (ix2 i j)
      = ∑ q : Fin 1024, a (ix2 i q) * w (ix2 j q) := by
    intro a i j
    pointwise []
  funext i
  idx_vars i
  refine (e _ i0 i1).trans ?_
  show _ = into x g w i0 i1
  unfold into prod
  exact Finset.sum_congr rfl fun q _ => by rw [A_apply]

/-- The reference's normalised tokens, stored. -/
theorem ref6_1 (x : FVec Ideal S8192x1024 .f32) (g : FVec Ideal S1x1024 .f32) :
    (truncf .bf16 (A x g) bitsLt_bf16_f32 : FVec Ideal S8192x1024 .bf16) = fun i => normal x g (i 0) (i 1) := by
  funext i
  idx_vars i
  exact A_apply x g i0 i1

end

end Cert.Norms
-- ==== Proof.Forward.lean ====
/- The projection into the mixers and the feed-forward's last product: their claims from the arrays after the run. -/
module

public import proofs.«01_k».proof.Defs
public import proofs.«01_k».proof.Proof.Gen.Kernel6Ideal.Value
public import proofs.«01_k».proof.Proof.Gen.Kernel7Ideal.Value
public import proofs.«01_k».proof.Proof.Gen.Reference6Ideal.Run
public import proofs.«01_k».proof.Proof.Gen.Reference7Ideal.Run
public import Idealize.ShloMosaic.Adequacy
public import Idealize.ShloMosaic.Init
public import proofs.«01_k».proof.Proof.Norms

@[expose] public section

noncomputable section

namespace Cert.Forward

open Idealize.ShloMosaic Idealize.SL.Sem

/-- The reference of the projection into the mixers runs, keeps its arguments and leaves every counter at zero. -/
theorem frame6 : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The reference of the feed-forward's last product runs, keeps its arguments and leaves every counter at zero. -/
theorem frame7 : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- The projection into the mixers: kernel and reference end with equal results from equal arguments. -/
theorem algebraic6 : Cert.algebraic_Kernel6Ideal_Reference6Ideal := by
  intro m ρ m' ρ' _ hag
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N,
    Cert.Kernel6Ideal.Value.run_blocks m ρ,
    (θ_run Cert.Reference6Ideal.defs _ _).mono (fun r h c => ?_) (Cert.Reference6Ideal.Value.run (F := Ideal) m' ρ')⟩
  obtain ⟨r0, r1, rest⟩ := h c
  obtain ⟨a0, a1, a2⟩ := hag c
  refine ⟨r0.trans ?_, r1.trans ?_, rest⟩
  · rw [a0, a1, a2]
    exact (Cert.Norms.ref6_0 _ _ _).trans (Cert.Norms.arr6_3 m c).symm
  · rw [a0, a1]
    exact (Cert.Norms.ref6_1 _ _).trans (Cert.Norms.arr6_4 m c).symm

/-- The feed-forward's last product and its norm: kernel and reference end with equal results from equal arguments. -/
theorem algebraic7 : Cert.algebraic_Kernel7Ideal_Reference7Ideal := by
  intro m ρ m' ρ' _ hag
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N,
    Cert.Kernel7Ideal.Value.run_blocks m ρ,
    (θ_run Cert.Reference7Ideal.defs _ _).mono (fun r h c => ?_) (Cert.Reference7Ideal.Value.run (F := Ideal) m' ρ')⟩
  obtain ⟨r0, r1, rest⟩ := h c
  obtain ⟨a0, a1, a2, a3⟩ := hag c
  refine ⟨r0.trans ?_, r1.trans ?_, rest⟩
  · rw [a0, a1]
    exact (Cert.Norms.ref7_0 _ _).trans (Cert.Norms.arr7_4 m c).symm
  · rw [a0, a1, a2, a3]
    exact (Cert.Norms.ref7_1 _ _ _ _).trans (Cert.Norms.arr7_5 m c).symm

end Cert.Forward

end
-- ==== Proof.NormGrad.lean ====
module

public import proofs.«01_k».proof.Proof.Norms

/-! The rms norm's gradient for one token: the kernel's form and the reference's agree on real numbers. -/

@[expose] public section

noncomputable section

namespace Cert.InBwd

open Idealize.ShloMosaic Finset Cert.Norms Cert.Sgu

/-- The mean square of a row, with the norm's small constant. -/
def ms (x : Fin 1024 → EReal) : EReal :=
  Ideal.div (∑ k, x k * x k) (Ideal.ofBits .f32 0x44800000#32) + Ideal.ofBits .f32 0x358637BD#32

/-- The rms norm's gradient as the kernel has it. -/
@[irreducible] def back (a x g : Fin 1024 → EReal) (j : Fin 1024) : EReal :=
  rstd x * (a j * g j - x j * rstd x * Ideal.div (∑ k, a k * g k * (x k * rstd x)) (Ideal.ofBits .f32 0x44800000#32))

/-- The reference's gradient of the mean square's entry. -/
def slope (a x g : Fin 1024 → EReal) : EReal :=
  ∑ _i : Fin 1, Ideal.div ((∑ k, x k * (a k * g k)) * (Ideal.ofBits .f32 0xBF000000#32 * Ideal.div (rstd x) (ms x))) (Ideal.ofBits .f32 0x44800000#32)

/-- The rms norm's gradient as the reference has it. -/
@[irreducible] def backRef (a x g : Fin 1024 → EReal) (j : Fin 1024) : EReal :=
  a j * g j * rstd x + x j * slope a x g + slope a x g * x j

theorem bits_1024 : Ideal.ofBits .f32 0x44800000#32 = ((1024 : ℝ) : EReal) := by
  simp [Ideal.ofBits, Ideal.ieee, -EReal.coe_mul]; norm_num

/-- On real numbers the two forms agree. -/
theorem back_real (a x g : Fin 1024 → ℝ) (j : Fin 1024) :
    back (fun k => (a k : EReal)) (fun k => (x k : EReal)) (fun k => (g k : EReal)) j = backRef (fun k => (a k : EReal)) (fun k => (x k : EReal)) (fun k => (g k : EReal)) j := by
  obtain ⟨v, hv⟩ : ∃ v : ℝ, v = (∑ k, x k * x k) * (1 / 1024) + eps := ⟨_, rfl⟩
  have hpos : 0 < v := by
    rw [hv]
    have h1 : 0 ≤ ∑ k, x k * x k := Finset.sum_nonneg fun k _ => mul_self_nonneg _
    have h2 : 0 < eps := by unfold eps; norm_num
    positivity
  have hms : ms (fun k => (x k : EReal)) = ((v : ℝ) : EReal) := by
    unfold ms
    simp only [← EReal.coe_mul]
    rw [coe_sum, bits_1024, div_real _ (by norm_num), bits_eps, ← EReal.coe_add, hv]
  obtain ⟨r, hr⟩ : ∃ r : ℝ, r = (√v)⁻¹ := ⟨_, rfl⟩
  have hrs : rstd (fun k => (x k : EReal)) = ((r : ℝ) : EReal) := by
    have e : rstd (fun k => (x k : EReal)) = Ideal.rsqrt (ms fun k => (x k : EReal)) := by
      unfold rstd ms
      rfl
    rw [e, hms, rsqrt_real hpos, hr]
  have hr2 : r * r = 1 / v := by
    rw [hr, ← mul_inv, Real.mul_self_sqrt hpos.le, one_div]
  have hP : ∑ k, a k * g k * (x k * r) = (∑ k, x k * (a k * g k)) * r := by
    rw [Finset.sum_mul]
    exact Finset.sum_congr rfl fun k _ => by ring
  unfold back backRef slope
  rw [hrs, hms, bits_1024, bits_neg_half, Fin.sum_univ_one, div_real _ hpos.ne']
  simp only [← EReal.coe_mul]
  rw [coe_sum, coe_sum, hP]
  simp only [← EReal.coe_mul]
  rw [div_real _ (by norm_num), div_real _ (by norm_num)]
  simp only [← EReal.coe_mul, ← EReal.coe_add, ← EReal.coe_sub]
  rw [← hr2]
  congr 1
  ring

/-- The same of rows that hold real numbers. -/
theorem back_eq (a x g : Fin 1024 → EReal) (ha : ∀ k, ∃ r : ℝ, a k = (r : EReal)) (hx : ∀ k, ∃ r : ℝ, x k = (r : EReal))
    (hg : ∀ k, ∃ r : ℝ, g k = (r : EReal)) (j : Fin 1024) : back a x g j = backRef a x g j := by
  choose A hA using ha
  choose X hX using hx
  choose G hG using hg
  obtain rfl : a = fun k => (A k : EReal) := funext hA
  obtain rfl : x = fun k => (X k : EReal) := funext hX
  obtain rfl : g = fun k => (G k : EReal) := funext hG
  exact back_real A X G j

/-- An entry of a product of real matrices is a real number. -/
theorem prod_real {a b d : ℕ} (x : Fin a → Fin b → EReal) (w : Fin b → Fin d → EReal) (hx : ∀ i k, ∃ r : ℝ, x i k = (r : EReal))
    (hw : ∀ k j, ∃ r : ℝ, w k j = (r : EReal)) (i : Fin a) (j : Fin d) : ∃ r : ℝ, Cert.Norms.prod x w i j = (r : EReal) := by
  choose X hX using hx
  choose W hW using hw
  refine ⟨∑ k, X i k * W k j, ?_⟩
  unfold Cert.Norms.prod
  simp only [hX, hW, ← EReal.coe_mul]
  exact coe_sum _ _

end Cert.InBwd
-- ==== Proof.InPoint.lean ====
module

public import proofs.«01_k».proof.Proof.NormGrad
public import proofs.«01_k».proof.Proof.GradIn
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack

/-! The gradient of the layer's input: what the kernel's arrays and the reference's results hold. -/

@[expose] public section

set_option maxRecDepth 16384

noncomputable section

namespace Cert.InBwd

open Idealize.ShloMosaic Finset Cert.Norms Cert.GradIn

/-- An entry of the gradient of the normalised tokens. -/
def da {n : ℕ} (p : FVec Ideal ⟨3, ![3, n, 512]⟩ .f32) (z : FVec Ideal ⟨3, ![2, n, 512]⟩ .bf16) (w : FVec Ideal ⟨2, ![2560, 1024]⟩ .bf16) : Fin n → Fin 1024 → EReal :=
  Cert.Norms.prod (cat p z) fun k j => w (ix2 k j)

section

open Cert.Kernel2Ideal Cert.Kernel2Ideal.Gen

theorem pay4 (a b d : FVec Ideal S1x512x512 .f32) (e f : FVec Ideal S1x512x512 .bf16) (w : FVec Ideal S2560x1024 .bf16)
    (i : Fin 512) (j : Fin 1024) :
    (k0_pay4 a b d e f w : FVec Ideal S512x1024 .f32) (ix2 i j) = ∑ k : Fin 2560,
      (if h : k.val < 512 then a (ix3 0 i ⟨k.val, h⟩)
      else if h : k.val - 512 < 512 then b (ix3 0 i ⟨k.val - 512, h⟩)
      else if h : k.val - 512 - 512 < 512 then d (ix3 0 i ⟨k.val - 512 - 512, h⟩)
      else if h : k.val - 512 - 512 - 512 < 512 then e (ix3 0 i ⟨k.val - 512 - 512 - 512, h⟩)
      else f (ix3 0 i ⟨k.val - 512 - 512 - 512 - 512, by omega⟩)) * w (ix2 k j) := by
  pointwise [k0_pay4]

theorem pay5 (x : FVec Ideal S512x1024 .f32) (i : Fin 512) (j : Fin 1) :
    (k0_pay5 x : FVec Ideal S512x1 .f32) (ix2 i j) = rstd fun k => x (ix2 i k) := by
  unfold rstd
  pointwise [k0_pay5]

theorem pay6 (x : FVec Ideal S512x1024 .f32) (i : Fin 512) (j : Fin 1024) :
    (k0_pay6 x : FVec Ideal S512x1024 .f32) (ix2 i j) = x (ix2 i j) * rstd fun k => x (ix2 i k) := by
  refine Eq.trans ?_ (congrArg (_ * ·) (pay5 x i 0))
  pointwise [k0_pay6]

theorem pay1 (a : FVec Ideal S512x1024 .f32) (g : FVec Ideal S1x1024 .f32) (r : FVec Ideal S512x1 .f32) (n h : FVec Ideal S512x1024 .f32) (i : Fin 512) (j : Fin 1024) :
    (k0_pay1 a g r n h : FVec Ideal S512x1024 .f32) (ix2 i j) = h (ix2 i j) + r (ix2 i 0) * (a (ix2 i j) * g (ix2 0 j)
      - n (ix2 i j) * Ideal.div (∑ k, a (ix2 i k) * g (ix2 0 k) * n (ix2 i k)) (Ideal.ofBits .f32 0x44800000#32)) := by
  pointwise [k0_pay1]

theorem pay2 (a n : FVec Ideal S512x1024 .f32) (acc : FVec Ideal S1x1024 .f32) (i : Fin 1) (j : Fin 1024) :
    (k0_pay2 a n acc : FVec Ideal S1x1024 .f32) (ix2 i j) = acc (ix2 i j) + ∑ r : Fin 512, a (ix2 r j) * n (ix2 r j) := by
  pointwise [k0_pay2]

theorem pay3 (i : Fin 1) (j : Fin 1024) : (k0_pay3 : FVec Ideal S1x1024 .f32) (ix2 i j) = 0 := by
  pointwise [k0_pay3]

end

section

open Cert.Reference2Ideal Cert.Reference2Ideal.Gen

/-- The reference's gradient of the tokens, entry by entry. -/
theorem refx (a x h : FVec Ideal S8192x1024 .f32) (g : FVec Ideal S1x1024 .f32) (i : Fin 8192) (j : Fin 1024) :
    (addf h (addf (addf (mulf (mulf a (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf x (broadcastInDim S8192x1024 ![0] bcast_S8192_S8192x1024_0 (Host.reduceAdd (Host.divf (mulf (shapeCast _ (Host.reduceAdd (mulf x (mulf a (broadcastInDim S8192x1024 ![0, 1] bcast_S1x1024_S8192x1024_0_1 (broadcastInDim S1x1024 ![1] bcast_S1024_S1x1024_1 (shapeCast _ g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf a (broadcastInDim S8192x1024 ![0, 1] bcast_S1x1024_S8192x1024_0_1 (broadcastInDim S1x1024 ![1] bcast_S1024_S1x1024_1 (shapeCast _ g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)) : FVec Ideal S8192x1024 .f32) (ix2 i j)
      = h (ix2 i j) + backRef (fun k => a (ix2 i k)) (fun k => x (ix2 i k)) (fun k => g (ix2 0 k)) j := by
  unfold backRef slope ms rstd
  pointwise []

/-- The reference's gradient of the norm's gain, entry by entry. -/
theorem refg (a x : FVec Ideal S8192x1024 .f32) (i : Fin 1) (j : Fin 1024) :
    (broadcastInDim S1x1024 ![1] bcast_S1024_S1x1024_1 (Host.reduceAdd (shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) a) (constant S_ .f32 0x00000000#32) reducesTo_S8192x1024_S1024_d0 h_S_) shapeCasts_S1024_S1x1024) (constant S_ .f32 0x00000000#32) reducesTo_S1x1024_S1024_d0 h_S_) : FVec Ideal S1x1024 .f32) (ix2 i j)
      = ∑ t : Fin 8192, a (ix2 t j) * (x (ix2 t j) * rstd fun k => x (ix2 t k)) := by
  refine Eq.trans ?_ (Finset.sum_congr rfl fun t _ => mul_comm _ _)
  refine Eq.trans ?_ (Fin.sum_univ_one fun _ : Fin 1 => ∑ t : Fin 8192, x (ix2 t j) * (rstd fun k => x (ix2 t k)) * a (ix2 t j))
  unfold rstd
  pointwise []

end

end Cert.InBwd
-- ==== Proof.InArr.lean ====
module

public import proofs.«01_k».proof.Proof.InPoint

/-! The gradient of the layer's input: the kernel's arrays after the run. -/

@[expose] public section

set_option maxRecDepth 16384

noncomputable section

namespace Cert.InBwd

open Idealize.ShloMosaic Finset Cert.Norms Cert.GradIn

/-- An entry of the gradient of the tokens, the rms norm's gradient being given. -/
def gradX (f : (Fin 1024 → EReal) → (Fin 1024 → EReal) → (Fin 1024 → EReal) → Fin 1024 → EReal) (a : Fin 8192 → Fin 1024 → EReal)
    (x h : FVec Ideal ⟨2, ![8192, 1024]⟩ .f32) (g : FVec Ideal ⟨2, ![1, 1024]⟩ .f32) (i : Fin 8192) (j : Fin 1024) : EReal :=
  h (ix2 i j) + f (a i) (fun k => x (ix2 i k)) (fun k => g (ix2 0 k)) j

/-- A token's part of the gradient of the norm's gain, zero past the last token. -/
def part (a : Fin 8192 → Fin 1024 → EReal) (x : FVec Ideal ⟨2, ![8192, 1024]⟩ .f32) (j : Fin 1024) (r : ℕ) : EReal :=
  if hr : r < 8192 then a ⟨r, hr⟩ j * (x (ix2 ⟨r, hr⟩ j) * rstd fun k => x (ix2 ⟨r, hr⟩ k)) else 0

/-- An entry of the gradient of the norm's gain. -/
@[irreducible] def gradG (a : Fin 8192 → Fin 1024 → EReal) (x : FVec Ideal ⟨2, ![8192, 1024]⟩ .f32) (j : Fin 1024) : EReal :=
  ∑ t : Fin 8192, a t j * (x (ix2 t j) * rstd fun k => x (ix2 t k))

/-- The gain's gradient in sixteen blocks of 512 tokens. -/
theorem gradG_blocks (a : Fin 8192 → Fin 1024 → EReal) (x : FVec Ideal ⟨2, ![8192, 1024]⟩ .f32) (j : Fin 1024) :
    ∑ s ∈ range 16, ∑ r : Fin 512, part a x j (s * 512 + r) = gradG a x j := by
  rw [Cert.Products.sum_blocks 512 (part a x j) 16, Finset.sum_range]
  unfold gradG
  refine Finset.sum_congr rfl fun t _ => ?_
  unfold part
  rw [dif_pos t.isLt]

section

open Cert.Kernel2Ideal Cert.Kernel2Ideal.Gen Cert.Kernel2Ideal.Value

variable (m : (ℓ : Loc nD τ sig) → Buf (Elt Ideal) ℓ) (c : Dev nD)

/-- The gradients of queries, keys and values. -/
abbrev dq : FVec Ideal S3x8192x512 .f32 := m ((c.tc : Thread nD τ).loc main_arg0)

/-- The gradients of the gating unit's inputs. -/
abbrev dz : FVec Ideal S2x8192x512 .bf16 := m ((c.tc : Thread nD τ).loc main_arg1)

/-- The projection's weights. -/
abbrev wts : FVec Ideal S2560x1024 .bf16 := m ((c.tc : Thread nD τ).loc main_arg2)

/-- The tokens. -/
abbrev tok : FVec Ideal S8192x1024 .f32 := m ((c.tc : Thread nD τ).loc main_arg3)

/-- The gradient that the residual path carries. -/
abbrev dh : FVec Ideal S8192x1024 .f32 := m ((c.tc : Thread nD τ).loc main_arg4)

/-- The norm's gain. -/
abbrev gain : FVec Ideal S1x1024 .f32 := m ((c.tc : Thread nD τ).loc main_arg5)

/-- The gradient of the normalised tokens. -/
abbrev dn : Fin 8192 → Fin 1024 → EReal := da (dq m c) (dz m c) (wts m c)

theorem N16 (t : Fin cfg0.N) : t.val < 16 := lt_of_lt_of_eq t.isLt N_0

theorem idx : ∀ t, win0_0.index t = ![0, t.val, 0] ∧ win0_1.index t = ![0, t.val, 0] ∧ win0_2.index t = ![0, 0]
    ∧ win0_3.index t = ![t.val, 0] ∧ win0_4.index t = ![t.val, 0] ∧ win0_5.index t = ![0, 0] ∧ win0_6.index t = ![t.val, 0] := by
  decide +kernel

/-- The row of an entry of a grid point's block. -/
abbrev row (t : Fin cfg0.N) (i : Fin 512) : Fin 8192 := ⟨t.val * 512 + i.val, by have := N16 t; omega⟩

theorem blk0 (t : Fin cfg0.N) (g : Fin 3) (r : Fin 512) (i : Fin 512) : (iblk m c 0 t : FVec Ideal S3x512x512 .f32) (ix3 g r i)
    = dq m c (ix3 g (row t r) i) := by
  blk_ext [iblk, V, idx t]

theorem blk1 (t : Fin cfg0.N) (g : Fin 2) (r : Fin 512) (i : Fin 512) : (iblk m c 1 t : FVec Ideal S2x512x512 .bf16) (ix3 g r i)
    = dz m c (ix3 g (row t r) i) := by
  blk_ext [iblk, V, idx t]

theorem blk2 (t : Fin cfg0.N) (r : Fin 2560) (i : Fin 1024) : (iblk m c 2 t : FVec Ideal S2560x1024 .bf16) (ix2 r i) = wts m c (ix2 r i) := by
  blk_ext [iblk, V, idx t]

theorem blk3 (t : Fin cfg0.N) (r : Fin 512) (i : Fin 1024) : (iblk m c 3 t : FVec Ideal S512x1024 .f32) (ix2 r i) = tok m c (ix2 (row t r) i) := by
  blk_ext [iblk, V, idx t]

theorem blk4 (t : Fin cfg0.N) (r : Fin 512) (i : Fin 1024) : (iblk m c 4 t : FVec Ideal S512x1024 .f32) (ix2 r i) = dh m c (ix2 (row t r) i) := by
  blk_ext [iblk, V, idx t]

theorem blk5 (t : Fin cfg0.N) (r : Fin 1) (i : Fin 1024) : (iblk m c 5 t : FVec Ideal S1x1024 .f32) (ix2 r i) = gain m c (ix2 r i) := by
  blk_ext [iblk, V, idx t]

theorem emb6 (t : Fin cfg0.N) (i : Fin 512) (k : Fin 1024) : (win0_6.blk t).view.emb (ix2 i k) = (ix2 (row t i) k : S8192x1024.Idx) := by
  blk_ext [idx t]

/-- A grid point's block of the gradient of the normalised tokens. -/
abbrev proj (x : FVec Ideal S3x512x512 .f32) (y : FVec Ideal S2x512x512 .bf16) (w : FVec Ideal S2560x1024 .bf16) : FVec Ideal S512x1024 .f32 :=
  k0_pay4 (View.ld (Val := Elt Ideal) (e' := .f32) x (Rect.unit (s := S3x512x512) ![0, 0, 0] S1x512x512.size inb_S3x512x512_S1x512x512_0_0_0))
    (View.ld (Val := Elt Ideal) (e' := .f32) x (Rect.unit (s := S3x512x512) ![1, 0, 0] S1x512x512.size inb_S3x512x512_S1x512x512_1_0_0))
    (View.ld (Val := Elt Ideal) (e' := .f32) x (Rect.unit (s := S3x512x512) ![2, 0, 0] S1x512x512.size inb_S3x512x512_S1x512x512_2_0_0))
    (View.ld (Val := Elt Ideal) (e' := .bf16) y (Rect.unit (s := S2x512x512) ![0, 0, 0] S1x512x512.size inb_S2x512x512_S1x512x512_0_0_0))
    (View.ld (Val := Elt Ideal) (e' := .bf16) y (Rect.unit (s := S2x512x512) ![1, 0, 0] S1x512x512.size inb_S2x512x512_S1x512x512_1_0_0)) w

theorem ld3 (x : FVec Ideal S3x512x512 .f32) (g : Fin 3) (h) (r : Fin 512) (i : Fin 512) :
    (View.ld (Val := Elt Ideal) (e' := .f32) x (Rect.unit (s := S3x512x512) ![g.val, 0, 0] S1x512x512.size h) : FVec Ideal S1x512x512 .f32) (ix3 0 r i) = x (ix3 g r i) := by
  match g with
  | 0 => pointwise [View.ld]
  | 1 => pointwise [View.ld]
  | 2 => pointwise [View.ld]

theorem ld2 (x : FVec Ideal S2x512x512 .bf16) (g : Fin 2) (h) (r : Fin 512) (i : Fin 512) :
    (View.ld (Val := Elt Ideal) (e' := .bf16) x (Rect.unit (s := S2x512x512) ![g.val, 0, 0] S1x512x512.size h) : FVec Ideal S1x512x512 .bf16) (ix3 0 r i) = x (ix3 g r i) := by
  match g with
  | 0 => pointwise [View.ld]
  | 1 => pointwise [View.ld]

theorem proj_apply (x : FVec Ideal S3x512x512 .f32) (y : FVec Ideal S2x512x512 .bf16) (w : FVec Ideal S2560x1024 .bf16) (i : Fin 512) (j : Fin 1024) :
    proj x y w (ix2 i j) = ∑ k : Fin 2560, cat x y i k * w (ix2 k j) := by
  refine (pay4 _ _ _ _ _ _ i j).trans (Finset.sum_congr rfl fun k _ => congrArg (· * _) ?_)
  unfold cat
  split
  · exact ld3 x 0 _ i _
  split
  · exact ld3 x 1 _ i _
  split
  · exact ld3 x 2 _ i _
  split
  · exact ld2 y 0 _ i _
  · exact ld2 y 1 _ i _

theorem proj_blk (t : Fin cfg0.N) (i : Fin 512) (j : Fin 1024) :
    proj (iblk m c 0 t) (iblk m c 1 t) (iblk m c 2 t) (ix2 i j) = dn m c (row t i) j := by
  rw [proj_apply]
  unfold dn da Cert.Norms.prod
  refine Finset.sum_congr rfl fun k _ => ?_
  rw [blk2]
  refine congrArg (· * _) ?_
  unfold cat
  simp only [blk0, blk1]

/-- What a grid point leaves in the block of the tokens' gradient. -/
theorem out1 (t : Fin cfg0.N) : (outsAt0 m c t.val t.isLt).1
    = (k0_pay1 (proj (iblk m c 0 t) (iblk m c 1 t) (iblk m c 2 t)) (iblk m c 5 t) (k0_pay5 (iblk m c 3 t)) (k0_pay6 (iblk m c 3 t)) (iblk m c 4 t) : FVec Ideal S512x1024 .f32) := by
  by_cases h0 : t.val % 16 = 0
  · rw [outsAt0_A m c t h0]
    dsimp only
    frame_open
    simp (disch := decide) only [↓ View.readCov_skip, ↓ View.readCov_cons_toLoadRect, ↓ View.readCov_fill]
    frame_out
  · rw [outsAt0_B m c t h0]
    dsimp only
    frame_open
    simp (disch := decide) only [↓ View.readCov_skip, ↓ View.readCov_cons_toLoadRect, ↓ View.readCov_fill]
    frame_out

/-- What a grid point makes of the gain's gradient. -/
abbrev step (t : Fin cfg0.N) (acc : FVec Ideal S1x1024 .f32) : FVec Ideal S1x1024 .f32 :=
  k0_pay2 (proj (iblk m c 0 t) (iblk m c 1 t) (iblk m c 2 t)) (k0_pay6 (iblk m c 3 t)) acc

theorem acc_A (t : Fin cfg0.N) (h0 : t.val % 16 = 0) : (outsAt0 m c t.val t.isLt).2 = step m c t k0_pay3 := by
  rw [outsAt0_A m c t h0]
  dsimp only
  frame_open
  simp (disch := decide) only [↓ View.readCov_skip, ↓ View.readCov_cons_toLoadRect, ↓ View.readCov_fill]
  frame_out

theorem acc_B (t : Fin cfg0.N) (h0 : ¬ t.val % 16 = 0) :
    (outsAt0 m c t.val t.isLt).2 = step m c t (outsAt0 m c (t.val - 1) (Nat.lt_of_le_of_lt (Nat.sub_le _ _) t.isLt)).2 := by
  rw [outsAt0_B m c t h0]
  dsimp only
  frame_open
  simp (disch := decide) only [↓ View.readCov_skip, ↓ View.readCov_cons_toLoadRect, ↓ View.readCov_fill]
  frame_out

/-- A step adds the next block of tokens. -/
theorem step_blk (t : Fin cfg0.N) (acc : FVec Ideal S1x1024 .f32) (i : Fin 1) (j : Fin 1024) :
    step m c t acc (ix2 i j) = acc (ix2 i j) + ∑ r : Fin 512, part (dn m c) (tok m c) j (t.val * 512 + r.val) := by
  refine (pay2 _ _ _ i j).trans (congrArg (_ + ·) (Finset.sum_congr rfl fun r _ => ?_))
  have hr : t.val * 512 + r.val < 8192 := by have := N16 t; omega
  unfold part
  rw [dif_pos hr, proj_blk, pay6]
  simp only [blk3]

/-- The accumulator after a grid point. -/
theorem acc (i : Fin 1) (j : Fin 1024) : ∀ (n : ℕ) (hn : n < cfg0.N),
    ((outsAt0 m c n hn).2 : FVec Ideal S1x1024 .f32) (ix2 i j) = ∑ s ∈ range (n + 1), ∑ r : Fin 512, part (dn m c) (tok m c) j (s * 512 + r.val)
  | 0, hn => by
    rw [acc_A m c ⟨0, hn⟩ (Nat.zero_mod _), step_blk, pay3, zero_add, Finset.sum_range_one]
  | n + 1, hn => by
    rw [Finset.sum_range_succ, ← acc i j n (Nat.lt_of_succ_lt hn)]
    have := N16 ⟨n + 1, hn⟩
    exact (congrFun (acc_B m c ⟨n + 1, hn⟩ (by show ¬ (n + 1) % 16 = 0; dsimp only at this; omega)) _).trans (step_blk m c ⟨n + 1, hn⟩ _ i j)

/-- What the last grid point leaves. -/
theorem last (i : Fin 1) (j : Fin 1024) (n : ℕ) (h : n = 15) (hn : n < cfg0.N) :
    ((outsAt0 m c n hn).2 : FVec Ideal S1x1024 .f32) (ix2 i j) = gradG (dn m c) (tok m c) j := by
  rw [acc m c i j n hn, ← gradG_blocks]
  subst h
  rfl

/-- The array of the gain's gradient after the run. -/
theorem arr7 : (dats m 0 c).arrAt 7 cfg0.N = (fun i => gradG (dn m c) (tok m c) (i 1) : FVec Ideal S1x1024 .f32) := by
  refine (dats m 0 c).arrAt_eq_of_after_last 7 t0_15 (by decide +kernel) _ fun j => ?_
  rw [after0_7]
  have e : (fun a => ⟨(j a).val, (j a).isLt⟩ : S1x1024.Idx) = ix2 (j 0 : Fin 1) (j 1 : Fin 1024) := by
    funext a; match a with | 0 => rfl | 1 => rfl
  exact (congrArg ((outsAt0 m c 15 t0_15.isLt).2 : FVec Ideal S1x1024 .f32) e).trans (last m c (j 0 : Fin 1) (j 1 : Fin 1024) 15 rfl _)

/-- The array of the tokens' gradient after the run. -/
theorem arr6 : (dats m 0 c).arrAt 6 cfg0.N = (fun i => gradX back (dn m c) (tok m c) (dh m c) (gain m c) (i 0) (i 1) : FVec Ideal S8192x1024 .f32) := by
  refine (dats m 0 c).arrAt_eq_of_covers 6 _ (by decide +kernel) fun t hf y => ?_
  blk_simp
  rw [after0_6, out1]
  idx_vars y
  rw [emb6]
  refine (pay1 _ _ _ _ _ y0 y1).trans ?_
  simp only [pay5, pay6, blk3, blk4, blk5, proj_blk]
  show _ = gradX back _ _ _ _ (row t y0) y1
  unfold gradX back
  rfl

end

section

open Cert.Reference2Ideal Cert.Reference2Ideal.Gen

/-- The reference's gradient of the normalised tokens. -/
theorem da_ref (p : FVec Ideal S3x8192x512 .f32) (z : FVec Ideal S2x8192x512 .bf16) (w : FVec Ideal S2560x1024 .bf16)
    (d : FVec Ideal S8192x2560 .f32) (hd : d = rows p z) :
    (Host.dotGeneral (F := Ideal) dot_S8192x2560_S1024x2560_S8192x1024_1_1_0_0_n_n none d (transpose S1024x2560 [1, 0] (extf .f32 w bitsLt_bf16_f32) transposes_S2560x1024_S1024x2560_1_0) : FVec Ideal S8192x1024 .f32)
      = fun i => da p z w (i 0) (i 1) := by
  subst hd
  funext i
  idx_vars i
  unfold da Cert.Norms.prod
  pointwise []
  rfl

/-- The reference's gradient of the tokens from that of the normalised tokens. -/
theorem refx_all (p : FVec Ideal S3x8192x512 .f32) (z : FVec Ideal S2x8192x512 .bf16) (w : FVec Ideal S2560x1024 .bf16)
    (a x h : FVec Ideal S8192x1024 .f32) (g : FVec Ideal S1x1024 .f32) (ha : a = fun i => da p z w (i 0) (i 1)) (u : FVec Ideal S8192x1024 .f32)
    (hu : ∀ i j, u (ix2 i j) = h (ix2 i j) + backRef (fun k => a (ix2 i k)) (fun k => x (ix2 i k)) (fun k => g (ix2 0 k)) j) :
    u = fun i => gradX backRef (da p z w) x h g (i 0) (i 1) := by
  subst ha
  funext i
  idx_vars i
  exact hu i0 i1

/-- … and that of the norm's gain. -/
theorem refg_all (p : FVec Ideal S3x8192x512 .f32) (z : FVec Ideal S2x8192x512 .bf16) (w : FVec Ideal S2560x1024 .bf16)
    (a x : FVec Ideal S8192x1024 .f32) (ha : a = fun i => da p z w (i 0) (i 1)) (u : FVec Ideal S1x1024 .f32)
    (hu : ∀ i j, u (ix2 i j) = ∑ t : Fin 8192, a (ix2 t j) * (x (ix2 t j) * rstd fun k => x (ix2 t k))) :
    u = fun i => gradG (da p z w) x (i 1) := by
  subst ha
  funext i
  idx_vars i
  unfold gradG
  exact hu i0 i1

end

end Cert.InBwd
-- ==== Proof.InBwd.lean ====
module

public import proofs.«01_k».proof.Defs
public import proofs.«01_k».proof.Proof.Finite
public import proofs.«01_k».proof.Proof.InArr
public import Idealize.ShloMosaic.Adequacy
public import Idealize.ShloMosaic.Init

/-! The gradient of the layer's input: the claims from the arrays after the run. -/

@[expose] public section

set_option maxRecDepth 16384

noncomputable section

namespace Cert.InBwd

open Idealize.ShloMosaic Idealize.SL.Sem

/-- The shape relations of the precondition's operations. -/
instance preFacts : Cert.Pre_finite_inputs2.Facts where
  bcast_S_S3x8192x512 := by decide
  reducesTo_S3x8192x512_S_d0_1_2 := by decide
  h_S_ := by decide
  bitsLt_bf16_f32 := by decide
  bcast_S_S2x8192x512 := by decide
  reducesTo_S2x8192x512_S_d0_1_2 := by decide
  bcast_S_S2560x1024 := by decide
  reducesTo_S2560x1024_S_d0_1 := by decide
  bcast_S_S8192x1024 := by decide
  reducesTo_S8192x1024_S_d0_1 := by decide
  bcast_S_S1x1024 := by decide
  reducesTo_S1x1024_S_d0_1 := by decide

/-- Under the precondition the arguments but the residual path's hold real numbers. -/
theorem real_of_pre (p : FVec Ideal ⟨3, ![3, 8192, 512]⟩ .f32) (z : FVec Ideal ⟨3, ![2, 8192, 512]⟩ .bf16) (w : FVec Ideal ⟨2, ![2560, 1024]⟩ .bf16)
    (x h : FVec Ideal ⟨2, ![8192, 1024]⟩ .f32) (g : FVec Ideal ⟨2, ![1, 1024]⟩ .f32)
    (hp : Cert.Pre_finite_inputs2.fn (F := Ideal) p z w x h g = fun _ => 1#1) :
    (∀ i, ∃ r : ℝ, p i = (r : EReal)) ∧ (∀ i, ∃ r : ℝ, z i = (r : EReal)) ∧ (∀ i, ∃ r : ℝ, w i = (r : EReal))
      ∧ (∀ i, ∃ r : ℝ, x i = (r : EReal)) ∧ (∀ i, ∃ r : ℝ, g i = (r : EReal)) := by
  have h' := congrFun hp (fun a : Fin 0 => a.elim0)
  unfold Cert.Pre_finite_inputs2.fn Cert.Pre_finite_inputs2.fn_part1 at h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨Cert.Sgu.all_finite _ _ _ _ _ h0, Cert.Sgu.all_finite (extf .f32 z Cert.Pre_finite_inputs2.Facts.bitsLt_bf16_f32) _ _ _ _ h1,
    Cert.Sgu.all_finite (extf .f32 w Cert.Pre_finite_inputs2.Facts.bitsLt_bf16_f32) _ _ _ _ h2, Cert.Sgu.all_finite _ _ _ _ _ h3, Cert.Sgu.all_finite _ _ _ _ _ h4⟩

/-- On real numbers the kernel's gradient of the tokens is the reference's. -/
theorem gradX_eq (p : FVec Ideal ⟨3, ![3, 8192, 512]⟩ .f32) (z : FVec Ideal ⟨3, ![2, 8192, 512]⟩ .bf16) (w : FVec Ideal ⟨2, ![2560, 1024]⟩ .bf16)
    (x h : FVec Ideal ⟨2, ![8192, 1024]⟩ .f32) (g : FVec Ideal ⟨2, ![1, 1024]⟩ .f32)
    (hp : Cert.Pre_finite_inputs2.fn (F := Ideal) p z w x h g = fun _ => 1#1) (i : Fin 8192) (j : Fin 1024) :
    gradX backRef (da p z w) x h g i j = gradX back (da p z w) x h g i j := by
  obtain ⟨h0, h1, h2, h3, h4⟩ := real_of_pre p z w x h g hp
  unfold gradX
  refine congrArg (_ + ·) (back_eq _ _ _ (fun k => ?_) (fun k => h3 _) (fun k => h4 _) j).symm
  refine prod_real _ _ (fun i k => ?_) (fun k j => h2 _) i k
  unfold Cert.GradIn.cat
  split
  · exact h0 _
  split
  · exact h0 _
  split
  · exact h0 _
  split
  · exact h1 _
  · exact h1 _

/-- The reference of the input's gradient runs, keeps its arguments and leaves every counter at zero. -/
theorem frame2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The gradients of the layer's input and of its norm's gain: from equal finite arguments kernel and reference end with equal results. -/
theorem algebraic2 : Cert.algebraic_Kernel2Ideal_Reference2Ideal_pre_finite_inputs2 := by
  intro m ρ m' ρ' hpre hag
  refine ⟨fun c => (Cert.Kernel2Ideal.Gen.dats m 0 c).arrAt 6 Cert.Kernel2Ideal.cfg0.N, fun c => (Cert.Kernel2Ideal.Gen.dats m 0 c).arrAt 7 Cert.Kernel2Ideal.cfg0.N,
    Cert.Kernel2Ideal.Value.run_blocks m ρ,
    (θ_run Cert.Reference2Ideal.defs _ _).mono (fun r h c => ?_) (Cert.Reference2Ideal.Value.run (F := Ideal) m' ρ')⟩
  obtain ⟨r0, r1, rest⟩ := h c
  obtain ⟨a0, a1, a2, a3, a4, a5⟩ := hag c
  refine ⟨r0.trans ?_, r1.trans ?_, rest⟩
  · unfold Cert.Reference2Ideal.Value.res_main_v54
    rw [a0, a1, a2, a3, a4, a5]
    refine (refx_all _ _ _ _ _ _ _ (da_ref _ _ _ _ (Cert.GradIn.rows_ref _ _)) _ (refx _ _ _ _)).trans (Eq.trans ?_ (arr6 m c).symm)
    funext i
    exact gradX_eq _ _ _ _ _ _ (hpre c) _ _
  · rw [a0, a1, a2, a3]
    exact (refg_all _ _ _ _ _ (da_ref _ _ _ _ (Cert.GradIn.rows_ref _ _)) _ (refg _ _)).trans (arr7 m c).symm

end Cert.InBwd
-- ==== Proof.PeDefs.lean ====
module

public import proofs.«01_k».proof.Proof.InArr
public import proofs.«01_k».proof.Proof.GateUp

/-! The embedding's gate, the loss and their gradients: the entries of the results. -/

@[expose] public section

noncomputable section

namespace Cert.Pe

open Idealize.ShloMosaic Finset Cert.Norms Cert.InBwd Cert.Sgu

/-- An entry of the gate of n tokens. -/
@[irreducible] def Gt {n : ℕ} (h : FVec Ideal ⟨2, ![n, 1024]⟩ .f32) (w : FVec Ideal ⟨2, ![1024, 1024]⟩ .bf16) (b : FVec Ideal ⟨2, ![1, 1024]⟩ .f32) (i : Fin n) (j : Fin 1024) : EReal :=
  Ideal.logistic ((∑ k : Fin 1024, h (ix2 i k) * w (ix2 k j)) + b (ix2 0 j))

/-- An entry of the embedding of n tokens. -/
@[irreducible] def Pt {n : ℕ} (p : FVec Ideal ⟨2, ![n, 256]⟩ .f32) (w : FVec Ideal ⟨2, ![1024, 256]⟩ .bf16) (i : Fin n) (j : Fin 1024) : EReal :=
  ∑ k : Fin 256, p (ix2 i k) * w (ix2 j k)

/-- An entry of the error of n tokens. -/
def Dt {n : ℕ} (h : FVec Ideal ⟨2, ![n, 1024]⟩ .f32) (p : FVec Ideal ⟨2, ![n, 256]⟩ .f32) (y : FVec Ideal ⟨2, ![n, 1024]⟩ .f32)
    (w : FVec Ideal ⟨2, ![1024, 1024]⟩ .bf16) (b : FVec Ideal ⟨2, ![1, 1024]⟩ .f32) (v : FVec Ideal ⟨2, ![1024, 256]⟩ .bf16) (i : Fin n) (j : Fin 1024) : EReal :=
  h (ix2 i j) + Gt h w b i j * Pt p v i j - y (ix2 i j)

/-- The kernel's gradient of the loss from the error. -/
def scale (d : EReal) : EReal := d * Ideal.ofBits .f32 0x3A800000#32

/-- The reference's gradient of the loss from the error. -/
def scaleR (d : EReal) : EReal :=
  Ideal.div (Ideal.ofBits .f32 0x3F000000#32 * 1) (Ideal.ofBits .f32 0x44800000#32) * (Ideal.ofBits .f32 0x40000000#32 * d)

/-- An entry of the gradient of the gate's input, from the loss's gradient, the embedding and the gate. -/
def pre {n : ℕ} (E P G : Fin n → Fin 1024 → EReal) (i : Fin n) (j : Fin 1024) : EReal :=
  E i j * P i j * (G i j * (1 - G i j))

/-- An entry of the gradient of the tokens. -/
@[irreducible] def dtok {n : ℕ} (E Q : Fin n → Fin 1024 → EReal) (w : FVec Ideal ⟨2, ![1024, 1024]⟩ .bf16) (i : Fin n) (j : Fin 1024) : EReal :=
  E i j + ∑ k : Fin 1024, Q i k * w (ix2 j k)

/-- A sum over all the tokens. -/
@[irreducible] def total (f : Fin 8192 → EReal) : EReal := ∑ t, f t

/-- A token's term, zero past the last token. -/
def at_ (f : Fin 8192 → EReal) (r : ℕ) : EReal := if h : r < 8192 then f ⟨r, h⟩ else 0

/-- A sum over the tokens that grows by a block of 512 at each of sixteen steps. -/
theorem total_steps (f : Fin 8192 → EReal) (N : ℕ) (hN : N = 16) (o : (n : ℕ) → n < N → EReal)
    (h0 : ∀ hn, o 0 hn = ∑ r : Fin 512, at_ f (0 * 512 + r.val))
    (hs : ∀ n hn, o (n + 1) hn = o n (Nat.lt_of_succ_lt hn) + ∑ r : Fin 512, at_ f ((n + 1) * 512 + r.val))
    (n : ℕ) (h : n = 15) (hn : n < N) : o n hn = total f := by
  have acc : ∀ n hn, o n hn = ∑ s ∈ range (n + 1), ∑ r : Fin 512, at_ f (s * 512 + r.val) := by
    intro n
    induction n with
    | zero => intro hn; rw [h0, Finset.sum_range_one]
    | succ n ih => intro hn; rw [hs, ih, Finset.sum_range_succ _ (n + 1)]
  rw [acc]
  subst h
  refine (Cert.Products.sum_blocks 512 (at_ f) 16).trans ?_
  rw [Finset.sum_range]
  unfold total
  refine Finset.sum_congr rfl fun t _ => ?_
  unfold at_
  rw [dif_pos t.isLt]

theorem bits_2 : Ideal.ofBits .f32 0x40000000#32 = ((2 : ℝ) : EReal) := by
  simp [Ideal.ofBits, Ideal.ieee, -EReal.coe_mul]; norm_num

theorem bits_inv : Ideal.ofBits .f32 0x3A800000#32 = ((1 / 1024 : ℝ) : EReal) := by
  simp [Ideal.ofBits, Ideal.ieee, -EReal.coe_mul]; norm_num

/-- On a real error the two gradients of the loss agree. -/
theorem scale_eq (d : ℝ) : scaleR (d : EReal) = scale (d : EReal) := by
  unfold scaleR scale
  rw [bits_2, bits_inv, bits_half, bits_1024, mul_one, div_real _ (by norm_num)]
  simp only [← EReal.coe_mul]
  congr 1
  ring

/-- An extended real that is a real number. -/
abbrev IsR (x : EReal) : Prop := ∃ r : ℝ, x = (r : EReal)

theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem IsR.sub {x y : EReal} : IsR x → IsR y → IsR (x - y) := fun ⟨a, ha⟩ ⟨b, hb⟩ => ⟨a - b, by rw [ha, hb, EReal.coe_sub]⟩
theorem IsR.one : IsR 1 := ⟨1, rfl⟩
theorem IsR.sum {n : ℕ} {f : Fin n → EReal} (h : ∀ i, IsR (f i)) : IsR (∑ i, f i) := by
  choose g hg using h
  exact ⟨∑ i, g i, by simp only [hg]; exact coe_sum _ _⟩
theorem IsR.logistic {x : EReal} : IsR x → IsR (Ideal.logistic x) := fun ⟨a, ha⟩ => by
  rw [ha, Ideal.logistic_coe]
  exact ⟨_, rfl⟩

/-- From real arguments the error is real. -/
theorem Dt_real {n : ℕ} (h : FVec Ideal ⟨2, ![n, 1024]⟩ .f32) (p : FVec Ideal ⟨2, ![n, 256]⟩ .f32) (y : FVec Ideal ⟨2, ![n, 1024]⟩ .f32)
    (w : FVec Ideal ⟨2, ![1024, 1024]⟩ .bf16) (b : FVec Ideal ⟨2, ![1, 1024]⟩ .f32) (v : FVec Ideal ⟨2, ![1024, 256]⟩ .bf16)
    (hh : ∀ i, IsR (h i)) (hp : ∀ i, IsR (p i)) (hy : ∀ i, IsR (y i)) (hw : ∀ i, IsR (w i)) (hb : ∀ i, IsR (b i)) (hv : ∀ i, IsR (v i))
    (i : Fin n) (j : Fin 1024) : IsR (Gt h w b i j) ∧ IsR (Pt p v i j) ∧ IsR (Dt h p y w b v i j) := by
  have g : IsR (Gt h w b i j) := by
    unfold Gt
    exact .logistic (.add (.sum fun k => .mul (hh _) (hw _)) (hb _))
  have q : IsR (Pt p v i j) := by
    unfold Pt
    exact .sum fun k => .mul (hp _) (hv _)
  exact ⟨g, q, .sub (.add (hh _) (.mul g q)) (hy _)⟩

/-- From real arguments the gradient of the tokens is real. -/
theorem dtok_real {n : ℕ} (D P G : Fin n → Fin 1024 → EReal) (w : FVec Ideal ⟨2, ![1024, 1024]⟩ .bf16)
    (hD : ∀ i j, IsR (D i j)) (hP : ∀ i j, IsR (P i j)) (hG : ∀ i j, IsR (G i j)) (hw : ∀ i, IsR (w i)) (i : Fin n) (j : Fin 1024) :
    IsR (dtok (fun i j => scale (D i j)) (pre (fun i j => scale (D i j)) P G) w i j) := by
  have hE : ∀ i j, IsR (scale (D i j)) := fun i j => .mul (hD i j) ⟨_, bits_inv⟩
  unfold dtok pre
  exact .add (hE _ _) (.sum fun k => .mul (.mul (.mul (hE _ _) (hP _ _)) (.mul (hG _ _) (.sub .one (hG _ _)))) (hw _))

end Cert.Pe
-- ==== Proof.PePoint.lean ====
module

public import proofs.«01_k».proof.Proof.PeDefs
public import proofs.«01_k».proof.Proof.Gen.Kernel8Ideal.Value
public import Idealize.ShloMosaic.Lib.Pipeline.ValueKit
public import Idealize.ShloMosaic.Lib.Pipeline.ReadBack

/-! The embedding's gate, the loss and their gradients: the values a grid point computes, entry by entry. -/

@[expose] public section

set_option maxRecDepth 16384

noncomputable section

namespace Cert.Pe

open Idealize.ShloMosaic Finset Cert.Norms Cert.InBwd Cert.Kernel8Ideal Cert.Kernel8Ideal.Gen

theorem p10 (x : FVec Ideal S512x1024 .f32) (i : Fin 512) (j : Fin 1024) :
    (k0_pay10 x : FVec Ideal S512x1024 .bf16) (ix2 i j) = x (ix2 i j) := by
  pointwise [k0_pay10]

theorem p11 (x : FVec Ideal S512x256 .f32) (i : Fin 512) (j : Fin 256) :
    (k0_pay11 x : FVec Ideal S512x256 .bf16) (ix2 i j) = x (ix2 i j) := by
  pointwise [k0_pay11]

theorem p12 (x : FVec Ideal S512x1024 .f32) (w : FVec Ideal S1024x1024 .bf16) (b : FVec Ideal S1x1024 .f32) (i : Fin 512) (j : Fin 1024) :
    (k0_pay12 x w b : FVec Ideal S512x1024 .f32) (ix2 i j) = Gt x w b i j := by
  unfold Gt
  rw [← Cert.GateUp.sigmoid]
  pointwise [k0_pay12]
  simp only [p10, Sgu.bits_half]

theorem p13 (p : FVec Ideal S512x256 .f32) (w : FVec Ideal S1024x256 .bf16) (i : Fin 512) (j : Fin 1024) :
    (k0_pay13 p w : FVec Ideal S512x1024 .f32) (ix2 i j) = Pt p w i j := by
  unfold Pt
  pointwise [k0_pay13]
  simp only [p11]

theorem p14 (x : FVec Ideal S512x1024 .f32) (p : FVec Ideal S512x256 .f32) (w : FVec Ideal S1024x1024 .bf16) (b : FVec Ideal S1x1024 .f32)
    (v : FVec Ideal S1024x256 .bf16) (y : FVec Ideal S512x1024 .f32) (i : Fin 512) (j : Fin 1024) :
    (k0_pay14 x p w b v y : FVec Ideal S512x1024 .f32) (ix2 i j) = Dt x p y w b v i j := by
  unfold Dt
  rw [← p12, ← p13]
  pointwise [k0_pay14]

theorem p15 (x : FVec Ideal S512x1024 .f32) (p : FVec Ideal S512x256 .f32) (w : FVec Ideal S1024x1024 .bf16) (b : FVec Ideal S1x1024 .f32)
    (v : FVec Ideal S1024x256 .bf16) (y : FVec Ideal S512x1024 .f32) (acc : FVec Ideal S1x1024 .f32) (i : Fin 1) (j : Fin 1024) :
    (k0_pay15 x p w b v y acc : FVec Ideal S1x1024 .f32) (ix2 i j) = acc (ix2 i j) + ∑ r : Fin 512, Dt x p y w b v r j * Dt x p y w b v r j := by
  simp only [← p14]
  pointwise [k0_pay15]

theorem p16 (d : FVec Ideal S512x1024 .f32) (i : Fin 512) (j : Fin 1024) :
    (k0_pay16 d : FVec Ideal S512x1024 .f32) (ix2 i j) = scale (d (ix2 i j)) := by
  unfold scale
  pointwise [k0_pay16]

theorem p17 (g p d : FVec Ideal S512x1024 .f32) (i : Fin 512) (j : Fin 1024) :
    (k0_pay17 g p d : FVec Ideal S512x1024 .f32) (ix2 i j) = scale (d (ix2 i j)) * p (ix2 i j) * (g (ix2 i j) * (1 - g (ix2 i j))) := by
  rw [← p16]
  pointwise [k0_pay17]

theorem p19 (g p d : FVec Ideal S512x1024 .f32) (acc : FVec Ideal S1x1024 .f32) (i : Fin 1) (j : Fin 1024) :
    (k0_pay19 g p d acc : FVec Ideal S1x1024 .f32) (ix2 i j) = acc (ix2 i j) + ∑ r : Fin 512, (k0_pay17 g p d : FVec Ideal S512x1024 .f32) (ix2 r j) := by
  pointwise [k0_pay19]

theorem p20 (h : FVec Ideal S512x1024 .bf16) (g p d : FVec Ideal S512x1024 .f32) (acc : FVec Ideal S1024x1024 .f32) (i j : Fin 1024) :
    (k0_pay20 h g p d acc : FVec Ideal S1024x1024 .f32) (ix2 i j) = acc (ix2 i j) + ∑ r : Fin 512, h (ix2 r i) * (k0_pay17 g p d : FVec Ideal S512x1024 .f32) (ix2 r j) := by
  pointwise [k0_pay20, k0_pay18]

theorem p21 (q : FVec Ideal S512x256 .bf16) (g d : FVec Ideal S512x1024 .f32) (acc : FVec Ideal S1024x256 .f32) (i : Fin 1024) (j : Fin 256) :
    (k0_pay21 q g d acc : FVec Ideal S1024x256 .f32) (ix2 i j) = acc (ix2 i j) + ∑ r : Fin 512, scale (d (ix2 r i)) * g (ix2 r i) * q (ix2 r j) := by
  simp only [← p16]
  pointwise [k0_pay21]

theorem p22 (g p d : FVec Ideal S512x1024 .f32) (w : FVec Ideal S1024x1024 .bf16) (i : Fin 512) (j : Fin 1024) :
    (k0_pay22 g p d w : FVec Ideal S512x1024 .f32) (ix2 i j)
      = dtok (fun i j => scale (d (ix2 i j))) (pre (fun i j => scale (d (ix2 i j))) (fun i j => p (ix2 i j)) (fun i j => g (ix2 i j))) w i j := by
  unfold dtok pre
  simp only [← p17]
  rw [← p16]
  pointwise [k0_pay22, k0_pay18]

theorem p23 (g p d : FVec Ideal S512x1024 .f32) (w : FVec Ideal S1024x1024 .bf16) (i : Fin 512) (j : Fin 1024) :
    (k0_pay23 g p d w : FVec Ideal S512x1024 .f32) (ix2 i j) = (k0_pay22 g p d w : FVec Ideal S512x1024 .f32) (ix2 i j) := by
  pointwise [k0_pay23]

theorem p1 (x : FVec Ideal S512x1024 .f32) (i : Fin 512) (j : Fin 1) :
    (k0_pay1 x : FVec Ideal S512x1 .f32) (ix2 i j) = rstd fun k => x (ix2 i k) := by
  unfold rstd
  pointwise [k0_pay1]

theorem p2 (x : FVec Ideal S512x1024 .f32) (i : Fin 512) (j : Fin 1024) :
    (k0_pay2 x : FVec Ideal S512x1024 .f32) (ix2 i j) = x (ix2 i j) * rstd fun k => x (ix2 i k) := by
  rw [← p1 x i 0]
  pointwise [k0_pay2]

theorem p3 (a y : FVec Ideal S512x1024 .f32) (g : FVec Ideal S1x1024 .f32) (i : Fin 512) (j : Fin 1024) :
    (k0_pay3 a y g : FVec Ideal S512x1024 .bf16) (ix2 i j) = back (fun k => a (ix2 i k)) (fun k => y (ix2 i k)) (fun k => g (ix2 0 k)) j := by
  unfold back
  pointwise [k0_pay3]
  simp only [p1, p2]

theorem p4 (a y : FVec Ideal S512x1024 .f32) (acc : FVec Ideal S1x1024 .f32) (i : Fin 1) (j : Fin 1024) :
    (k0_pay4 a y acc : FVec Ideal S1x1024 .f32) (ix2 i j) = acc (ix2 i j) + ∑ r : Fin 512, a (ix2 r j) * (y (ix2 r j) * rstd fun k => y (ix2 r k)) := by
  simp only [← p2]
  pointwise [k0_pay4]

theorem p5 (i : Fin 1024) (j : Fin 1024) : (k0_pay5 : FVec Ideal S1024x1024 .f32) (ix2 i j) = 0 := by pointwise [k0_pay5]

theorem p6 (i : Fin 1024) (j : Fin 256) : (k0_pay6 : FVec Ideal S1024x256 .f32) (ix2 i j) = 0 := by pointwise [k0_pay6]

theorem p7 (i : Fin 1) (j : Fin 1024) : (k0_pay7 : FVec Ideal S1x1024 .f32) (ix2 i j) = 0 := by pointwise [k0_pay7]

theorem p8 (i : Fin 1) (j : Fin 1024) : (k0_pay8 : FVec Ideal S1x1024 .f32) (ix2 i j) = 0 := by pointwise [k0_pay8]

theorem p9 (i : Fin 1) (j : Fin 1024) : (k0_pay9 : FVec Ideal S1x1024 .f32) (ix2 i j) = 0 := by pointwise [k0_pay9]

end Cert.Pe
-- ==== Proof.PeArr.lean ====
module

public import proofs.«01_k».proof.Proof.PePoint

/-! The embedding's gate, the loss and their gradients: the kernel's arrays after the run. -/

@[expose] public section

set_option maxRecDepth 16384

noncomputable section

namespace Cert.Pe

open Idealize.ShloMosaic Finset Cert.Norms Cert.InBwd

open Cert.Kernel8Ideal Cert.Kernel8Ideal.Gen Cert.Kernel8Ideal.Value

variable (m : (ℓ : Loc nD τ sig) → Buf (Elt Ideal) ℓ) (c : Dev nD)

/-- The tokens before the embedding. -/
abbrev h2 : FVec Ideal S8192x1024 .f32 := m ((c.tc : Thread nD τ).loc main_arg0)

/-- The embedding's inputs. -/
abbrev pe : FVec Ideal S8192x256 .f32 := m ((c.tc : Thread nD τ).loc main_arg1)

/-- The target. -/
abbrev tgt : FVec Ideal S8192x1024 .f32 := m ((c.tc : Thread nD τ).loc main_arg2)

/-- The product before the norm. -/
abbrev yy : FVec Ideal S8192x1024 .f32 := m ((c.tc : Thread nD τ).loc main_arg3)

/-- The gate's weights. -/
abbrev wg : FVec Ideal S1024x1024 .bf16 := m ((c.tc : Thread nD τ).loc main_arg4)

/-- The gate's bias. -/
abbrev bg : FVec Ideal S1x1024 .f32 := m ((c.tc : Thread nD τ).loc main_arg5)

/-- The embedding's weights. -/
abbrev wp : FVec Ideal S1024x256 .bf16 := m ((c.tc : Thread nD τ).loc main_arg6)

/-- The norm's gain. -/
abbrev gn : FVec Ideal S1x1024 .f32 := m ((c.tc : Thread nD τ).loc main_arg7)

/-- The gate. -/
abbrev G : Fin 8192 → Fin 1024 → EReal := Gt (h2 m c) (wg m c) (bg m c)

/-- The embedding. -/
abbrev P : Fin 8192 → Fin 1024 → EReal := Pt (pe m c) (wp m c)

/-- The error. -/
abbrev D : Fin 8192 → Fin 1024 → EReal := Dt (h2 m c) (pe m c) (tgt m c) (wg m c) (bg m c) (wp m c)

/-- The gradient of the loss. -/
abbrev E : Fin 8192 → Fin 1024 → EReal := fun i j => scale (D m c i j)

/-- The gradient of the gate's input. -/
abbrev Q : Fin 8192 → Fin 1024 → EReal := pre (E m c) (P m c) (G m c)

/-- The gradient of the tokens. -/
abbrev H : Fin 8192 → Fin 1024 → EReal := dtok (E m c) (Q m c) (wg m c)

theorem N16 (t : Fin cfg0.N) : t.val < 16 := lt_of_lt_of_eq t.isLt N_0

theorem idx : ∀ t, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] := by
  decide +kernel

/-- The row of an entry of a grid point's block. -/
abbrev row (t : Fin cfg0.N) (i : Fin 512) : Fin 8192 := ⟨t.val * 512 + i.val, by have := N16 t; omega⟩

theorem at_row (f : Fin 8192 → EReal) (t : Fin cfg0.N) (r : Fin 512) : at_ f (t.val * 512 + r.val) = f (row t r) := by
  unfold at_
  exact dif_pos (row t r).isLt

theorem blk0 (t : Fin cfg0.N) (r : Fin 512) (i : Fin 1024) : (iblk m c 0 t : FVec Ideal S512x1024 .f32) (ix2 r i) = h2 m c (ix2 (row t r) i) := by
  blk_ext [iblk, V, idx t]

theorem blk1 (t : Fin cfg0.N) (r : Fin 512) (i : Fin 256) : (iblk m c 1 t : FVec Ideal S512x256 .f32) (ix2 r i) = pe m c (ix2 (row t r) i) := by
  blk_ext [iblk, V, idx t]

theorem blk2 (t : Fin cfg0.N) (r : Fin 512) (i : Fin 1024) : (iblk m c 2 t : FVec Ideal S512x1024 .f32) (ix2 r i) = tgt m c (ix2 (row t r) i) := by
  blk_ext [iblk, V, idx t]

theorem blk3 (t : Fin cfg0.N) (r : Fin 512) (i : Fin 1024) : (iblk m c 3 t : FVec Ideal S512x1024 .f32) (ix2 r i) = yy m c (ix2 (row t r) i) := by
  blk_ext [iblk, V, idx t]

theorem blk4 (t : Fin cfg0.N) (r : Fin 1024) (i : Fin 1024) : (iblk m c 4 t : FVec Ideal S1024x1024 .bf16) (ix2 r i) = wg m c (ix2 r i) := by
  blk_ext [iblk, V, idx t]

theorem blk5 (t : Fin cfg0.N) (r : Fin 1) (i : Fin 1024) : (iblk m c 5 t : FVec Ideal S1x1024 .f32) (ix2 r i) = bg m c (ix2 r i) := by
  blk_ext [iblk, V, idx t]

theorem blk6 (t : Fin cfg0.N) (r : Fin 1024) (i : Fin 256) : (iblk m c 6 t : FVec Ideal S1024x256 .bf16) (ix2 r i) = wp m c (ix2 r i) := by
  blk_ext [iblk, V, idx t]

theorem blk7 (t : Fin cfg0.N) (r : Fin 1) (i : Fin 1024) : (iblk m c 7 t : FVec Ideal S1x1024 .f32) (ix2 r i) = gn m c (ix2 r i) := by
  blk_ext [iblk, V, idx t]

theorem emb8 (t : Fin cfg0.N) (i : Fin 512) (k : Fin 1024) : (win0_8.blk t).view.emb (ix2 i k) = (ix2 (row t i) k : S8192x1024.Idx) := by
  blk_ext [idx t]

theorem emb9 (t : Fin cfg0.N) (i : Fin 512) (k : Fin 1024) : (win0_9.blk t).view.emb (ix2 i k) = (ix2 (row t i) k : S8192x1024.Idx) := by
  blk_ext [idx t]

/-- A grid point's gate, embedding, error and gradient of the tokens. -/
abbrev kg (t : Fin cfg0.N) : FVec Ideal S512x1024 .f32 := k0_pay12 (iblk m c 0 t) (iblk m c 4 t) (iblk m c 5 t)

@[inherit_doc kg] abbrev kp (t : Fin cfg0.N) : FVec Ideal S512x1024 .f32 := k0_pay13 (iblk m c 1 t) (iblk m c 6 t)

@[inherit_doc kg] abbrev kd (t : Fin cfg0.N) : FVec Ideal S512x1024 .f32 := k0_pay14 (iblk m c 0 t) (iblk m c 1 t) (iblk m c 4 t) (iblk m c 5 t) (iblk m c 6 t) (iblk m c 2 t)

@[inherit_doc kg] abbrev kh (t : Fin cfg0.N) : FVec Ideal S512x1024 .f32 := k0_pay22 (kg m c t) (kp m c t) (kd m c t) (iblk m c 4 t)

theorem g_blk (t : Fin cfg0.N) (i : Fin 512) (j : Fin 1024) : Gt (iblk m c 0 t) (iblk m c 4 t) (iblk m c 5 t) i j = G m c (row t i) j := by
  unfold G Gt
  simp only [blk0, blk4, blk5]

theorem e_blk (t : Fin cfg0.N) (i : Fin 512) (j : Fin 1024) : Pt (iblk m c 1 t) (iblk m c 6 t) i j = P m c (row t i) j := by
  unfold P Pt
  simp only [blk1, blk6]

theorem hd_blk (t : Fin cfg0.N) (i : Fin 512) (j : Fin 1024) :
    Dt (iblk m c 0 t) (iblk m c 1 t) (iblk m c 2 t) (iblk m c 4 t) (iblk m c 5 t) (iblk m c 6 t) i j = D m c (row t i) j := by
  unfold D Dt
  rw [g_blk, e_blk, blk0, blk2]

theorem kg_blk (t : Fin cfg0.N) (i : Fin 512) (j : Fin 1024) : kg m c t (ix2 i j) = G m c (row t i) j := (p12 _ _ _ i j).trans (g_blk m c t i j)

theorem kp_blk (t : Fin cfg0.N) (i : Fin 512) (j : Fin 1024) : kp m c t (ix2 i j) = P m c (row t i) j := (p13 _ _ i j).trans (e_blk m c t i j)

theorem kd_blk (t : Fin cfg0.N) (i : Fin 512) (j : Fin 1024) : kd m c t (ix2 i j) = D m c (row t i) j := (p14 _ _ _ _ _ _ i j).trans (hd_blk m c t i j)

theorem kq_blk (t : Fin cfg0.N) (i : Fin 512) (j : Fin 1024) : (k0_pay17 (kg m c t) (kp m c t) (kd m c t) : FVec Ideal S512x1024 .f32) (ix2 i j) = Q m c (row t i) j := by
  rw [p17, kg_blk, kp_blk, kd_blk]
  rfl

theorem kh_blk (t : Fin cfg0.N) (i : Fin 512) (j : Fin 1024) : kh m c t (ix2 i j) = H m c (row t i) j := by
  refine (p22 _ _ _ _ i j).trans ?_
  unfold H dtok pre
  simp only [kg_blk, kp_blk, kd_blk, blk4]
  rfl

/-- What a grid point leaves in the block of the tokens' gradient. -/
theorem out8 (t : Fin cfg0.N) : (outsAt0 m c t.val t.isLt).1 = (k0_pay23 (kg m c t) (kp m c t) (kd m c t) (iblk m c 4 t) : FVec Ideal S512x1024 .f32) := by
  by_cases h0 : t.val % 16 = 0
  · rw [outsAt0_A m c t h0]
    dsimp only
    frame_open
    simp (disch := decide) only [↓ View.readCov_skip, ↓ View.readCov_cons_toLoadRect, ↓ View.readCov_fill]
    frame_out
  · rw [outsAt0_B m c t h0]
    dsimp only
    frame_open
    simp (disch := decide) only [↓ View.readCov_skip, ↓ View.readCov_cons_toLoadRect, ↓ View.readCov_fill]
    frame_out

/-- What a grid point leaves in the block of the product's gradient. -/
theorem out9 (t : Fin cfg0.N) : (outsAt0 m c t.val t.isLt).2.1 = (k0_pay3 (kh m c t) (iblk m c 3 t) (iblk m c 7 t) : FVec Ideal S512x1024 .bf16) := by
  by_cases h0 : t.val % 16 = 0
  · rw [outsAt0_A m c t h0]
    dsimp only
    frame_open
    simp (disch := decide) only [↓ View.readCov_skip, ↓ View.readCov_cons_toLoadRect, ↓ View.readCov_fill]
    frame_out
  · rw [outsAt0_B m c t h0]
    dsimp only
    frame_open
    simp (disch := decide) only [↓ View.readCov_skip, ↓ View.readCov_cons_toLoadRect, ↓ View.readCov_fill]
    frame_out

/-- What a grid point makes of the gradient of the gate's weights. -/
abbrev step10 (t : Fin cfg0.N) (acc : FVec Ideal S1024x1024 .f32) : FVec Ideal S1024x1024 .f32 := k0_pay20 (k0_pay10 (iblk m c 0 t)) (kg m c t) (kp m c t) (kd m c t) acc

theorem A10 (t : Fin cfg0.N) (h0 : t.val % 16 = 0) : (outsAt0 m c t.val t.isLt).2.2.1 = step10 m c t k0_pay5 := by
  rw [outsAt0_A m c t h0]
  dsimp only
  frame_open
  simp (disch := decide) only [↓ View.readCov_skip, ↓ View.readCov_cons_toLoadRect, ↓ View.readCov_fill]
  frame_out

theorem B10 (t : Fin cfg0.N) (h0 : ¬ t.val % 16 = 0) :
    (outsAt0 m c t.val t.isLt).2.2.1 = step10 m c t (outsAt0 m c (t.val - 1) (Nat.lt_of_le_of_lt (Nat.sub_le _ _) t.isLt)).2.2.1 := by
  rw [outsAt0_B m c t h0]
  dsimp only
  frame_open
  simp (disch := decide) only [↓ View.readCov_skip, ↓ View.readCov_cons_toLoadRect, ↓ View.readCov_fill]
  frame_out

theorem add10 (t : Fin cfg0.N) (acc : FVec Ideal S1024x1024 .f32) (i : Fin 1024) (j : Fin 1024) :
    step10 m c t acc (ix2 i j) = acc (ix2 i j) + ∑ r : Fin 512, at_ (fun t => h2 m c (ix2 t i) * Q m c t j) (t.val * 512 + r.val) := by
  refine (p20 _ _ _ _ _ i j).trans (congrArg (_ + ·) (Finset.sum_congr rfl fun r _ => ?_))
  rw [at_row]
  simp only [pre, blk0, blk1, blk3, hd_blk, kg_blk, kp_blk, kd_blk, kh_blk, kq_blk, p10, p11]

theorem last10 (i : Fin 1024) (j : Fin 1024) (n : ℕ) (h : n = 15) (hn : n < cfg0.N) :
    ((outsAt0 m c n hn).2.2.1 : FVec Ideal S1024x1024 .f32) (ix2 i j) = total (fun t => h2 m c (ix2 t i) * Q m c t j) := by
  refine total_steps (fun t => h2 m c (ix2 t i) * Q m c t j) cfg0.N N_0 (fun n hn => ((outsAt0 m c n hn).2.2.1 : FVec Ideal S1024x1024 .f32) (ix2 i j)) (fun hn => ?_) (fun n hn => ?_) n h hn
  · exact (congrFun (A10 m c ⟨0, hn⟩ (Nat.zero_mod _)) _).trans ((add10 m c ⟨0, hn⟩ _ i j).trans (by rw [p5, zero_add]))
  · have := N16 ⟨n + 1, hn⟩
    exact (congrFun (B10 m c ⟨n + 1, hn⟩ (by show ¬ (n + 1) % 16 = 0; dsimp only at this; omega)) _).trans (add10 m c ⟨n + 1, hn⟩ _ i j)

/-- What a grid point makes of the gradient of the embedding's weights. -/
abbrev step11 (t : Fin cfg0.N) (acc : FVec Ideal S1024x256 .f32) : FVec Ideal S1024x256 .f32 := k0_pay21 (k0_pay11 (iblk m c 1 t)) (kg m c t) (kd m c t) acc

theorem A11 (t : Fin cfg0.N) (h0 : t.val % 16 = 0) : (outsAt0 m c t.val t.isLt).2.2.2.1 = step11 m c t k0_pay6 := by
  rw [outsAt0_A m c t h0]
  dsimp only
  frame_open
  simp (disch := decide) only [↓ View.readCov_skip, ↓ View.readCov_cons_toLoadRect, ↓ View.readCov_fill]
  frame_out

theorem B11 (t : Fin cfg0.N) (h0 : ¬ t.val % 16 = 0) :
    (outsAt0 m c t.val t.isLt).2.2.2.1 = step11 m c t (outsAt0 m c (t.val - 1) (Nat.lt_of_le_of_lt (Nat.sub_le _ _) t.isLt)).2.2.2.1 := by
  rw [outsAt0_B m c t h0]
  dsimp only
  frame_open
  simp (disch := decide) only [↓ View.readCov_skip, ↓ View.readCov_cons_toLoadRect, ↓ View.readCov_fill]
  frame_out

theorem add11 (t : Fin cfg0.N) (acc : FVec Ideal S1024x256 .f32) (i : Fin 1024) (j : Fin 256) :
    step11 m c t acc (ix2 i j) = acc (ix2 i j) + ∑ r : Fin 512, at_ (fun t => E m c t i * G m c t i * pe m c (ix2 t j)) (t.val * 512 + r.val) := by
  refine (p21 _ _ _ _ i j).trans (congrArg (_ + ·) (Finset.sum_congr rfl fun r _ => ?_))
  rw [at_row]
  simp only [pre, blk0, blk1, blk3, hd_blk, kg_blk, kp_blk, kd_blk, kh_blk, kq_blk, p10, p11]

theorem last11 (i : Fin 1024) (j : Fin 256) (n : ℕ) (h : n = 15) (hn : n < cfg0.N) :
    ((outsAt0 m c n hn).2.2.2.1 : FVec Ideal S1024x256 .f32) (ix2 i j) = total (fun t => E m c t i * G m c t i * pe m c (ix2 t j)) := by
  refine total_steps (fun t => E m c t i * G m c t i * pe m c (ix2 t j)) cfg0.N N_0 (fun n hn => ((outsAt0 m c n hn).2.2.2.1 : FVec Ideal S1024x256 .f32) (ix2 i j)) (fun hn => ?_) (fun n hn => ?_) n h hn
  · exact (congrFun (A11 m c ⟨0, hn⟩ (Nat.zero_mod _)) _).trans ((add11 m c ⟨0, hn⟩ _ i j).trans (by rw [p6, zero_add]))
  · have := N16 ⟨n + 1, hn⟩
    exact (congrFun (B11 m c ⟨n + 1, hn⟩ (by show ¬ (n + 1) % 16 = 0; dsimp only at this; omega)) _).trans (add11 m c ⟨n + 1, hn⟩ _ i j)

/-- What a grid point makes of the sums of the squared errors. -/
abbrev step12 (t : Fin cfg0.N) (acc : FVec Ideal S1x1024 .f32) : FVec Ideal S1x1024 .f32 := k0_pay15 (iblk m c 0 t) (iblk m c 1 t) (iblk m c 4 t) (iblk m c 5 t) (iblk m c 6 t) (iblk m c 2 t) acc

theorem A12 (t : Fin cfg0.N) (h0 : t.val % 16 = 0) : (outsAt0 m c t.val t.isLt).2.2.2.2.1 = step12 m c t k0_pay7 := by
  rw [outsAt0_A m c t h0]
  dsimp only
  frame_open
  simp (disch := decide) only [↓ View.readCov_skip, ↓ View.readCov_cons_toLoadRect, ↓ View.readCov_fill]
  frame_out

theorem B12 (t : Fin cfg0.N) (h0 : ¬ t.val % 16 = 0) :
    (outsAt0 m c t.val t.isLt).2.2.2.2.1 = step12 m c t (outsAt0 m c (t.val - 1) (Nat.lt_of_le_of_lt (Nat.sub_le _ _) t.isLt)).2.2.2.2.1 := by
  rw [outsAt0_B m c t h0]
  dsimp only
  frame_open
  simp (disch := decide) only [↓ View.readCov_skip, ↓ View.readCov_cons_toLoadRect, ↓ View.readCov_fill]
  frame_out

theorem add12 (t : Fin cfg0.N) (acc : FVec Ideal S1x1024 .f32) (i : Fin 1) (j : Fin 1024) :
    step12 m c t acc (ix2 i j) = acc (ix2 i j) + ∑ r : Fin 512, at_ (fun t => D m c t j * D m c t j) (t.val * 512 + r.val) := by
  refine (p15 _ _ _ _ _ _ _ i j).trans (congrArg (_ + ·) (Finset.sum_congr rfl fun r _ => ?_))
  rw [at_row]
  simp only [pre, blk0, blk1, blk3, hd_blk, kg_blk, kp_blk, kd_blk, kh_blk, kq_blk, p10, p11]

theorem last12 (i : Fin 1) (j : Fin 1024) (n : ℕ) (h : n = 15) (hn : n < cfg0.N) :
    ((outsAt0 m c n hn).2.2.2.2.1 : FVec Ideal S1x1024 .f32) (ix2 i j) = total (fun t => D m c t j * D m c t j) := by
  refine total_steps (fun t => D m c t j * D m c t j) cfg0.N N_0 (fun n hn => ((outsAt0 m c n hn).2.2.2.2.1 : FVec Ideal S1x1024 .f32) (ix2 i j)) (fun hn => ?_) (fun n hn => ?_) n h hn
  · exact (congrFun (A12 m c ⟨0, hn⟩ (Nat.zero_mod _)) _).trans ((add12 m c ⟨0, hn⟩ _ i j).trans (by rw [p7, zero_add]))
  · have := N16 ⟨n + 1, hn⟩
    exact (congrFun (B12 m c ⟨n + 1, hn⟩ (by show ¬ (n + 1) % 16 = 0; dsimp only at this; omega)) _).trans (add12 m c ⟨n + 1, hn⟩ _ i j)

/-- What a grid point makes of the gradient of the gate's bias. -/
abbrev step13 (t : Fin cfg0.N) (acc : FVec Ideal S1x1024 .f32) : FVec Ideal S1x1024 .f32 := k0_pay19 (kg m c t) (kp m c t) (kd m c t) acc

theorem A13 (t : Fin cfg0.N) (h0 : t.val % 16 = 0) : (outsAt0 m c t.val t.isLt).2.2.2.2.2.1 = step13 m c t k0_pay8 := by
  rw [outsAt0_A m c t h0]
  dsimp only
  frame_open
  simp (disch := decide) only [↓ View.readCov_skip, ↓ View.readCov_cons_toLoadRect, ↓ View.readCov_fill]
  frame_out

theorem B13 (t : Fin cfg0.N) (h0 : ¬ t.val % 16 = 0) :
    (outsAt0 m c t.val t.isLt).2.2.2.2.2.1 = step13 m c t (outsAt0 m c (t.val - 1) (Nat.lt_of_le_of_lt (Nat.sub_le _ _) t.isLt)).2.2.2.2.2.1 := by
  rw [outsAt0_B m c t h0]
  dsimp only
  frame_open
  simp (disch := decide) only [↓ View.readCov_skip, ↓ View.readCov_cons_toLoadRect, ↓ View.readCov_fill]
  frame_out

theorem add13 (t : Fin cfg0.N) (acc : FVec Ideal S1x1024 .f32) (i : Fin 1) (j : Fin 1024) :
    step13 m c t acc (ix2 i j) = acc (ix2 i j) + ∑ r : Fin 512, at_ (fun t => Q m c t j) (t.val * 512 + r.val) := by
  refine (p19 _ _ _ _ i j).trans (congrArg (_ + ·) (Finset.sum_congr rfl fun r _ => ?_))
  rw [at_row]
  simp only [pre, blk0, blk1, blk3, hd_blk, kg_blk, kp_blk, kd_blk, kh_blk, kq_blk, p10, p11]

theorem last13 (i : Fin 1) (j : Fin 1024) (n : ℕ) (h : n = 15) (hn : n < cfg0.N) :
    ((outsAt0 m c n hn).2.2.2.2.2.1 : FVec Ideal S1x1024 .f32) (ix2 i j) = total (fun t => Q m c t j) := by
  refine total_steps (fun t => Q m c t j) cfg0.N N_0 (fun n hn => ((outsAt0 m c n hn).2.2.2.2.2.1 : FVec Ideal S1x1024 .f32) (ix2 i j)) (fun hn => ?_) (fun n hn => ?_) n h hn
  · exact (congrFun (A13 m c ⟨0, hn⟩ (Nat.zero_mod _)) _).trans ((add13 m c ⟨0, hn⟩ _ i j).trans (by rw [p8, zero_add]))
  · have := N16 ⟨n + 1, hn⟩
    exact (congrFun (B13 m c ⟨n + 1, hn⟩ (by show ¬ (n + 1) % 16 = 0; dsimp only at this; omega)) _).trans (add13 m c ⟨n + 1, hn⟩ _ i j)

/-- What a grid point makes of the gradient of the norm's gain. -/
abbrev step14 (t : Fin cfg0.N) (acc : FVec Ideal S1x1024 .f32) : FVec Ideal S1x1024 .f32 := k0_pay4 (kh m c t) (iblk m c 3 t) acc

theorem A14 (t : Fin cfg0.N) (h0 : t.val % 16 = 0) : (outsAt0 m c t.val t.isLt).2.2.2.2.2.2 = step14 m c t k0_pay9 := by
  rw [outsAt0_A m c t h0]
  dsimp only
  frame_open
  simp (disch := decide) only [↓ View.readCov_skip, ↓ View.readCov_cons_toLoadRect, ↓ View.readCov_fill]
  frame_out

theorem B14 (t : Fin cfg0.N) (h0 : ¬ t.val % 16 = 0) :
    (outsAt0 m c t.val t.isLt).2.2.2.2.2.2 = step14 m c t (outsAt0 m c (t.val - 1) (Nat.lt_of_le_of_lt (Nat.sub_le _ _) t.isLt)).2.2.2.2.2.2 := by
  rw [outsAt0_B m c t h0]
  dsimp only
  frame_open
  simp (disch := decide) only [↓ View.readCov_skip, ↓ View.readCov_cons_toLoadRect, ↓ View.readCov_fill]
  frame_out

theorem add14 (t : Fin cfg0.N) (acc : FVec Ideal S1x1024 .f32) (i : Fin 1) (j : Fin 1024) :
    step14 m c t acc (ix2 i j) = acc (ix2 i j) + ∑ r : Fin 512, at_ (fun t => H m c t j * (yy m c (ix2 t j) * rstd fun k => yy m c (ix2 t k))) (t.val * 512 + r.val) := by
  refine (p4 _ _ _ i j).trans (congrArg (_ + ·) (Finset.sum_congr rfl fun r _ => ?_))
  rw [at_row]
  simp only [pre, blk0, blk1, blk3, hd_blk, kg_blk, kp_blk, kd_blk, kh_blk, kq_blk, p10, p11]

theorem last14 (i : Fin 1) (j : Fin 1024) (n : ℕ) (h : n = 15) (hn : n < cfg0.N) :
    ((outsAt0 m c n hn).2.2.2.2.2.2 : FVec Ideal S1x1024 .f32) (ix2 i j) = total (fun t => H m c t j * (yy m c (ix2 t j) * rstd fun k => yy m c (ix2 t k))) := by
  refine total_steps (fun t => H m c t j * (yy m c (ix2 t j) * rstd fun k => yy m c (ix2 t k))) cfg0.N N_0 (fun n hn => ((outsAt0 m c n hn).2.2.2.2.2.2 : FVec Ideal S1x1024 .f32) (ix2 i j)) (fun hn => ?_) (fun n hn => ?_) n h hn
  · exact (congrFun (A14 m c ⟨0, hn⟩ (Nat.zero_mod _)) _).trans ((add14 m c ⟨0, hn⟩ _ i j).trans (by rw [p9, zero_add]))
  · have := N16 ⟨n + 1, hn⟩
    exact (congrFun (B14 m c ⟨n + 1, hn⟩ (by show ¬ (n + 1) % 16 = 0; dsimp only at this; omega)) _).trans (add14 m c ⟨n + 1, hn⟩ _ i j)

/-- The array of the gradient of the gate's weights after the run. -/
theorem arr10 : (dats m 0 c).arrAt 10 cfg0.N = (fun i => total (fun t => h2 m c (ix2 t (i 0)) * Q m c t (i 1)) : FVec Ideal S1024x1024 .f32) := by
  refine (dats m 0 c).arrAt_eq_of_after_last 10 t0_15 (by decide +kernel) _ fun j => ?_
  rw [after0_10]
  have e : (fun a => ⟨(j a).val, (j a).isLt⟩ : S1024x1024.Idx) = ix2 (j 0 : Fin 1024) (j 1 : Fin 1024) := by
    funext a; match a with | 0 => rfl | 1 => rfl
  exact (congrArg ((outsAt0 m c 15 t0_15.isLt).2.2.1 : FVec Ideal S1024x1024 .f32) e).trans (last10 m c (j 0 : Fin 1024) (j 1 : Fin 1024) 15 rfl _)

/-- The array of the gradient of the embedding's weights after the run. -/
theorem arr11 : (dats m 0 c).arrAt 11 cfg0.N = (fun i => total (fun t => E m c t (i 0) * G m c t (i 0) * pe m c (ix2 t (i 1))) : FVec Ideal S1024x256 .f32) := by
  refine (dats m 0 c).arrAt_eq_of_after_last 11 t0_15 (by decide +kernel) _ fun j => ?_
  rw [after0_11]
  have e : (fun a => ⟨(j a).val, (j a).isLt⟩ : S1024x256.Idx) = ix2 (j 0 : Fin 1024) (j 1 : Fin 256) := by
    funext a; match a with | 0 => rfl | 1 => rfl
  exact (congrArg ((outsAt0 m c 15 t0_15.isLt).2.2.2.1 : FVec Ideal S1024x256 .f32) e).trans (last11 m c (j 0 : Fin 1024) (j 1 : Fin 256) 15 rfl _)

/-- The array of the sums of the squared errors after the run. -/
theorem arr12 : (dats m 0 c).arrAt 12 cfg0.N = (fun i => total (fun t => D m c t (i 1) * D m c t (i 1)) : FVec Ideal S1x1024 .f32) := by
  refine (dats m 0 c).arrAt_eq_of_after_last 12 t0_15 (by decide +kernel) _ fun j => ?_
  rw [after0_12]
  have e : (fun a => ⟨(j a).val, (j a).isLt⟩ : S1x1024.Idx) = ix2 (j 0 : Fin 1) (j 1 : Fin 1024) := by
    funext a; match a with | 0 => rfl | 1 => rfl
  exact (congrArg ((outsAt0 m c 15 t0_15.isLt).2.2.2.2.1 : FVec Ideal S1x1024 .f32) e).trans (last12 m c (j 0 : Fin 1) (j 1 : Fin 1024) 15 rfl _)

/-- The array of the gradient of the gate's bias after the run. -/
theorem arr13 : (dats m 0 c).arrAt 13 cfg0.N = (fun i => total (fun t => Q m c t (i 1)) : FVec Ideal S1x1024 .f32) := by
  refine (dats m 0 c).arrAt_eq_of_after_last 13 t0_15 (by decide +kernel) _ fun j => ?_
  rw [after0_13]
  have e : (fun a => ⟨(j a).val, (j a).isLt⟩ : S1x1024.Idx) = ix2 (j 0 : Fin 1) (j 1 : Fin 1024) := by
    funext a; match a with | 0 => rfl | 1 => rfl
  exact (congrArg ((outsAt0 m c 15 t0_15.isLt).2.2.2.2.2.1 : FVec Ideal S1x1024 .f32) e).trans (last13 m c (j 0 : Fin 1) (j 1 : Fin 1024) 15 rfl _)

/-- The array of the gradient of the norm's gain after the run. -/
theorem arr14 : (dats m 0 c).arrAt 14 cfg0.N = (fun i => total (fun t => H m c t (i 1) * (yy m c (ix2 t (i 1)) * rstd fun k => yy m c (ix2 t k))) : FVec Ideal S1x1024 .f32) := by
  refine (dats m 0 c).arrAt_eq_of_after_last 14 t0_15 (by decide +kernel) _ fun j => ?_
  rw [after0_14]
  have e : (fun a => ⟨(j a).val, (j a).isLt⟩ : S1x1024.Idx) = ix2 (j 0 : Fin 1) (j 1 : Fin 1024) := by
    funext a; match a with | 0 => rfl | 1 => rfl
  exact (congrArg ((outsAt0 m c 15 t0_15.isLt).2.2.2.2.2.2 : FVec Ideal S1x1024 .f32) e).trans (last14 m c (j 0 : Fin 1) (j 1 : Fin 1024) 15 rfl _)

/-- The array of the tokens' gradient after the run. -/
theorem arr8 : (dats m 0 c).arrAt 8 cfg0.N = (fun i => H m c (i 0) (i 1) : FVec Ideal S8192x1024 .f32) := by
  refine (dats m 0 c).arrAt_eq_of_covers 8 _ (by decide +kernel) fun t hf y => ?_
  blk_simp
  rw [after0_8, out8]
  idx_vars y
  rw [emb8]
  exact (p23 _ _ _ _ y0 y1).trans (kh_blk m c t y0 y1)

/-- The array of the product's gradient after the run. -/
theorem arr9 : (dats m 0 c).arrAt 9 cfg0.N
    = (fun i => back (H m c (i 0)) (fun k => yy m c (ix2 (i 0) k)) (fun k => gn m c (ix2 0 k)) (i 1) : FVec Ideal S8192x1024 .bf16) := by
  refine (dats m 0 c).arrAt_eq_of_covers 9 _ (by decide +kernel) fun t hf y => ?_
  blk_simp
  rw [after0_9, out9]
  idx_vars y
  rw [emb9]
  refine (p3 _ _ _ y0 y1).trans ?_
  simp only [kh_blk, blk3, blk7]
  rfl

end Cert.Pe
-- ==== Proof.PeRef.lean ====
module

public import proofs.«01_k».proof.Proof.PeDefs
public import proofs.«01_k».proof.Proof.Gen.Reference8Ideal.Run

/-! The embedding's gate, the loss and their gradients: the reference's values, entry by entry. -/

@[expose] public section

set_option maxRecDepth 16384

noncomputable section

namespace Cert.Pe

open Idealize.ShloMosaic Finset Cert.Norms Cert.InBwd Cert.Reference8Ideal Cert.Reference8Ideal.Gen

/-- The gate in the reference. -/
theorem gate_ref (h2 : FVec Ideal S8192x1024 .f32) (wg : FVec Ideal S1024x1024 .bf16) (b : FVec Ideal S1x1024 .f32) (i : Fin 8192) (j : Fin 1024) :
    (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf (Host.dotGeneral (F := Ideal) dot_S8192x1024_S1024x1024_S8192x1024_1_0_0_1_n_n none h2 (extf .f32 wg bitsLt_bf16_f32)) (broadcastInDim S8192x1024 ![0, 1] bcast_S1x1024_S8192x1024_0_1 (broadcastInDim S1x1024 ![1] bcast_S1024_S1x1024_1 (shapeCast _ b shapeCasts_S1x1024_S1024))))))) : FVec Ideal S8192x1024 .f32) (ix2 i j)
      = Gt h2 wg b i j := by
  unfold Gt Ideal.logistic
  pointwise []

/-- The embedding in the reference. -/
theorem pe_ref (p : FVec Ideal S8192x256 .f32) (wp : FVec Ideal S1024x256 .bf16) (i : Fin 8192) (j : Fin 1024) :
    (Host.dotGeneral (F := Ideal) dot_S8192x256_S256x1024_S8192x1024_1_0_0_1_n_n none p (transpose S256x1024 [1, 0] (extf .f32 wp bitsLt_bf16_f32) transposes_S1024x256_S256x1024_1_0) : FVec Ideal S8192x1024 .f32) (ix2 i j)
      = Pt p wp i j := by
  unfold Pt
  pointwise []

/-- The error in the reference. -/
theorem err_ref (h2 tg G P : FVec Ideal S8192x1024 .f32) (i : Fin 8192) (j : Fin 1024) :
    (subf (addf h2 (mulf G P)) tg : FVec Ideal S8192x1024 .f32) (ix2 i j)
      = h2 (ix2 i j) + G (ix2 i j) * P (ix2 i j) - tg (ix2 i j) := by
  pointwise []

/-- The gradient of the loss in the reference. -/
theorem scale_ref (D : FVec Ideal S8192x1024 .f32) (i : Fin 8192) (j : Fin 1024) :
    (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) D) : FVec Ideal S8192x1024 .f32) (ix2 i j)
      = scaleR (D (ix2 i j)) := by
  unfold scaleR
  pointwise []

/-- The gradient of the gate's input in the reference. -/
theorem pre_ref (E P G : FVec Ideal S8192x1024 .f32) (i : Fin 8192) (j : Fin 1024) :
    (mulf (mulf E P) (mulf G (subf (broadcastInDim S8192x1024 ![] bcast_S_S8192x1024 (constant S_ .f32 0x3F800000#32)) G)) : FVec Ideal S8192x1024 .f32) (ix2 i j)
      = E (ix2 i j) * P (ix2 i j) * (G (ix2 i j) * (1 - G (ix2 i j))) := by
  pointwise []

/-- The gradient of the tokens. -/
theorem r0 (E Q : FVec Ideal S8192x1024 .f32) (wg : FVec Ideal S1024x1024 .bf16) (i : Fin 8192) (j : Fin 1024) :
    (addf E (Host.dotGeneral (F := Ideal) dot_S8192x1024_S1024x1024_S8192x1024_1_1_0_0_n_n none Q (extf .f32 wg bitsLt_bf16_f32)) : FVec Ideal S8192x1024 .f32) (ix2 i j)
      = E (ix2 i j) + ∑ k : Fin 1024, Q (ix2 i k) * wg (ix2 j k) := by
  pointwise []

/-- The gradient of the product before the norm. -/
theorem r1 (H y : FVec Ideal S8192x1024 .f32) (g : FVec Ideal S1x1024 .f32) (i : Fin 8192) (j : Fin 1024) :
    (truncf .bf16 (addf (addf (mulf (mulf H (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf y (broadcastInDim S8192x1024 ![0] bcast_S8192_S8192x1024_0 (Host.reduceAdd (Host.divf (mulf (shapeCast _ (Host.reduceAdd (mulf y (mulf H (broadcastInDim S8192x1024 ![0, 1] bcast_S1x1024_S8192x1024_0_1 (broadcastInDim S1x1024 ![1] bcast_S1024_S1x1024_1 (shapeCast _ g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf y (mulf H (broadcastInDim S8192x1024 ![0, 1] bcast_S1x1024_S8192x1024_0_1 (broadcastInDim S1x1024 ![1] bcast_S1024_S1x1024_1 (shapeCast _ g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) y)) bitsLt_bf16_f32 : FVec Ideal S8192x1024 .bf16) (ix2 i j)
      = backRef (fun k => H (ix2 i k)) (fun k => y (ix2 i k)) (fun k => g (ix2 0 k)) j := by
  unfold backRef InBwd.slope ms rstd
  pointwise []

/-- The gradient of the gate's weights. -/
theorem r2 (Q h2 : FVec Ideal S8192x1024 .f32) (i j : Fin 1024) :
    (transpose S1024x1024 [1, 0] (Host.dotGeneral (F := Ideal) dot_S8192x1024_S8192x1024_S1024x1024_0_0_1_1_n_n none Q h2) transposes_S1024x1024_S1024x1024_1_0 : FVec Ideal S1024x1024 .f32) (ix2 i j)
      = ∑ t : Fin 8192, h2 (ix2 t i) * Q (ix2 t j) := by
  refine Eq.trans ?_ (Finset.sum_congr rfl fun t _ => mul_comm (Q (ix2 t j)) (h2 (ix2 t i)))
  pointwise []

/-- The gradient of the embedding's weights. -/
theorem r3 (G E : FVec Ideal S8192x1024 .f32) (p : FVec Ideal S8192x256 .f32) (i : Fin 1024) (j : Fin 256) :
    (transpose S1024x256 [1, 0] (transpose S256x1024 [1, 0] (Host.dotGeneral (F := Ideal) dot_S8192x1024_S8192x256_S1024x256_0_0_1_1_n_n none (mulf G E) p) transposes_S1024x256_S256x1024_1_0) transposes_S256x1024_S1024x256_1_0 : FVec Ideal S1024x256 .f32) (ix2 i j)
      = ∑ t : Fin 8192, G (ix2 t i) * E (ix2 t i) * p (ix2 t j) := by
  pointwise []

/-- The sums of the squared errors. -/
theorem r4 (D : FVec Ideal S8192x1024 .f32) (i : Fin 1) (j : Fin 1024) :
    (broadcastInDim S1x1024 ![1] bcast_S1024_S1x1024_1 (Host.reduceAdd (mulf D D) (constant S_ .f32 0x00000000#32) reducesTo_S8192x1024_S1024_d0 h_S_) : FVec Ideal S1x1024 .f32) (ix2 i j)
      = ∑ t : Fin 8192, D (ix2 t j) * D (ix2 t j) := by
  pointwise []

/-- The gradient of the gate's bias. -/
theorem r5 (Q : FVec Ideal S8192x1024 .f32) (i : Fin 1) (j : Fin 1024) :
    (broadcastInDim S1x1024 ![1] bcast_S1024_S1x1024_1 (Host.reduceAdd (shapeCast _ (Host.reduceAdd Q (constant S_ .f32 0x00000000#32) reducesTo_S8192x1024_S1024_d0 h_S_) shapeCasts_S1024_S1x1024) (constant S_ .f32 0x00000000#32) reducesTo_S1x1024_S1024_d0 h_S_) : FVec Ideal S1x1024 .f32) (ix2 i j)
      = ∑ t : Fin 8192, Q (ix2 t j) := by
  refine Eq.trans ?_ (Fin.sum_univ_one fun _ : Fin 1 => ∑ t : Fin 8192, Q (ix2 t j))
  pointwise []

/-- The gradient of the norm's gain. -/
theorem r6 (y H : FVec Ideal S8192x1024 .f32) (i : Fin 1) (j : Fin 1024) :
    (broadcastInDim S1x1024 ![1] bcast_S1024_S1x1024_1 (Host.reduceAdd (shapeCast _ (Host.reduceAdd (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) H) (constant S_ .f32 0x00000000#32) reducesTo_S8192x1024_S1024_d0 h_S_) shapeCasts_S1024_S1x1024) (constant S_ .f32 0x00000000#32) reducesTo_S1x1024_S1024_d0 h_S_) : FVec Ideal S1x1024 .f32) (ix2 i j)
      = ∑ t : Fin 8192, H (ix2 t j) * (y (ix2 t j) * rstd fun k => y (ix2 t k)) := by
  refine Eq.trans ?_ (Finset.sum_congr rfl fun t _ => mul_comm _ _)
  refine Eq.trans ?_ (Fin.sum_univ_one fun _ : Fin 1 => ∑ t : Fin 8192, y (ix2 t j) * (rstd fun k => y (ix2 t k)) * H (ix2 t j))
  unfold rstd
  pointwise []

end Cert.Pe
-- ==== Proof.PeFull.lean ====
module

public import proofs.«01_k».proof.Proof.PeDefs

/-! The embedding's gate, the loss and their gradients: the reference's results from its matrices. -/

@[expose] public section

set_option maxRecDepth 16384

noncomputable section

namespace Cert.Pe

open Idealize.ShloMosaic Finset Cert.Norms Cert.InBwd

/-- The arguments hold real numbers. -/
structure Reals (h2 : FVec Ideal ⟨2, ![8192, 1024]⟩ .f32) (p : FVec Ideal ⟨2, ![8192, 256]⟩ .f32) (tg y : FVec Ideal ⟨2, ![8192, 1024]⟩ .f32) (wg : FVec Ideal ⟨2, ![1024, 1024]⟩ .bf16) (b : FVec Ideal ⟨2, ![1, 1024]⟩ .f32) (wp : FVec Ideal ⟨2, ![1024, 256]⟩ .bf16) (g : FVec Ideal ⟨2, ![1, 1024]⟩ .f32) : Prop where
  h2 : ∀ i, IsR (h2 i)
  p : ∀ i, IsR (p i)
  tg : ∀ i, IsR (tg i)
  y : ∀ i, IsR (y i)
  wg : ∀ i, IsR (wg i)
  b : ∀ i, IsR (b i)
  wp : ∀ i, IsR (wp i)
  g : ∀ i, IsR (g i)

/-- The reference's matrices: the gate, the embedding, the error, the gradients of the loss, of the gate's input and of the tokens. -/
structure Chain (h2 : FVec Ideal ⟨2, ![8192, 1024]⟩ .f32) (p : FVec Ideal ⟨2, ![8192, 256]⟩ .f32) (tg y : FVec Ideal ⟨2, ![8192, 1024]⟩ .f32) (wg : FVec Ideal ⟨2, ![1024, 1024]⟩ .bf16) (b : FVec Ideal ⟨2, ![1, 1024]⟩ .f32) (wp : FVec Ideal ⟨2, ![1024, 256]⟩ .bf16) (g : FVec Ideal ⟨2, ![1, 1024]⟩ .f32) (G P D E Q H : FVec Ideal ⟨2, ![8192, 1024]⟩ .f32) : Prop where
  re : Reals h2 p tg y wg b wp g
  G : ∀ i j, G (ix2 i j) = Gt h2 wg b i j
  P : ∀ i j, P (ix2 i j) = Pt p wp i j
  D : ∀ i j, D (ix2 i j) = Dt h2 p tg wg b wp i j
  E : ∀ i j, E (ix2 i j) = scale (Dt h2 p tg wg b wp i j)
  Q : ∀ i j, Q (ix2 i j) = (pre (fun i j => scale (Dt h2 p tg wg b wp i j)) (Pt p wp) (Gt h2 wg b)) i j
  H : ∀ i j, H (ix2 i j) = (dtok (fun i j => scale (Dt h2 p tg wg b wp i j)) (pre (fun i j => scale (Dt h2 p tg wg b wp i j)) (Pt p wp) (Gt h2 wg b)) wg) i j

theorem chain {h2 : FVec Ideal ⟨2, ![8192, 1024]⟩ .f32} {p : FVec Ideal ⟨2, ![8192, 256]⟩ .f32} {tg y : FVec Ideal ⟨2, ![8192, 1024]⟩ .f32} {wg : FVec Ideal ⟨2, ![1024, 1024]⟩ .bf16} {b : FVec Ideal ⟨2, ![1, 1024]⟩ .f32} {wp : FVec Ideal ⟨2, ![1024, 256]⟩ .bf16} {g : FVec Ideal ⟨2, ![1, 1024]⟩ .f32} {G P D E Q H : FVec Ideal ⟨2, ![8192, 1024]⟩ .f32} (hr : Reals h2 p tg y wg b wp g)
    (hG : ∀ i j, G (ix2 i j) = Gt h2 wg b i j) (hP : ∀ i j, P (ix2 i j) = Pt p wp i j)
    (hD : ∀ i j, D (ix2 i j) = h2 (ix2 i j) + G (ix2 i j) * P (ix2 i j) - tg (ix2 i j))
    (hE : ∀ i j, E (ix2 i j) = scaleR (D (ix2 i j)))
    (hQ : ∀ i j, Q (ix2 i j) = E (ix2 i j) * P (ix2 i j) * (G (ix2 i j) * (1 - G (ix2 i j))))
    (hH : ∀ i j, H (ix2 i j) = E (ix2 i j) + ∑ k : Fin 1024, Q (ix2 i k) * wg (ix2 j k)) : Chain h2 p tg y wg b wp g G P D E Q H := by
  have eD : ∀ i j, D (ix2 i j) = Dt h2 p tg wg b wp i j := fun i j => (hD i j).trans (by rw [hG, hP]; rfl)
  have eE : ∀ i j, E (ix2 i j) = scale (Dt h2 p tg wg b wp i j) := fun i j => by
    rw [hE, eD]
    obtain ⟨d, hd⟩ := (Dt_real h2 p tg wg b wp hr.h2 hr.p hr.tg hr.wg hr.b hr.wp i j).2.2
    rw [hd]
    exact scale_eq d
  have eQ : ∀ i j, Q (ix2 i j) = (pre (fun i j => scale (Dt h2 p tg wg b wp i j)) (Pt p wp) (Gt h2 wg b)) i j := fun i j => by
    rw [hQ, eE, hG, hP]
    rfl
  refine ⟨hr, hG, hP, eD, eE, eQ, fun i j => ?_⟩
  rw [hH, eE]
  unfold dtok
  simp only [eQ]

section

variable {h2 : FVec Ideal ⟨2, ![8192, 1024]⟩ .f32} {p : FVec Ideal ⟨2, ![8192, 256]⟩ .f32} {tg y : FVec Ideal ⟨2, ![8192, 1024]⟩ .f32} {wg : FVec Ideal ⟨2, ![1024, 1024]⟩ .bf16} {b : FVec Ideal ⟨2, ![1, 1024]⟩ .f32} {wp : FVec Ideal ⟨2, ![1024, 256]⟩ .bf16} {g : FVec Ideal ⟨2, ![1, 1024]⟩ .f32} {G P D E Q H : FVec Ideal ⟨2, ![8192, 1024]⟩ .f32} (h : Chain h2 p tg y wg b wp g G P D E Q H)

include h

/-- The gradient of the tokens. -/
theorem full0 : H = fun i => (dtok (fun i j => scale (Dt h2 p tg wg b wp i j)) (pre (fun i j => scale (Dt h2 p tg wg b wp i j)) (Pt p wp) (Gt h2 wg b)) wg) (i 0) (i 1) := by
  funext i
  idx_vars i
  exact h.H i0 i1

/-- The gradient of the product before the norm. -/
theorem full1 (u : FVec Ideal ⟨2, ![8192, 1024]⟩ .bf16) (hu : ∀ i j, u (ix2 i j) = backRef (fun k => H (ix2 i k)) (fun k => y (ix2 i k)) (fun k => g (ix2 0 k)) j) :
    u = fun i => back ((dtok (fun i j => scale (Dt h2 p tg wg b wp i j)) (pre (fun i j => scale (Dt h2 p tg wg b wp i j)) (Pt p wp) (Gt h2 wg b)) wg) (i 0)) (fun k => y (ix2 (i 0) k)) (fun k => g (ix2 0 k)) (i 1) := by
  funext i
  idx_vars i
  refine (hu i0 i1).trans ?_
  have e := Dt_real h2 p tg wg b wp h.re.h2 h.re.p h.re.tg h.re.wg h.re.b h.re.wp
  have r := dtok_real (Dt h2 p tg wg b wp) (Pt p wp) (Gt h2 wg b) wg (fun i j => (e i j).2.2) (fun i j => (e i j).2.1) (fun i j => (e i j).1) h.re.wg i0
  simp only [h.H]
  exact (back_eq _ _ _ r (fun k => h.re.y _) (fun k => h.re.g _) i1).symm

/-- The gradient of the gate's weights. -/
theorem full2 (u : FVec Ideal ⟨2, ![1024, 1024]⟩ .f32) (hu : ∀ i j, u (ix2 i j) = ∑ t : Fin 8192, h2 (ix2 t i) * Q (ix2 t j)) :
    u = fun i => total fun t => h2 (ix2 t (i 0)) * (pre (fun i j => scale (Dt h2 p tg wg b wp i j)) (Pt p wp) (Gt h2 wg b)) t (i 1) := by
  funext i
  idx_vars i
  refine (hu i0 i1).trans ?_
  unfold total
  simp only [h.Q]

/-- The gradient of the embedding's weights. -/
theorem full3 (u : FVec Ideal ⟨2, ![1024, 256]⟩ .f32) (hu : ∀ i j, u (ix2 i j) = ∑ t : Fin 8192, G (ix2 t i) * E (ix2 t i) * p (ix2 t j)) :
    u = fun i => total fun t => scale (Dt h2 p tg wg b wp t (i 0)) * (Gt h2 wg b) t (i 0) * p (ix2 t (i 1)) := by
  funext i
  idx_vars i
  refine (hu i0 i1).trans ?_
  unfold total
  simp only [h.G, h.E]
  exact Finset.sum_congr rfl fun t _ => congrArg (· * p (ix2 t i1)) (mul_comm _ _)

/-- The sums of the squared errors. -/
theorem full4 (u : FVec Ideal ⟨2, ![1, 1024]⟩ .f32) (hu : ∀ i j, u (ix2 i j) = ∑ t : Fin 8192, D (ix2 t j) * D (ix2 t j)) :
    u = fun i => total fun t => Dt h2 p tg wg b wp t (i 1) * Dt h2 p tg wg b wp t (i 1) := by
  funext i
  idx_vars i
  refine (hu i0 i1).trans ?_
  unfold total
  simp only [h.D]

/-- The gradient of the gate's bias. -/
theorem full5 (u : FVec Ideal ⟨2, ![1, 1024]⟩ .f32) (hu : ∀ i j, u (ix2 i j) = ∑ t : Fin 8192, Q (ix2 t j)) :
    u = fun i => total fun t => (pre (fun i j => scale (Dt h2 p tg wg b wp i j)) (Pt p wp) (Gt h2 wg b)) t (i 1) := by
  funext i
  idx_vars i
  refine (hu i0 i1).trans ?_
  unfold total
  simp only [h.Q]

/-- The gradient of the norm's gain. -/
theorem full6 (u : FVec Ideal ⟨2, ![1, 1024]⟩ .f32) (hu : ∀ i j, u (ix2 i j) = ∑ t : Fin 8192, H (ix2 t j) * (y (ix2 t j) * rstd fun k => y (ix2 t k))) :
    u = fun i => total fun t => (dtok (fun i j => scale (Dt h2 p tg wg b wp i j)) (pre (fun i j => scale (Dt h2 p tg wg b wp i j)) (Pt p wp) (Gt h2 wg b)) wg) t (i 1) * (y (ix2 t (i 1)) * rstd fun k => y (ix2 t k)) := by
  funext i
  idx_vars i
  refine (hu i0 i1).trans ?_
  unfold total
  simp only [h.H]

end

end Cert.Pe
-- ==== Proof.Pe.lean ====
module

public import proofs.«01_k».proof.Defs
public import proofs.«01_k».proof.Proof.Finite
public import proofs.«01_k».proof.Proof.PeArr
public import proofs.«01_k».proof.Proof.PeRef
public import proofs.«01_k».proof.Proof.PeFull
public import Idealize.ShloMosaic.Adequacy
public import Idealize.ShloMosaic.Init

/-! The embedding's gate, the loss and their gradients: the claims from the arrays after the run. -/

@[expose] public section

set_option maxRecDepth 16384
set_option maxHeartbeats 4000000

noncomputable section

namespace Cert.Pe

open Idealize.ShloMosaic Idealize.SL.Sem

/-- The shape relations of the precondition's operations. -/
instance preFacts : Cert.Pre_finite_inputs8.Facts where
  bcast_S_S8192x1024 := by decide
  reducesTo_S8192x1024_S_d0_1 := by decide
  h_S_ := by decide
  bcast_S_S8192x256 := by decide
  reducesTo_S8192x256_S_d0_1 := by decide
  bitsLt_bf16_f32 := by decide
  bcast_S_S1024x1024 := by decide
  reducesTo_S1024x1024_S_d0_1 := by decide
  bcast_S_S1x1024 := by decide
  reducesTo_S1x1024_S_d0_1 := by decide
  bcast_S_S1024x256 := by decide
  reducesTo_S1024x256_S_d0_1 := by decide

/-- Under the precondition the arguments hold real numbers. -/
theorem real_of_pre (h2 : FVec Ideal ⟨2, ![8192, 1024]⟩ .f32) (p : FVec Ideal ⟨2, ![8192, 256]⟩ .f32) (tg y : FVec Ideal ⟨2, ![8192, 1024]⟩ .f32)
    (wg : FVec Ideal ⟨2, ![1024, 1024]⟩ .bf16) (b : FVec Ideal ⟨2, ![1, 1024]⟩ .f32) (wp : FVec Ideal ⟨2, ![1024, 256]⟩ .bf16) (g : FVec Ideal ⟨2, ![1, 1024]⟩ .f32)
    (hp : Cert.Pre_finite_inputs8.fn (F := Ideal) h2 p tg y wg b wp g = fun _ => 1#1) : Reals h2 p tg y wg b wp g := by
  have h' := congrFun hp (fun a : Fin 0 => a.elim0)
  unfold Cert.Pre_finite_inputs8.fn Cert.Pre_finite_inputs8.fn_part1 Cert.Pre_finite_inputs8.fn_part2 at h'
  obtain ⟨h', h7⟩ := IntOp.andi_eq_one.1 h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2'⟩ := IntOp.andi_eq_one.1 h'
  obtain ⟨h0, h1⟩ := IntOp.andi_eq_one.1 h'
  exact ⟨Cert.Sgu.all_finite _ _ _ _ _ h0, Cert.Sgu.all_finite _ _ _ _ _ h1, Cert.Sgu.all_finite _ _ _ _ _ h2', Cert.Sgu.all_finite _ _ _ _ _ h3,
    Cert.Sgu.all_finite (extf .f32 wg Cert.Pre_finite_inputs8.Facts.bitsLt_bf16_f32) _ _ _ _ h4, Cert.Sgu.all_finite _ _ _ _ _ h5,
    Cert.Sgu.all_finite (extf .f32 wp Cert.Pre_finite_inputs8.Facts.bitsLt_bf16_f32) _ _ _ _ h6, Cert.Sgu.all_finite _ _ _ _ _ h7⟩

/-- The reference of the loss's gradients runs, keeps its arguments and leaves every counter at zero. -/
theorem frame8 : Cert.quiescent_Reference8Ideal := fun m ρ _ =>
  (θ_run Cert.Reference8Ideal.defs _ _).mono (fun r h => ⟨fun c => (h c).2.2.2.2.2.2.2,
      Idealize.ShloMosaic.sem_eq_zero_of_no_sems (by decide) r.2⟩)
    (Cert.Reference8Ideal.Value.run (F := Ideal) m ρ)

/-- The sums of the squared errors and the gradients of the tokens, of the product before the norm, of the embedding's weights and of the norm's gain: from
    equal finite arguments kernel and reference end with equal results. -/
theorem algebraic8 : Cert.algebraic_Kernel8Ideal_Reference8Ideal_pre_finite_inputs8 := by
  intro m ρ m' ρ' hpre hag
  refine ⟨fun c => (Cert.Kernel8Ideal.Gen.dats m 0 c).arrAt 8 Cert.Kernel8Ideal.cfg0.N, fun c => (Cert.Kernel8Ideal.Gen.dats m 0 c).arrAt 9 Cert.Kernel8Ideal.cfg0.N,
    fun c => (Cert.Kernel8Ideal.Gen.dats m 0 c).arrAt 10 Cert.Kernel8Ideal.cfg0.N, fun c => (Cert.Kernel8Ideal.Gen.dats m 0 c).arrAt 11 Cert.Kernel8Ideal.cfg0.N,
    fun c => (Cert.Kernel8Ideal.Gen.dats m 0 c).arrAt 12 Cert.Kernel8Ideal.cfg0.N, fun c => (Cert.Kernel8Ideal.Gen.dats m 0 c).arrAt 13 Cert.Kernel8Ideal.cfg0.N,
    fun c => (Cert.Kernel8Ideal.Gen.dats m 0 c).arrAt 14 Cert.Kernel8Ideal.cfg0.N,
    Cert.Kernel8Ideal.Value.run_blocks m ρ,
    (θ_run Cert.Reference8Ideal.defs _ _).mono (fun r h c => ?_) (Cert.Reference8Ideal.Value.run (F := Ideal) m' ρ')⟩
  obtain ⟨s0, s1, s2, s3, s4, s5, s6, rest⟩ := h c
  obtain ⟨a0, a1, a2, a3, a4, a5, a6, a7⟩ := hag c
  have hr := real_of_pre _ _ _ _ _ _ _ _ (hpre c)
  rw [← a0, ← a1, ← a2, ← a3, ← a4, ← a5, ← a6, ← a7] at hr
  have ch := chain hr (gate_ref _ _ _) (pe_ref _ _) (err_ref _ _ _ _) (scale_ref _) (pre_ref _ _ _) (r0 _ _ _)
  refine ⟨s0.trans ?_, s1.trans ?_, s2.trans ?_, s3.trans ?_, s4.trans ?_, s5.trans ?_, s6.trans ?_, rest⟩
  · unfold Cert.Reference8Ideal.Value.res_main_v48
    refine (full0 ch).trans ?_
    rw [a0, a1, a2, a4, a5, a6]
    exact (arr8 m c).symm
  · unfold Cert.Reference8Ideal.Value.res_main_v86
    refine (full1 ch _ (r1 _ _ _)).trans ?_
    rw [a0, a1, a2, a3, a4, a5, a6, a7]
    exact (arr9 m c).symm
  · refine (full2 ch _ (r2 _ _)).trans ?_
    rw [a0, a1, a2, a4, a5, a6]
    exact (arr10 m c).symm
  · refine (full3 ch _ (r3 _ _ _)).trans ?_
    rw [a0, a1, a2, a4, a5, a6]
    exact (arr11 m c).symm
  · refine (full4 ch _ (r4 _)).trans ?_
    rw [a0, a1, a2, a4, a5, a6]
    exact (arr12 m c).symm
  · refine (full5 ch _ (r5 _)).trans ?_
    rw [a0, a1, a2, a4, a5, a6]
    exact (arr13 m c).symm
  · unfold Cert.Reference8Ideal.Value.res_main_v89
    refine (full6 ch _ (r6 _ _)).trans ?_
    rw [a0, a1, a2, a3, a4, a5, a6]
    exact (arr14 m c).symm

end Cert.Pe
-- ==== Proof.Adam.lean ====
/- AdamW's step of one entry, as the kernels and the references compute it. -/
module

public import proofs.«01_k».proof.Proof.Lift
public import Idealize.ShloMosaic.Lib.Pipeline.ValueKit

@[expose] public section

noncomputable section

namespace Cert.Adam

open Idealize.ShloMosaic

/-- The new first moment, from the old one and the gradient. -/
def mom (m g : EReal) : EReal := (Scalar.ofBits .f32 0x3F666666#32 : Ideal .f32) * m + (Scalar.ofBits .f32 0x3DCCCCCD#32 : Ideal .f32) * g

/-- The new second moment, from the old one and the gradient. -/
def vel (v g : EReal) : EReal := (Scalar.ofBits .f32 0x3F7FBE77#32 : Ideal .f32) * v + (Scalar.ofBits .f32 0x3A83126F#32 : Ideal .f32) * (g * g)

/-- The update, from the weight and the new moments. -/
def step (w a b : EReal) : EReal :=
  (Scalar.ofBits .f32 0xBA83126F#32 : Ideal .f32) * (Ideal.div (Ideal.div a (Scalar.ofBits .f32 0x3F26BD02#32 : Ideal .f32)) (Ideal.sqrt (Ideal.div b (Scalar.ofBits .f32 0x3C231ACC#32 : Ideal .f32)) + (Scalar.ofBits .f32 0x322BCC77#32 : Ideal .f32)) + (Scalar.ofBits .f32 0x3C23D70A#32 : Ideal .f32) * w)

end Cert.Adam

end
-- ==== Proof.Adam9.lean ====
/- The optimiser's step for w_down's shape: the sum of the eight parts of its gradient, and the moments and the update from it. -/
module

public import proofs.«01_k».proof.Defs
public import proofs.«01_k».proof.Proof.Adam
public import proofs.«01_k».proof.Proof.Gen.Kernel9Ideal.Value
public import proofs.«01_k».proof.Proof.Gen.Reference9Ideal.Run
public import Idealize.ShloMosaic.Adequacy
public import Idealize.ShloMosaic.Init

@[expose] public section

set_option maxRecDepth 16384
set_option maxHeartbeats 4000000

noncomputable section

namespace Cert.Adam9

open Idealize.ShloMosaic Idealize.SL.Sem Cert.Adam

section

open Cert.Reference9Ideal Cert.Reference9Ideal.Gen

/-- An entry of the summed gradient. -/
def tot (x : FVec Ideal S8x352x1024 .f32) (i : Fin 352) (j : Fin 1024) : EReal := ∑ d : Fin 8, x (ix3 d i j)

theorem sum_ref (x : FVec Ideal S8x352x1024 .f32) :
    (Host.reduceAdd x (constant S_ .f32 0x00000000#32) reducesTo_S8x352x1024_S352x1024_d0 h_S_ : FVec Ideal S352x1024 .f32) = fun i => tot x (i 0) (i 1) := by
  funext i
  idx_vars i
  unfold tot
  pointwise []

theorem mom_ref (g m : FVec Ideal S352x1024 .f32) : ((addf (mulf (broadcastInDim S352x1024 ![] bcast_S_S352x1024 (constant S_ .f32 0x3F666666#32)) m) (mulf (broadcastInDim S352x1024 ![] bcast_S_S352x1024 (constant S_ .f32 0x3DCCCCCD#32)) g)) : FVec Ideal S352x1024 .f32) = fun i => mom (m i) (g i) := by
  funext i
  idx_vars i
  unfold mom
  pointwise []

theorem vel_ref (g v : FVec Ideal S352x1024 .f32) : ((addf (mulf (broadcastInDim S352x1024 ![] bcast_S_S352x1024 (constant S_ .f32 0x3F7FBE77#32)) v) (mulf (broadcastInDim S352x1024 ![] bcast_S_S352x1024 (constant S_ .f32 0x3A83126F#32)) (mulf g g))) : FVec Ideal S352x1024 .f32) = fun i => vel (v i) (g i) := by
  funext i
  idx_vars i
  unfold vel
  pointwise []

theorem step_ref (w a b : FVec Ideal S352x1024 .f32) : ((mulf (broadcastInDim S352x1024 ![] bcast_S_S352x1024 (constant S_ .f32 0xBA83126F#32)) (addf (Host.divf (Host.divf a (broadcastInDim S352x1024 ![] bcast_S_S352x1024 (constant S_ .f32 0x3F26BD02#32))) (addf (Host.sqrt (Host.divf b (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) w))) : FVec Ideal S352x1024 .f32) = fun i => step (w i) (a i) (b i) := by
  funext i
  idx_vars i
  unfold step
  pointwise []

end

section

open Cert.Kernel9Ideal Cert.Kernel9Ideal.Gen

variable (m : (ℓ : Loc nD τ sig) → Buf (Elt Ideal) ℓ) (c : Dev nD)

abbrev parts : FVec Ideal S8x352x1024 .f32 := m ((c.tc : Thread nD τ).loc main_arg0)
abbrev wts : FVec Ideal S352x1024 .f32 := m ((c.tc : Thread nD τ).loc main_arg1)
abbrev moms : FVec Ideal S352x1024 .f32 := m ((c.tc : Thread nD τ).loc main_arg2)
abbrev vels : FVec Ideal S352x1024 .f32 := m ((c.tc : Thread nD τ).loc main_arg3)

theorem idx : ∀ t, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

theorem N2 (t : Fin cfg0.N) : t.val < 2 := lt_of_lt_of_eq t.isLt N_0

/-- The row of an entry of a grid point's block. -/
abbrev row (t : Fin cfg0.N) (i : Fin 176) : Fin 352 := ⟨t.val * 176 + i.val, by have := N2 t; omega⟩

theorem blk0 (t : Fin cfg0.N) (d : Fin 8) (i : Fin 176) (j : Fin 1024) : (iblk m c 0 t : FVec Ideal S8x176x1024 .f32) (ix3 d i j) = parts m c (ix3 d (row t i) j) := by
  blk_ext [iblk, V, idx t]

theorem blk1 (t : Fin cfg0.N) (i : Fin 176) (j : Fin 1024) : (iblk m c 1 t : FVec Ideal S176x1024 .f32) (ix2 i j) = wts m c (ix2 (row t i) j) := by
  blk_ext [iblk, V, idx t]

theorem blk2 (t : Fin cfg0.N) (i : Fin 176) (j : Fin 1024) : (iblk m c 2 t : FVec Ideal S176x1024 .f32) (ix2 i j) = moms m c (ix2 (row t i) j) := by
  blk_ext [iblk, V, idx t]

theorem blk3 (t : Fin cfg0.N) (i : Fin 176) (j : Fin 1024) : (iblk m c 3 t : FVec Ideal S176x1024 .f32) (ix2 i j) = vels m c (ix2 (row t i) j) := by
  blk_ext [iblk, V, idx t]

theorem emb4 (t : Fin cfg0.N) (i : Fin 176) (j : Fin 1024) : (win0_4.blk t).view.emb (ix2 i j) = (ix2 (row t i) j : S352x1024.Idx) := by
  blk_ext [idx t]

theorem emb5 (t : Fin cfg0.N) (i : Fin 176) (j : Fin 1024) : (win0_5.blk t).view.emb (ix2 i j) = (ix2 (row t i) j : S352x1024.Idx) := by
  blk_ext [idx t]

theorem emb6 (t : Fin cfg0.N) (i : Fin 176) (j : Fin 1024) : (win0_6.blk t).view.emb (ix2 i j) = (ix2 (row t i) j : S352x1024.Idx) := by
  blk_ext [idx t]

theorem emb7 (t : Fin cfg0.N) (i : Fin 176) (j : Fin 1024) : (win0_7.blk t).view.emb (ix2 i j) = (ix2 (row t i) j : S352x1024.Idx) := by
  blk_ext [idx t]

theorem ld (x : FVec Ideal S8x176x1024 .f32) (i : Fin 176) (j : Fin 1024) :
    (View.ld (Val := Elt Ideal) (e' := .f32) x r0_0 : FVec Ideal S1x176x1024 .f32) (ix3 0 i j) = x (ix3 0 i j) ∧ (View.ld (Val := Elt Ideal) (e' := .f32) x r0_1 : FVec Ideal S1x176x1024 .f32) (ix3 0 i j) = x (ix3 1 i j) ∧ (View.ld (Val := Elt Ideal) (e' := .f32) x r0_2 : FVec Ideal S1x176x1024 .f32) (ix3 0 i j) = x (ix3 2 i j) ∧ (View.ld (Val := Elt Ideal) (e' := .f32) x r0_3 : FVec Ideal S1x176x1024 .f32) (ix3 0 i j) = x (ix3 3 i j) ∧ (View.ld (Val := Elt Ideal) (e' := .f32) x r0_4 : FVec Ideal S1x176x1024 .f32) (ix3 0 i j) = x (ix3 4 i j) ∧ (View.ld (Val := Elt Ideal) (e' := .f32) x r0_5 : FVec Ideal S1x176x1024 .f32) (ix3 0 i j) = x (ix3 5 i j) ∧ (View.ld (Val := Elt Ideal) (e' := .f32) x r0_6 : FVec Ideal S1x176x1024 .f32) (ix3 0 i j) = x (ix3 6 i j) ∧ (View.ld (Val := Elt Ideal) (e' := .f32) x r0_7 : FVec Ideal S1x176x1024 .f32) (ix3 0 i j) = x (ix3 7 i j) := by
  refine ⟨?_, ?_, ?_, ?_, ?_, ?_, ?_, ?_⟩ <;> pointwise [View.ld]

theorem pay6 (x0 x1 x2 x3 x4 x5 x6 x7 : FVec Ideal S1x176x1024 .f32) (i : Fin 176) (j : Fin 1024) : (k0_pay6 x0 x1 x2 x3 x4 x5 x6 x7 : FVec Ideal S176x1024 .f32) (ix2 i j)
    = x0 (ix3 0 i j) + x1 (ix3 0 i j) + x2 (ix3 0 i j) + x3 (ix3 0 i j) + x4 (ix3 0 i j) + x5 (ix3 0 i j) + x6 (ix3 0 i j) + x7 (ix3 0 i j) := by
  pointwise [k0_pay6]

/-- The sum of the parts, at a grid point. -/
theorem sum_blk (t : Fin cfg0.N) (i : Fin 176) (j : Fin 1024) :
    (k0_pay6 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal S176x1024 .f32) (ix2 i j)
      = tot (parts m c) (row t i) j := by
  obtain ⟨l0, l1, l2, l3, l4, l5, l6, l7⟩ := ld (iblk m c 0 t) i j
  rw [pay6]
  unfold tot
  rw [Fin.sum_univ_eight, ← blk0, ← blk0, ← blk0, ← blk0, ← blk0, ← blk0, ← blk0, ← blk0]
  exact congrArg₂ (· + ·) (congrArg₂ (· + ·) (congrArg₂ (· + ·) (congrArg₂ (· + ·) (congrArg₂ (· + ·) (congrArg₂ (· + ·) (congrArg₂ (· + ·) l0 l1) l2) l3) l4) l5) l6) l7

theorem pay1 (g a : FVec Ideal S176x1024 .f32) (i : Fin 176) (j : Fin 1024) : (k0_pay1 g a : FVec Ideal S176x1024 .f32) (ix2 i j) = mom (a (ix2 i j)) (g (ix2 i j)) := by
  unfold mom
  pointwise [k0_pay1]

theorem pay2 (g b : FVec Ideal S176x1024 .f32) (i : Fin 176) (j : Fin 1024) : (k0_pay2 g b : FVec Ideal S176x1024 .f32) (ix2 i j) = vel (b (ix2 i j)) (g (ix2 i j)) := by
  unfold vel
  pointwise [k0_pay2]

theorem pay3 (g w a b : FVec Ideal S176x1024 .f32) (i : Fin 176) (j : Fin 1024) : (k0_pay3 g w a b : FVec Ideal S176x1024 .f32) (ix2 i j)
    = step (w (ix2 i j)) ((k0_pay1 g a : FVec Ideal S176x1024 .f32) (ix2 i j)) ((k0_pay2 g b : FVec Ideal S176x1024 .f32) (ix2 i j)) := by
  unfold step
  pointwise [k0_pay3]

/-- The gradient's array after the run. -/
theorem arr4 : (dats m 0 c).arrAt 4 cfg0.N = (fun i => tot (parts m c) (i 0) (i 1) : FVec Ideal S352x1024 .f32) := by
  refine (dats m 0 c).arrAt_eq_of_covers 4 _ (by decide +kernel) fun t hf y => ?_
  blk_simp
  rw [after0_4]
  frame_out
  idx_vars y
  rw [emb4]
  refine Eq.trans ?_ (sum_blk m c t y0 y1)
  pointwise [k0_pay7]
  rfl

/-- The first moment's array after the run. -/
theorem arr6 : (dats m 0 c).arrAt 6 cfg0.N = (fun i => mom (moms m c i) (tot (parts m c) (i 0) (i 1)) : FVec Ideal S352x1024 .f32) := by
  refine (dats m 0 c).arrAt_eq_of_covers 6 _ (by decide +kernel) fun t hf y => ?_
  blk_simp
  rw [after0_6]
  frame_out
  idx_vars y
  rw [emb6]
  refine Eq.trans (b := (k0_pay1 (k0_pay8 (iblk m c 0 t) (iblk m c 1 t) (iblk m c 2 t) (iblk m c 3 t)) (iblk m c 2 t) : FVec Ideal S176x1024 .f32) (ix2 y0 y1)) ?_ ?_
  · pointwise [k0_pay4]
  · rw [pay1, blk2]
    exact congrArg (mom _) (sum_blk m c t y0 y1)

/-- The second moment's array after the run. -/
theorem arr7 : (dats m 0 c).arrAt 7 cfg0.N = (fun i => vel (vels m c i) (tot (parts m c) (i 0) (i 1)) : FVec Ideal S352x1024 .f32) := by
  refine (dats m 0 c).arrAt_eq_of_covers 7 _ (by decide +kernel) fun t hf y => ?_
  blk_simp
  rw [after0_7]
  frame_out
  idx_vars y
  rw [emb7]
  refine Eq.trans (b := (k0_pay2 (k0_pay8 (iblk m c 0 t) (iblk m c 1 t) (iblk m c 2 t) (iblk m c 3 t)) (iblk m c 3 t) : FVec Ideal S176x1024 .f32) (ix2 y0 y1)) ?_ ?_
  · pointwise [k0_pay5]
  · rw [pay2, blk3]
    exact congrArg (vel _) (sum_blk m c t y0 y1)

/-- The update's array after the run. -/
theorem arr5 : (dats m 0 c).arrAt 5 cfg0.N = (fun i => step (wts m c i) (mom (moms m c i) (tot (parts m c) (i 0) (i 1)))
    (vel (vels m c i) (tot (parts m c) (i 0) (i 1))) : FVec Ideal S352x1024 .f32) := by
  refine (dats m 0 c).arrAt_eq_of_covers 5 _ (by decide +kernel) fun t hf y => ?_
  blk_simp
  rw [after0_5]
  frame_out
  idx_vars y
  rw [emb5]
  refine (pay3 _ _ _ _ y0 y1).trans ?_
  rw [pay1, pay2, blk1, blk2, blk3]
  refine congrArg₂ (step _) (congrArg (mom _) ?_) (congrArg (vel _) ?_) <;> exact sum_blk m c t y0 y1

end

/-- The reference of the optimiser's step runs, keeps its arguments and leaves every counter at zero. -/
theorem frame : Cert.quiescent_Reference9Ideal := fun m ρ _ =>
  (θ_run Cert.Reference9Ideal.defs _ _).mono (fun r h => ⟨fun c => (h c).2.2.2.2,
      Idealize.ShloMosaic.sem_eq_zero_of_no_sems (by decide) r.2⟩)
    (Cert.Reference9Ideal.Value.run (F := Ideal) m ρ)

/-- Gradient, update and moments: kernel and reference end with equal results from equal arguments. -/
theorem algebraic : Cert.algebraic_Kernel9Ideal_Reference9Ideal := by
  intro m ρ m' ρ' _ hag
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N,
    fun c => (Cert.Kernel9Ideal.Gen.dats m 0 c).arrAt 6 Cert.Kernel9Ideal.cfg0.N, fun c => (Cert.Kernel9Ideal.Gen.dats m 0 c).arrAt 7 Cert.Kernel9Ideal.cfg0.N,
    Cert.Kernel9Ideal.Value.run_blocks m ρ,
    (θ_run Cert.Reference9Ideal.defs _ _).mono (fun r h c => ?_) (Cert.Reference9Ideal.Value.run (F := Ideal) m' ρ')⟩
  obtain ⟨r0, r1, r2, r3, rest⟩ := h c
  obtain ⟨a0, a1, a2, a3⟩ := hag c
  refine ⟨r0.trans ?_, r1.trans ?_, r2.trans ?_, r3.trans ?_, rest⟩
  · rw [a0]
    exact (sum_ref _).trans (arr4 m c).symm
  · rw [a0, a1, a2, a3]
    refine Eq.trans ?_ (arr5 m c).symm
    rw [sum_ref, mom_ref, vel_ref, step_ref]
  · rw [a0, a2]
    refine Eq.trans ?_ (arr6 m c).symm
    rw [sum_ref, mom_ref]
  · rw [a0, a3]
    refine Eq.trans ?_ (arr7 m c).symm
    rw [sum_ref, vel_ref]

end Cert.Adam9
-- ==== Proof.Adam10.lean ====
/- The optimiser's step for w_out's shape: the sum of the eight parts of its gradient, and the moments and the update from it. -/
module

public import proofs.«01_k».proof.Defs
public import proofs.«01_k».proof.Proof.Adam
public import proofs.«01_k».proof.Proof.Gen.Kernel10Ideal.Value
public import proofs.«01_k».proof.Proof.Gen.Reference10Ideal.Run
public import Idealize.ShloMosaic.Adequacy
public import Idealize.ShloMosaic.Init

@[expose] public section

set_option maxRecDepth 16384
set_option maxHeartbeats 4000000

noncomputable section

namespace Cert.Adam10

open Idealize.ShloMosaic Idealize.SL.Sem Cert.Adam

section

open Cert.Reference10Ideal Cert.Reference10Ideal.Gen

/-- An entry of the summed gradient. -/
def tot (x : FVec Ideal S8x128x1024 .f32) (i : Fin 128) (j : Fin 1024) : EReal := ∑ d : Fin 8, x (ix3 d i j)

theorem sum_ref (x : FVec Ideal S8x128x1024 .f32) :
    (Host.reduceAdd x (constant S_ .f32 0x00000000#32) reducesTo_S8x128x1024_S128x1024_d0 h_S_ : FVec Ideal S128x1024 .f32) = fun i => tot x (i 0) (i 1) := by
  funext i
  idx_vars i
  unfold tot
  pointwise []

theorem mom_ref (g m : FVec Ideal S128x1024 .f32) : ((addf (mulf (broadcastInDim S128x1024 ![] bcast_S_S128x1024 (constant S_ .f32 0x3F666666#32)) m) (mulf (broadcastInDim S128x1024 ![] bcast_S_S128x1024 (constant S_ .f32 0x3DCCCCCD#32)) g)) : FVec Ideal S128x1024 .f32) = fun i => mom (m i) (g i) := by
  funext i
  idx_vars i
  unfold mom
  pointwise []

theorem vel_ref (g v : FVec Ideal S128x1024 .f32) : ((addf (mulf (broadcastInDim S128x1024 ![] bcast_S_S128x1024 (constant S_ .f32 0x3F7FBE77#32)) v) (mulf (broadcastInDim S128x1024 ![] bcast_S_S128x1024 (constant S_ .f32 0x3A83126F#32)) (mulf g g))) : FVec Ideal S128x1024 .f32) = fun i => vel (v i) (g i) := by
  funext i
  idx_vars i
  unfold vel
  pointwise []

theorem step_ref (w a b : FVec Ideal S128x1024 .f32) : ((mulf (broadcastInDim S128x1024 ![] bcast_S_S128x1024 (constant S_ .f32 0xBA83126F#32)) (addf (Host.divf (Host.divf a (broadcastInDim S128x1024 ![] bcast_S_S128x1024 (constant S_ .f32 0x3F26BD02#32))) (addf (Host.sqrt (Host.divf b (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) w))) : FVec Ideal S128x1024 .f32) = fun i => step (w i) (a i) (b i) := by
  funext i
  idx_vars i
  unfold step
  pointwise []

end

section

open Cert.Kernel10Ideal Cert.Kernel10Ideal.Gen

variable (m : (ℓ : Loc nD τ sig) → Buf (Elt Ideal) ℓ) (c : Dev nD)

abbrev parts : FVec Ideal S8x128x1024 .f32 := m ((c.tc : Thread nD τ).loc main_arg0)
abbrev wts : FVec Ideal S128x1024 .f32 := m ((c.tc : Thread nD τ).loc main_arg1)
abbrev moms : FVec Ideal S128x1024 .f32 := m ((c.tc : Thread nD τ).loc main_arg2)
abbrev vels : FVec Ideal S128x1024 .f32 := m ((c.tc : Thread nD τ).loc main_arg3)

theorem idx : ∀ t, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

theorem N1 (t : Fin cfg0.N) : t.val < 1 := lt_of_lt_of_eq t.isLt N_0

/-- The row of an entry of a grid point's block. -/
abbrev row (t : Fin cfg0.N) (i : Fin 128) : Fin 128 := ⟨t.val * 128 + i.val, by have := N1 t; omega⟩

theorem blk0 (t : Fin cfg0.N) (d : Fin 8) (i : Fin 128) (j : Fin 1024) : (iblk m c 0 t : FVec Ideal S8x128x1024 .f32) (ix3 d i j) = parts m c (ix3 d (row t i) j) := by
  blk_ext [iblk, V, idx t]

theorem blk1 (t : Fin cfg0.N) (i : Fin 128) (j : Fin 1024) : (iblk m c 1 t : FVec Ideal S128x1024 .f32) (ix2 i j) = wts m c (ix2 (row t i) j) := by
  blk_ext [iblk, V, idx t]

theorem blk2 (t : Fin cfg0.N) (i : Fin 128) (j : Fin 1024) : (iblk m c 2 t : FVec Ideal S128x1024 .f32) (ix2 i j) = moms m c (ix2 (row t i) j) := by
  blk_ext [iblk, V, idx t]

theorem blk3 (t : Fin cfg0.N) (i : Fin 128) (j : Fin 1024) : (iblk m c 3 t : FVec Ideal S128x1024 .f32) (ix2 i j) = vels m c (ix2 (row t i) j) := by
  blk_ext [iblk, V, idx t]

theorem emb4 (t : Fin cfg0.N) (i : Fin 128) (j : Fin 1024) : (win0_4.blk t).view.emb (ix2 i j) = (ix2 (row t i) j : S128x1024.Idx) := by
  blk_ext [idx t]

theorem emb5 (t : Fin cfg0.N) (i : Fin 128) (j : Fin 1024) : (win0_5.blk t).view.emb (ix2 i j) = (ix2 (row t i) j : S128x1024.Idx) := by
  blk_ext [idx t]

theorem emb6 (t : Fin cfg0.N) (i : Fin 128) (j : Fin 1024) : (win0_6.blk t).view.emb (ix2 i j) = (ix2 (row t i) j : S128x1024.Idx) := by
  blk_ext [idx t]

theorem emb7 (t : Fin cfg0.N) (i : Fin 128) (j : Fin 1024) : (win0_7.blk t).view.emb (ix2 i j) = (ix2 (row t i) j : S128x1024.Idx) := by
  blk_ext [idx t]

theorem ld (x : FVec Ideal S8x128x1024 .f32) (i : Fin 128) (j : Fin 1024) :
    (View.ld (Val := Elt Ideal) (e' := .f32) x r0_0 : FVec Ideal S1x128x1024 .f32) (ix3 0 i j) = x (ix3 0 i j) ∧ (View.ld (Val := Elt Ideal) (e' := .f32) x r0_1 : FVec Ideal S1x128x1024 .f32) (ix3 0 i j) = x (ix3 1 i j) ∧ (View.ld (Val := Elt Ideal) (e' := .f32) x r0_2 : FVec Ideal S1x128x1024 .f32) (ix3 0 i j) = x (ix3 2 i j) ∧ (View.ld (Val := Elt Ideal) (e' := .f32) x r0_3 : FVec Ideal S1x128x1024 .f32) (ix3 0 i j) = x (ix3 3 i j) ∧ (View.ld (Val := Elt Ideal) (e' := .f32) x r0_4 : FVec Ideal S1x128x1024 .f32) (ix3 0 i j) = x (ix3 4 i j) ∧ (View.ld (Val := Elt Ideal) (e' := .f32) x r0_5 : FVec Ideal S1x128x1024 .f32) (ix3 0 i j) = x (ix3 5 i j) ∧ (View.ld (Val := Elt Ideal) (e' := .f32) x r0_6 : FVec Ideal S1x128x1024 .f32) (ix3 0 i j) = x (ix3 6 i j) ∧ (View.ld (Val := Elt Ideal) (e' := .f32) x r0_7 : FVec Ideal S1x128x1024 .f32) (ix3 0 i j) = x (ix3 7 i j) := by
  refine ⟨?_, ?_, ?_, ?_, ?_, ?_, ?_, ?_⟩ <;> pointwise [View.ld]

theorem pay6 (x0 x1 x2 x3 x4 x5 x6 x7 : FVec Ideal S1x128x1024 .f32) (i : Fin 128) (j : Fin 1024) : (k0_pay6 x0 x1 x2 x3 x4 x5 x6 x7 : FVec Ideal S128x1024 .f32) (ix2 i j)
    = x0 (ix3 0 i j) + x1 (ix3 0 i j) + x2 (ix3 0 i j) + x3 (ix3 0 i j) + x4 (ix3 0 i j) + x5 (ix3 0 i j) + x6 (ix3 0 i j) + x7 (ix3 0 i j) := by
  pointwise [k0_pay6]

/-- The sum of the parts, at a grid point. -/
theorem sum_blk (t : Fin cfg0.N) (i : Fin 128) (j : Fin 1024) :
    (k0_pay6 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal S128x1024 .f32) (ix2 i j)
      = tot (parts m c) (row t i) j := by
  obtain ⟨l0, l1, l2, l3, l4, l5, l6, l7⟩ := ld (iblk m c 0 t) i j
  rw [pay6]
  unfold tot
  rw [Fin.sum_univ_eight, ← blk0, ← blk0, ← blk0, ← blk0, ← blk0, ← blk0, ← blk0, ← blk0]
  exact congrArg₂ (· + ·) (congrArg₂ (· + ·) (congrArg₂ (· + ·) (congrArg₂ (· + ·) (congrArg₂ (· + ·) (congrArg₂ (· + ·) (congrArg₂ (· + ·) l0 l1) l2) l3) l4) l5) l6) l7

theorem pay1 (g a : FVec Ideal S128x1024 .f32) (i : Fin 128) (j : Fin 1024) : (k0_pay1 g a : FVec Ideal S128x1024 .f32) (ix2 i j) = mom (a (ix2 i j)) (g (ix2 i j)) := by
  unfold mom
  pointwise [k0_pay1]

theorem pay2 (g b : FVec Ideal S128x1024 .f32) (i : Fin 128) (j : Fin 1024) : (k0_pay2 g b : FVec Ideal S128x1024 .f32) (ix2 i j) = vel (b (ix2 i j)) (g (ix2 i j)) := by
  unfold vel
  pointwise [k0_pay2]

theorem pay3 (g w a b : FVec Ideal S128x1024 .f32) (i : Fin 128) (j : Fin 1024) : (k0_pay3 g w a b : FVec Ideal S128x1024 .f32) (ix2 i j)
    = step (w (ix2 i j)) ((k0_pay1 g a : FVec Ideal S128x1024 .f32) (ix2 i j)) ((k0_pay2 g b : FVec Ideal S128x1024 .f32) (ix2 i j)) := by
  unfold step
  pointwise [k0_pay3]

/-- The gradient's array after the run. -/
theorem arr4 : (dats m 0 c).arrAt 4 cfg0.N = (fun i => tot (parts m c) (i 0) (i 1) : FVec Ideal S128x1024 .f32) := by
  refine (dats m 0 c).arrAt_eq_of_covers 4 _ (by decide +kernel) fun t hf y => ?_
  blk_simp
  rw [after0_4]
  frame_out
  idx_vars y
  rw [emb4]
  refine Eq.trans ?_ (sum_blk m c t y0 y1)
  pointwise [k0_pay7]
  rfl

/-- The first moment's array after the run. -/
theorem arr6 : (dats m 0 c).arrAt 6 cfg0.N = (fun i => mom (moms m c i) (tot (parts m c) (i 0) (i 1)) : FVec Ideal S128x1024 .f32) := by
  refine (dats m 0 c).arrAt_eq_of_covers 6 _ (by decide +kernel) fun t hf y => ?_
  blk_simp
  rw [after0_6]
  frame_out
  idx_vars y
  rw [emb6]
  refine Eq.trans (b := (k0_pay1 (k0_pay8 (iblk m c 0 t) (iblk m c 1 t) (iblk m c 2 t) (iblk m c 3 t)) (iblk m c 2 t) : FVec Ideal S128x1024 .f32) (ix2 y0 y1)) ?_ ?_
  · pointwise [k0_pay4]
  · rw [pay1, blk2]
    exact congrArg (mom _) (sum_blk m c t y0 y1)

/-- The second moment's array after the run. -/
theorem arr7 : (dats m 0 c).arrAt 7 cfg0.N = (fun i => vel (vels m c i) (tot (parts m c) (i 0) (i 1)) : FVec Ideal S128x1024 .f32) := by
  refine (dats m 0 c).arrAt_eq_of_covers 7 _ (by decide +kernel) fun t hf y => ?_
  blk_simp
  rw [after0_7]
  frame_out
  idx_vars y
  rw [emb7]
  refine Eq.trans (b := (k0_pay2 (k0_pay8 (iblk m c 0 t) (iblk m c 1 t) (iblk m c 2 t) (iblk m c 3 t)) (iblk m c 3 t) : FVec Ideal S128x1024 .f32) (ix2 y0 y1)) ?_ ?_
  · pointwise [k0_pay5]
  · rw [pay2, blk3]
    exact congrArg (vel _) (sum_blk m c t y0 y1)

/-- The update's array after the run. -/
theorem arr5 : (dats m 0 c).arrAt 5 cfg0.N = (fun i => step (wts m c i) (mom (moms m c i) (tot (parts m c) (i 0) (i 1)))
    (vel (vels m c i) (tot (parts m c) (i 0) (i 1))) : FVec Ideal S128x1024 .f32) := by
  refine (dats m 0 c).arrAt_eq_of_covers 5 _ (by decide +kernel) fun t hf y => ?_
  blk_simp
  rw [after0_5]
  frame_out
  idx_vars y
  rw [emb5]
  refine (pay3 _ _ _ _ y0 y1).trans ?_
  rw [pay1, pay2, blk1, blk2, blk3]
  refine congrArg₂ (step _) (congrArg (mom _) ?_) (congrArg (vel _) ?_) <;> exact sum_blk m c t y0 y1

end

/-- The reference of the optimiser's step runs, keeps its arguments and leaves every counter at zero. -/
theorem frame : Cert.quiescent_Reference10Ideal := fun m ρ _ =>
  (θ_run Cert.Reference10Ideal.defs _ _).mono (fun r h => ⟨fun c => (h c).2.2.2.2,
      Idealize.ShloMosaic.sem_eq_zero_of_no_sems (by decide) r.2⟩)
    (Cert.Reference10Ideal.Value.run (F := Ideal) m ρ)

/-- Gradient, update and moments: kernel and reference end with equal results from equal arguments. -/
theorem algebraic : Cert.algebraic_Kernel10Ideal_Reference10Ideal := by
  intro m ρ m' ρ' _ hag
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N,
    fun c => (Cert.Kernel10Ideal.Gen.dats m 0 c).arrAt 6 Cert.Kernel10Ideal.cfg0.N, fun c => (Cert.Kernel10Ideal.Gen.dats m 0 c).arrAt 7 Cert.Kernel10Ideal.cfg0.N,
    Cert.Kernel10Ideal.Value.run_blocks m ρ,
    (θ_run Cert.Reference10Ideal.defs _ _).mono (fun r h c => ?_) (Cert.Reference10Ideal.Value.run (F := Ideal) m' ρ')⟩
  obtain ⟨r0, r1, r2, r3, rest⟩ := h c
  obtain ⟨a0, a1, a2, a3⟩ := hag c
  refine ⟨r0.trans ?_, r1.trans ?_, r2.trans ?_, r3.trans ?_, rest⟩
  · rw [a0]
    exact (sum_ref _).trans (arr4 m c).symm
  · rw [a0, a1, a2, a3]
    refine Eq.trans ?_ (arr5 m c).symm
    rw [sum_ref, mom_ref, vel_ref, step_ref]
  · rw [a0, a2]
    refine Eq.trans ?_ (arr6 m c).symm
    rw [sum_ref, mom_ref]
  · rw [a0, a3]
    refine Eq.trans ?_ (arr7 m c).symm
    rw [sum_ref, vel_ref]

end Cert.Adam10
-- ==== Proof.Adam11.lean ====
/- The optimiser's step for w_gate_up's shape: the sum of the eight parts of its gradient, and the moments and the update from it. -/
module

public import proofs.«01_k».proof.Defs
public import proofs.«01_k».proof.Proof.Adam
public import proofs.«01_k».proof.Proof.Gen.Kernel11Ideal.Value
public import proofs.«01_k».proof.Proof.Gen.Reference11Ideal.Run
public import Idealize.ShloMosaic.Adequacy
public import Idealize.ShloMosaic.Init

@[expose] public section

set_option maxRecDepth 16384
set_option maxHeartbeats 4000000

noncomputable section

namespace Cert.Adam11

open Idealize.ShloMosaic Idealize.SL.Sem Cert.Adam

section

open Cert.Reference11Ideal Cert.Reference11Ideal.Gen

/-- An entry of the summed gradient. -/
def tot (x : FVec Ideal S8x704x1024 .f32) (i : Fin 704) (j : Fin 1024) : EReal := ∑ d : Fin 8, x (ix3 d i j)

theorem sum_ref (x : FVec Ideal S8x704x1024 .f32) :
    (Host.reduceAdd x (constant S_ .f32 0x00000000#32) reducesTo_S8x704x1024_S704x1024_d0 h_S_ : FVec Ideal S704x1024 .f32) = fun i => tot x (i 0) (i 1) := by
  funext i
  idx_vars i
  unfold tot
  pointwise []

theorem mom_ref (g m : FVec Ideal S704x1024 .f32) : ((addf (mulf (broadcastInDim S704x1024 ![] bcast_S_S704x1024 (constant S_ .f32 0x3F666666#32)) m) (mulf (broadcastInDim S704x1024 ![] bcast_S_S704x1024 (constant S_ .f32 0x3DCCCCCD#32)) g)) : FVec Ideal S704x1024 .f32) = fun i => mom (m i) (g i) := by
  funext i
  idx_vars i
  unfold mom
  pointwise []

theorem vel_ref (g v : FVec Ideal S704x1024 .f32) : ((addf (mulf (broadcastInDim S704x1024 ![] bcast_S_S704x1024 (constant S_ .f32 0x3F7FBE77#32)) v) (mulf (broadcastInDim S704x1024 ![] bcast_S_S704x1024 (constant S_ .f32 0x3A83126F#32)) (mulf g g))) : FVec Ideal S704x1024 .f32) = fun i => vel (v i) (g i) := by
  funext i
  idx_vars i
  unfold vel
  pointwise []

theorem step_ref (w a b : FVec Ideal S704x1024 .f32) : ((mulf (broadcastInDim S704x1024 ![] bcast_S_S704x1024 (constant S_ .f32 0xBA83126F#32)) (addf (Host.divf (Host.divf a (broadcastInDim S704x1024 ![] bcast_S_S704x1024 (constant S_ .f32 0x3F26BD02#32))) (addf (Host.sqrt (Host.divf b (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) w))) : FVec Ideal S704x1024 .f32) = fun i => step (w i) (a i) (b i) := by
  funext i
  idx_vars i
  unfold step
  pointwise []

end

section

open Cert.Kernel11Ideal Cert.Kernel11Ideal.Gen

variable (m : (ℓ : Loc nD τ sig) → Buf (Elt Ideal) ℓ) (c : Dev nD)

abbrev parts : FVec Ideal S8x704x1024 .f32 := m ((c.tc : Thread nD τ).loc main_arg0)
abbrev wts : FVec Ideal S704x1024 .f32 := m ((c.tc : Thread nD τ).loc main_arg1)
abbrev moms : FVec Ideal S704x1024 .f32 := m ((c.tc : Thread nD τ).loc main_arg2)
abbrev vels : FVec Ideal S704x1024 .f32 := m ((c.tc : Thread nD τ).loc main_arg3)

theorem idx : ∀ t, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

theorem N4 (t : Fin cfg0.N) : t.val < 4 := lt_of_lt_of_eq t.isLt N_0

/-- The row of an entry of a grid point's block. -/
abbrev row (t : Fin cfg0.N) (i : Fin 176) : Fin 704 := ⟨t.val * 176 + i.val, by have := N4 t; omega⟩

theorem blk0 (t : Fin cfg0.N) (d : Fin 8) (i : Fin 176) (j : Fin 1024) : (iblk m c 0 t : FVec Ideal S8x176x1024 .f32) (ix3 d i j) = parts m c (ix3 d (row t i) j) := by
  blk_ext [iblk, V, idx t]

theorem blk1 (t : Fin cfg0.N) (i : Fin 176) (j : Fin 1024) : (iblk m c 1 t : FVec Ideal S176x1024 .f32) (ix2 i j) = wts m c (ix2 (row t i) j) := by
  blk_ext [iblk, V, idx t]

theorem blk2 (t : Fin cfg0.N) (i : Fin 176) (j : Fin 1024) : (iblk m c 2 t : FVec Ideal S176x1024 .f32) (ix2 i j) = moms m c (ix2 (row t i) j) := by
  blk_ext [iblk, V, idx t]

theorem blk3 (t : Fin cfg0.N) (i : Fin 176) (j : Fin 1024) : (iblk m c 3 t : FVec Ideal S176x1024 .f32) (ix2 i j) = vels m c (ix2 (row t i) j) := by
  blk_ext [iblk, V, idx t]

theorem emb4 (t : Fin cfg0.N) (i : Fin 176) (j : Fin 1024) : (win0_4.blk t).view.emb (ix2 i j) = (ix2 (row t i) j : S704x1024.Idx) := by
  blk_ext [idx t]

theorem emb5 (t : Fin cfg0.N) (i : Fin 176) (j : Fin 1024) : (win0_5.blk t).view.emb (ix2 i j) = (ix2 (row t i) j : S704x1024.Idx) := by
  blk_ext [idx t]

theorem emb6 (t : Fin cfg0.N) (i : Fin 176) (j : Fin 1024) : (win0_6.blk t).view.emb (ix2 i j) = (ix2 (row t i) j : S704x1024.Idx) := by
  blk_ext [idx t]

theorem emb7 (t : Fin cfg0.N) (i : Fin 176) (j : Fin 1024) : (win0_7.blk t).view.emb (ix2 i j) = (ix2 (row t i) j : S704x1024.Idx) := by
  blk_ext [idx t]

theorem ld (x : FVec Ideal S8x176x1024 .f32) (i : Fin 176) (j : Fin 1024) :
    (View.ld (Val := Elt Ideal) (e' := .f32) x r0_0 : FVec Ideal S1x176x1024 .f32) (ix3 0 i j) = x (ix3 0 i j) ∧ (View.ld (Val := Elt Ideal) (e' := .f32) x r0_1 : FVec Ideal S1x176x1024 .f32) (ix3 0 i j) = x (ix3 1 i j) ∧ (View.ld (Val := Elt Ideal) (e' := .f32) x r0_2 : FVec Ideal S1x176x1024 .f32) (ix3 0 i j) = x (ix3 2 i j) ∧ (View.ld (Val := Elt Ideal) (e' := .f32) x r0_3 : FVec Ideal S1x176x1024 .f32) (ix3 0 i j) = x (ix3 3 i j) ∧ (View.ld (Val := Elt Ideal) (e' := .f32) x r0_4 : FVec Ideal S1x176x1024 .f32) (ix3 0 i j) = x (ix3 4 i j) ∧ (View.ld (Val := Elt Ideal) (e' := .f32) x r0_5 : FVec Ideal S1x176x1024 .f32) (ix3 0 i j) = x (ix3 5 i j) ∧ (View.ld (Val := Elt Ideal) (e' := .f32) x r0_6 : FVec Ideal S1x176x1024 .f32) (ix3 0 i j) = x (ix3 6 i j) ∧ (View.ld (Val := Elt Ideal) (e' := .f32) x r0_7 : FVec Ideal S1x176x1024 .f32) (ix3 0 i j) = x (ix3 7 i j) := by
  refine ⟨?_, ?_, ?_, ?_, ?_, ?_, ?_, ?_⟩ <;> pointwise [View.ld]

theorem pay6 (x0 x1 x2 x3 x4 x5 x6 x7 : FVec Ideal S1x176x1024 .f32) (i : Fin 176) (j : Fin 1024) : (k0_pay6 x0 x1 x2 x3 x4 x5 x6 x7 : FVec Ideal S176x1024 .f32) (ix2 i j)
    = x0 (ix3 0 i j) + x1 (ix3 0 i j) + x2 (ix3 0 i j) + x3 (ix3 0 i j) + x4 (ix3 0 i j) + x5 (ix3 0 i j) + x6 (ix3 0 i j) + x7 (ix3 0 i j) := by
  pointwise [k0_pay6]

/-- The sum of the parts, at a grid point. -/
theorem sum_blk (t : Fin cfg0.N) (i : Fin 176) (j : Fin 1024) :
    (k0_pay6 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal S176x1024 .f32) (ix2 i j)
      = tot (parts m c) (row t i) j := by
  obtain ⟨l0, l1, l2, l3, l4, l5, l6, l7⟩ := ld (iblk m c 0 t) i j
  rw [pay6]
  unfold tot
  rw [Fin.sum_univ_eight, ← blk0, ← blk0, ← blk0, ← blk0, ← blk0, ← blk0, ← blk0, ← blk0]
  exact congrArg₂ (· + ·) (congrArg₂ (· + ·) (congrArg₂ (· + ·) (congrArg₂ (· + ·) (congrArg₂ (· + ·) (congrArg₂ (· + ·) (congrArg₂ (· + ·) l0 l1) l2) l3) l4) l5) l6) l7

theorem pay1 (g a : FVec Ideal S176x1024 .f32) (i : Fin 176) (j : Fin 1024) : (k0_pay1 g a : FVec Ideal S176x1024 .f32) (ix2 i j) = mom (a (ix2 i j)) (g (ix2 i j)) := by
  unfold mom
  pointwise [k0_pay1]

theorem pay2 (g b : FVec Ideal S176x1024 .f32) (i : Fin 176) (j : Fin 1024) : (k0_pay2 g b : FVec Ideal S176x1024 .f32) (ix2 i j) = vel (b (ix2 i j)) (g (ix2 i j)) := by
  unfold vel
  pointwise [k0_pay2]

theorem pay3 (g w a b : FVec Ideal S176x1024 .f32) (i : Fin 176) (j : Fin 1024) : (k0_pay3 g w a b : FVec Ideal S176x1024 .f32) (ix2 i j)
    = step (w (ix2 i j)) ((k0_pay1 g a : FVec Ideal S176x1024 .f32) (ix2 i j)) ((k0_pay2 g b : FVec Ideal S176x1024 .f32) (ix2 i j)) := by
  unfold step
  pointwise [k0_pay3]

/-- The gradient's array after the run. -/
theorem arr4 : (dats m 0 c).arrAt 4 cfg0.N = (fun i => tot (parts m c) (i 0) (i 1) : FVec Ideal S704x1024 .f32) := by
  refine (dats m 0 c).arrAt_eq_of_covers 4 _ (by decide +kernel) fun t hf y => ?_
  blk_simp
  rw [after0_4]
  frame_out
  idx_vars y
  rw [emb4]
  refine Eq.trans ?_ (sum_blk m c t y0 y1)
  pointwise [k0_pay7]
  rfl

/-- The first moment's array after the run. -/
theorem arr6 : (dats m 0 c).arrAt 6 cfg0.N = (fun i => mom (moms m c i) (tot (parts m c) (i 0) (i 1)) : FVec Ideal S704x1024 .f32) := by
  refine (dats m 0 c).arrAt_eq_of_covers 6 _ (by decide +kernel) fun t hf y => ?_
  blk_simp
  rw [after0_6]
  frame_out
  idx_vars y
  rw [emb6]
  refine Eq.trans (b := (k0_pay1 (k0_pay8 (iblk m c 0 t) (iblk m c 1 t) (iblk m c 2 t) (iblk m c 3 t)) (iblk m c 2 t) : FVec Ideal S176x1024 .f32) (ix2 y0 y1)) ?_ ?_
  · pointwise [k0_pay4]
  · rw [pay1, blk2]
    exact congrArg (mom _) (sum_blk m c t y0 y1)

/-- The second moment's array after the run. -/
theorem arr7 : (dats m 0 c).arrAt 7 cfg0.N = (fun i => vel (vels m c i) (tot (parts m c) (i 0) (i 1)) : FVec Ideal S704x1024 .f32) := by
  refine (dats m 0 c).arrAt_eq_of_covers 7 _ (by decide +kernel) fun t hf y => ?_
  blk_simp
  rw [after0_7]
  frame_out
  idx_vars y
  rw [emb7]
  refine Eq.trans (b := (k0_pay2 (k0_pay8 (iblk m c 0 t) (iblk m c 1 t) (iblk m c 2 t) (iblk m c 3 t)) (iblk m c 3 t) : FVec Ideal S176x1024 .f32) (ix2 y0 y1)) ?_ ?_
  · pointwise [k0_pay5]
  · rw [pay2, blk3]
    exact congrArg (vel _) (sum_blk m c t y0 y1)

/-- The update's array after the run. -/
theorem arr5 : (dats m 0 c).arrAt 5 cfg0.N = (fun i => step (wts m c i) (mom (moms m c i) (tot (parts m c) (i 0) (i 1)))
    (vel (vels m c i) (tot (parts m c) (i 0) (i 1))) : FVec Ideal S704x1024 .f32) := by
  refine (dats m 0 c).arrAt_eq_of_covers 5 _ (by decide +kernel) fun t hf y => ?_
  blk_simp
  rw [after0_5]
  frame_out
  idx_vars y
  rw [emb5]
  refine (pay3 _ _ _ _ y0 y1).trans ?_
  rw [pay1, pay2, blk1, blk2, blk3]
  refine congrArg₂ (step _) (congrArg (mom _) ?_) (congrArg (vel _) ?_) <;> exact sum_blk m c t y0 y1

end

/-- The reference of the optimiser's step runs, keeps its arguments and leaves every counter at zero. -/
theorem frame : Cert.quiescent_Reference11Ideal := fun m ρ _ =>
  (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)

/-- Gradient, update and moments: kernel and reference end with equal results from equal arguments. -/
theorem algebraic : Cert.algebraic_Kernel11Ideal_Reference11Ideal := by
  intro m ρ m' ρ' _ hag
  refine ⟨fun c => (Cert.Kernel11Ideal.Gen.dats m 0 c).arrAt 4 Cert.Kernel11Ideal.cfg0.N, fun c => (Cert.Kernel11Ideal.Gen.dats m 0 c).arrAt 5 Cert.Kernel11Ideal.cfg0.N,
    fun c => (Cert.Kernel11Ideal.Gen.dats m 0 c).arrAt 6 Cert.Kernel11Ideal.cfg0.N, fun c => (Cert.Kernel11Ideal.Gen.dats m 0 c).arrAt 7 Cert.Kernel11Ideal.cfg0.N,
    Cert.Kernel11Ideal.Value.run_blocks m ρ,
    (θ_run Cert.Reference11Ideal.defs _ _).mono (fun r h c => ?_) (Cert.Reference11Ideal.Value.run (F := Ideal) m' ρ')⟩
  obtain ⟨r0, r1, r2, r3, rest⟩ := h c
  obtain ⟨a0, a1, a2, a3⟩ := hag c
  refine ⟨r0.trans ?_, r1.trans ?_, r2.trans ?_, r3.trans ?_, rest⟩
  · rw [a0]
    exact (sum_ref _).trans (arr4 m c).symm
  · rw [a0, a1, a2, a3]
    refine Eq.trans ?_ (arr5 m c).symm
    rw [sum_ref, mom_ref, vel_ref, step_ref]
  · rw [a0, a2]
    refine Eq.trans ?_ (arr6 m c).symm
    rw [sum_ref, mom_ref]
  · rw [a0, a3]
    refine Eq.trans ?_ (arr7 m c).symm
    rw [sum_ref, vel_ref]

end Cert.Adam11
-- ==== Proof.Adam12.lean ====
/- The optimiser's step for w_in's shape: the sum of the eight parts of its gradient, and the moments and the update from it. -/
module

public import proofs.«01_k».proof.Defs
public import proofs.«01_k».proof.Proof.Adam
public import proofs.«01_k».proof.Proof.Gen.Kernel12Ideal.Value
public import proofs.«01_k».proof.Proof.Gen.Reference12Ideal.Run
public import Idealize.ShloMosaic.Adequacy
public import Idealize.ShloMosaic.Init

@[expose] public section

set_option maxRecDepth 16384
set_option maxHeartbeats 4000000

noncomputable section

namespace Cert.Adam12

open Idealize.ShloMosaic Idealize.SL.Sem Cert.Adam

section

open Cert.Reference12Ideal Cert.Reference12Ideal.Gen

/-- An entry of the summed gradient. -/
def tot (x : FVec Ideal S8x320x1024 .bf16) (i : Fin 320) (j : Fin 1024) : EReal := ∑ d : Fin 8, x (ix3 d i j)

theorem sum_ref (x : FVec Ideal S8x320x1024 .bf16) :
    (Host.reduceAdd (extf .f32 x bitsLt_bf16_f32) (constant S_ .f32 0x00000000#32) reducesTo_S8x320x1024_S320x1024_d0 h_S_ : FVec Ideal S320x1024 .f32) = fun i => tot x (i 0) (i 1) := by
  funext i
  idx_vars i
  unfold tot
  pointwise []

theorem mom_ref (g m : FVec Ideal S320x1024 .f32) : ((addf (mulf (broadcastInDim S320x1024 ![] bcast_S_S320x1024 (constant S_ .f32 0x3F666666#32)) m) (mulf (broadcastInDim S320x1024 ![] bcast_S_S320x1024 (constant S_ .f32 0x3DCCCCCD#32)) g)) : FVec Ideal S320x1024 .f32) = fun i => mom (m i) (g i) := by
  funext i
  idx_vars i
  unfold mom
  pointwise []

theorem vel_ref (g v : FVec Ideal S320x1024 .f32) : ((addf (mulf (broadcastInDim S320x1024 ![] bcast_S_S320x1024 (constant S_ .f32 0x3F7FBE77#32)) v) (mulf (broadcastInDim S320x1024 ![] bcast_S_S320x1024 (constant S_ .f32 0x3A83126F#32)) (mulf g g))) : FVec Ideal S320x1024 .f32) = fun i => vel (v i) (g i) := by
  funext i
  idx_vars i
  unfold vel
  pointwise []

theorem step_ref (w a b : FVec Ideal S320x1024 .f32) : ((mulf (broadcastInDim S320x1024 ![] bcast_S_S320x1024 (constant S_ .f32 0xBA83126F#32)) (addf (Host.divf (Host.divf a (broadcastInDim S320x1024 ![] bcast_S_S320x1024 (constant S_ .f32 0x3F26BD02#32))) (addf (Host.sqrt (Host.divf b (broadcastInDim S320x1024 ![] bcast_S_S320x1024 (constant S_ .f32 0x3C231ACC#32)))) (broadcastInDim S320x1024 ![] bcast_S_S320x1024 (constant S_ .f32 0x322BCC77#32)))) (mulf (broadcastInDim S320x1024 ![] bcast_S_S320x1024 (constant S_ .f32 0x3C23D70A#32)) w))) : FVec Ideal S320x1024 .f32) = fun i => step (w i) (a i) (b i) := by
  funext i
  idx_vars i
  unfold step
  pointwise []

end

section

open Cert.Kernel12Ideal Cert.Kernel12Ideal.Gen

variable (m : (ℓ : Loc nD τ sig) → Buf (Elt Ideal) ℓ) (c : Dev nD)

abbrev parts : FVec Ideal S8x320x1024 .bf16 := m ((c.tc : Thread nD τ).loc main_arg0)
abbrev wts : FVec Ideal S320x1024 .f32 := m ((c.tc : Thread nD τ).loc main_arg1)
abbrev moms : FVec Ideal S320x1024 .f32 := m ((c.tc : Thread nD τ).loc main_arg2)
abbrev vels : FVec Ideal S320x1024 .f32 := m ((c.tc : Thread nD τ).loc main_arg3)

theorem idx : ∀ t, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

theorem N4 (t : Fin cfg0.N) : t.val < 4 := lt_of_lt_of_eq t.isLt N_0

/-- The row of an entry of a grid point's block. -/
abbrev row (t : Fin cfg0.N) (i : Fin 80) : Fin 320 := ⟨t.val * 80 + i.val, by have := N4 t; omega⟩

theorem blk0 (t : Fin cfg0.N) (d : Fin 8) (i : Fin 80) (j : Fin 1024) : (iblk m c 0 t : FVec Ideal S8x80x1024 .bf16) (ix3 d i j) = parts m c (ix3 d (row t i) j) := by
  blk_ext [iblk, V, idx t]

theorem blk1 (t : Fin cfg0.N) (i : Fin 80) (j : Fin 1024) : (iblk m c 1 t : FVec Ideal S80x1024 .f32) (ix2 i j) = wts m c (ix2 (row t i) j) := by
  blk_ext [iblk, V, idx t]

theorem blk2 (t : Fin cfg0.N) (i : Fin 80) (j : Fin 1024) : (iblk m c 2 t : FVec Ideal S80x1024 .f32) (ix2 i j) = moms m c (ix2 (row t i) j) := by
  blk_ext [iblk, V, idx t]

theorem blk3 (t : Fin cfg0.N) (i : Fin 80) (j : Fin 1024) : (iblk m c 3 t : FVec Ideal S80x1024 .f32) (ix2 i j) = vels m c (ix2 (row t i) j) := by
  blk_ext [iblk, V, idx t]

theorem emb4 (t : Fin cfg0.N) (i : Fin 80) (j : Fin 1024) : (win0_4.blk t).view.emb (ix2 i j) = (ix2 (row t i) j : S320x1024.Idx) := by
  blk_ext [idx t]

theorem emb5 (t : Fin cfg0.N) (i : Fin 80) (j : Fin 1024) : (win0_5.blk t).view.emb (ix2 i j) = (ix2 (row t i) j : S320x1024.Idx) := by
  blk_ext [idx t]

theorem emb6 (t : Fin cfg0.N) (i : Fin 80) (j : Fin 1024) : (win0_6.blk t).view.emb (ix2 i j) = (ix2 (row t i) j : S320x1024.Idx) := by
  blk_ext [idx t]

theorem emb7 (t : Fin cfg0.N) (i : Fin 80) (j : Fin 1024) : (win0_7.blk t).view.emb (ix2 i j) = (ix2 (row t i) j : S320x1024.Idx) := by
  blk_ext [idx t]

theorem ld (x : FVec Ideal S8x80x1024 .bf16) (i : Fin 80) (j : Fin 1024) :
    (View.ld (Val := Elt Ideal) (e' := .bf16) x r0_0 : FVec Ideal S1x80x1024 .bf16) (ix3 0 i j) = x (ix3 0 i j) ∧ (View.ld (Val := Elt Ideal) (e' := .bf16) x r0_1 : FVec Ideal S1x80x1024 .bf16) (ix3 0 i j) = x (ix3 1 i j) ∧ (View.ld (Val := Elt Ideal) (e' := .bf16) x r0_2 : FVec Ideal S1x80x1024 .bf16) (ix3 0 i j) = x (ix3 2 i j) ∧ (View.ld (Val := Elt Ideal) (e' := .bf16) x r0_3 : FVec Ideal S1x80x1024 .bf16) (ix3 0 i j) = x (ix3 3 i j) ∧ (View.ld (Val := Elt Ideal) (e' := .bf16) x r0_4 : FVec Ideal S1x80x1024 .bf16) (ix3 0 i j) = x (ix3 4 i j) ∧ (View.ld (Val := Elt Ideal) (e' := .bf16) x r0_5 : FVec Ideal S1x80x1024 .bf16) (ix3 0 i j) = x (ix3 5 i j) ∧ (View.ld (Val := Elt Ideal) (e' := .bf16) x r0_6 : FVec Ideal S1x80x1024 .bf16) (ix3 0 i j) = x (ix3 6 i j) ∧ (View.ld (Val := Elt Ideal) (e' := .bf16) x r0_7 : FVec Ideal S1x80x1024 .bf16) (ix3 0 i j) = x (ix3 7 i j) := by
  refine ⟨?_, ?_, ?_, ?_, ?_, ?_, ?_, ?_⟩ <;> pointwise [View.ld]

theorem pay6 (x0 x1 x2 x3 x4 x5 x6 x7 : FVec Ideal S1x80x1024 .bf16) (i : Fin 80) (j : Fin 1024) : (k0_pay2 x0 x1 x2 x3 x4 x5 x6 x7 : FVec Ideal S80x1024 .f32) (ix2 i j)
    = x0 (ix3 0 i j) + x1 (ix3 0 i j) + x2 (ix3 0 i j) + x3 (ix3 0 i j) + x4 (ix3 0 i j) + x5 (ix3 0 i j) + x6 (ix3 0 i j) + x7 (ix3 0 i j) := by
  pointwise [k0_pay2]

/-- The sum of the parts, at a grid point. -/
theorem sum_blk (t : Fin cfg0.N) (i : Fin 80) (j : Fin 1024) :
    (k0_pay2 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal S80x1024 .f32) (ix2 i j)
      = tot (parts m c) (row t i) j := by
  obtain ⟨l0, l1, l2, l3, l4, l5, l6, l7⟩ := ld (iblk m c 0 t) i j
  rw [pay6]
  unfold tot
  rw [Fin.sum_univ_eight, ← blk0, ← blk0, ← blk0, ← blk0, ← blk0, ← blk0, ← blk0, ← blk0]
  exact congrArg₂ (· + ·) (congrArg₂ (· + ·) (congrArg₂ (· + ·) (congrArg₂ (· + ·) (congrArg₂ (· + ·) (congrArg₂ (· + ·) (congrArg₂ (· + ·) l0 l1) l2) l3) l4) l5) l6) l7

theorem pay1 (g a : FVec Ideal S80x1024 .f32) (i : Fin 80) (j : Fin 1024) : (k0_pay4 g a : FVec Ideal S80x1024 .f32) (ix2 i j) = mom (a (ix2 i j)) (g (ix2 i j)) := by
  unfold mom
  pointwise [k0_pay4]

theorem pay2 (g b : FVec Ideal S80x1024 .f32) (i : Fin 80) (j : Fin 1024) : (k0_pay5 g b : FVec Ideal S80x1024 .f32) (ix2 i j) = vel (b (ix2 i j)) (g (ix2 i j)) := by
  unfold vel
  pointwise [k0_pay5]

theorem pay3 (g w a b : FVec Ideal S80x1024 .f32) (i : Fin 80) (j : Fin 1024) : (k0_pay6 g w a b : FVec Ideal S80x1024 .f32) (ix2 i j)
    = step (w (ix2 i j)) ((k0_pay4 g a : FVec Ideal S80x1024 .f32) (ix2 i j)) ((k0_pay5 g b : FVec Ideal S80x1024 .f32) (ix2 i j)) := by
  unfold step
  pointwise [k0_pay6]

/-- The gradient's array after the run. -/
theorem arr4 : (dats m 0 c).arrAt 4 cfg0.N = (fun i => tot (parts m c) (i 0) (i 1) : FVec Ideal S320x1024 .f32) := by
  refine (dats m 0 c).arrAt_eq_of_covers 4 _ (by decide +kernel) fun t hf y => ?_
  blk_simp
  rw [after0_4]
  frame_out
  idx_vars y
  rw [emb4]
  refine Eq.trans ?_ (sum_blk m c t y0 y1)
  pointwise [k0_pay3]
  rfl

/-- The first moment's array after the run. -/
theorem arr6 : (dats m 0 c).arrAt 6 cfg0.N = (fun i => mom (moms m c i) (tot (parts m c) (i 0) (i 1)) : FVec Ideal S320x1024 .f32) := by
  refine (dats m 0 c).arrAt_eq_of_covers 6 _ (by decide +kernel) fun t hf y => ?_
  blk_simp
  rw [after0_6]
  frame_out
  idx_vars y
  rw [emb6]
  refine Eq.trans (b := (k0_pay4 (k0_pay8 (iblk m c 0 t) (iblk m c 1 t) (iblk m c 2 t) (iblk m c 3 t)) (iblk m c 2 t) : FVec Ideal S80x1024 .f32) (ix2 y0 y1)) ?_ ?_
  · pointwise [k0_pay7]
  · rw [pay1, blk2]
    exact congrArg (mom _) (sum_blk m c t y0 y1)

/-- The second moment's array after the run. -/
theorem arr7 : (dats m 0 c).arrAt 7 cfg0.N = (fun i => vel (vels m c i) (tot (parts m c) (i 0) (i 1)) : FVec Ideal S320x1024 .f32) := by
  refine (dats m 0 c).arrAt_eq_of_covers 7 _ (by decide +kernel) fun t hf y => ?_
  blk_simp
  rw [after0_7]
  frame_out
  idx_vars y
  rw [emb7]
  refine Eq.trans (b := (k0_pay5 (k0_pay8 (iblk m c 0 t) (iblk m c 1 t) (iblk m c 2 t) (iblk m c 3 t)) (iblk m c 3 t) : FVec Ideal S80x1024 .f32) (ix2 y0 y1)) ?_ ?_
  · pointwise [k0_pay1]
  · rw [pay2, blk3]
    exact congrArg (vel _) (sum_blk m c t y0 y1)

/-- The update's array after the run. -/
theorem arr5 : (dats m 0 c).arrAt 5 cfg0.N = (fun i => step (wts m c i) (mom (moms m c i) (tot (parts m c) (i 0) (i 1)))
    (vel (vels m c i) (tot (parts m c) (i 0) (i 1))) : FVec Ideal S320x1024 .f32) := by
  refine (dats m 0 c).arrAt_eq_of_covers 5 _ (by decide +kernel) fun t hf y => ?_
  blk_simp
  rw [after0_5]
  frame_out
  idx_vars y
  rw [emb5]
  refine (pay3 _ _ _ _ y0 y1).trans ?_
  rw [pay1, pay2, blk1, blk2, blk3]
  refine congrArg₂ (step _) (congrArg (mom _) ?_) (congrArg (vel _) ?_) <;> exact sum_blk m c t y0 y1

end

/-- The reference of the optimiser's step runs, keeps its arguments and leaves every counter at zero. -/
theorem frame : Cert.quiescent_Reference12Ideal := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

/-- Gradient, update and moments: kernel and reference end with equal results from equal arguments. -/
theorem algebraic : Cert.algebraic_Kernel12Ideal_Reference12Ideal := by
  intro m ρ m' ρ' _ hag
  refine ⟨fun c => (Cert.Kernel12Ideal.Gen.dats m 0 c).arrAt 4 Cert.Kernel12Ideal.cfg0.N, fun c => (Cert.Kernel12Ideal.Gen.dats m 0 c).arrAt 5 Cert.Kernel12Ideal.cfg0.N,
    fun c => (Cert.Kernel12Ideal.Gen.dats m 0 c).arrAt 6 Cert.Kernel12Ideal.cfg0.N, fun c => (Cert.Kernel12Ideal.Gen.dats m 0 c).arrAt 7 Cert.Kernel12Ideal.cfg0.N,
    Cert.Kernel12Ideal.Value.run_blocks m ρ,
    (θ_run Cert.Reference12Ideal.defs _ _).mono (fun r h c => ?_) (Cert.Reference12Ideal.Value.run (F := Ideal) m' ρ')⟩
  obtain ⟨r0, r1, r2, r3, rest⟩ := h c
  obtain ⟨a0, a1, a2, a3⟩ := hag c
  refine ⟨r0.trans ?_, r1.trans ?_, r2.trans ?_, r3.trans ?_, rest⟩
  · rw [a0]
    exact (sum_ref _).trans (arr4 m c).symm
  · rw [a0, a1, a2, a3]
    refine Eq.trans ?_ (arr5 m c).symm
    rw [sum_ref, mom_ref, vel_ref, step_ref]
  · rw [a0, a2]
    refine Eq.trans ?_ (arr6 m c).symm
    rw [sum_ref, mom_ref]
  · rw [a0, a3]
    refine Eq.trans ?_ (arr7 m c).symm
    rw [sum_ref, vel_ref]

end Cert.Adam12
-- ==== Proof.Adam13.lean ====
/- The sum of the eight parts of w_pe_proj's gradient. -/
module

public import proofs.«01_k».proof.Defs
public import proofs.«01_k».proof.Proof.Adam
public import proofs.«01_k».proof.Proof.Gen.Kernel13Ideal.Value
public import proofs.«01_k».proof.Proof.Gen.Reference13Ideal.Run
public import Idealize.ShloMosaic.Adequacy
public import Idealize.ShloMosaic.Init

@[expose] public section

set_option maxRecDepth 16384
set_option maxHeartbeats 4000000

noncomputable section

namespace Cert.Adam13

open Idealize.ShloMosaic Idealize.SL.Sem Cert.Adam

section

open Cert.Kernel13Ideal Cert.Kernel13Ideal.Gen

theorem ld (x : FVec Ideal S8x128x256 .f32) (i : Fin 128) (j : Fin 256) :
    (View.ld (Val := Elt Ideal) (e' := .f32) x r0_0 : FVec Ideal S1x128x256 .f32) (ix3 0 i j) = x (ix3 0 i j) ∧ (View.ld (Val := Elt Ideal) (e' := .f32) x r0_1 : FVec Ideal S1x128x256 .f32) (ix3 0 i j) = x (ix3 1 i j) ∧ (View.ld (Val := Elt Ideal) (e' := .f32) x r0_2 : FVec Ideal S1x128x256 .f32) (ix3 0 i j) = x (ix3 2 i j) ∧ (View.ld (Val := Elt Ideal) (e' := .f32) x r0_3 : FVec Ideal S1x128x256 .f32) (ix3 0 i j) = x (ix3 3 i j) ∧ (View.ld (Val := Elt Ideal) (e' := .f32) x r0_4 : FVec Ideal S1x128x256 .f32) (ix3 0 i j) = x (ix3 4 i j) ∧ (View.ld (Val := Elt Ideal) (e' := .f32) x r0_5 : FVec Ideal S1x128x256 .f32) (ix3 0 i j) = x (ix3 5 i j) ∧ (View.ld (Val := Elt Ideal) (e' := .f32) x r0_6 : FVec Ideal S1x128x256 .f32) (ix3 0 i j) = x (ix3 6 i j) ∧ (View.ld (Val := Elt Ideal) (e' := .f32) x r0_7 : FVec Ideal S1x128x256 .f32) (ix3 0 i j) = x (ix3 7 i j) := by
  refine ⟨?_, ?_, ?_, ?_, ?_, ?_, ?_, ?_⟩ <;> pointwise [View.ld]

theorem pay (x0 x1 x2 x3 x4 x5 x6 x7 : FVec Ideal S1x128x256 .f32) (i : Fin 128) (j : Fin 256) : (k0_pay1 x0 x1 x2 x3 x4 x5 x6 x7 : FVec Ideal S128x256 .f32) (ix2 i j)
    = x0 (ix3 0 i j) + x1 (ix3 0 i j) + x2 (ix3 0 i j) + x3 (ix3 0 i j) + x4 (ix3 0 i j) + x5 (ix3 0 i j) + x6 (ix3 0 i j) + x7 (ix3 0 i j) := by
  pointwise [k0_pay1]

/-- The kernel's sum. -/
theorem sum_ker (x : FVec Ideal S8x128x256 .f32) : (k0_pay1 (View.ld (Val := Elt Ideal) (e' := .f32) x r0_0) (View.ld (Val := Elt Ideal) (e' := .f32) x r0_1) (View.ld (Val := Elt Ideal) (e' := .f32) x r0_2) (View.ld (Val := Elt Ideal) (e' := .f32) x r0_3) (View.ld (Val := Elt Ideal) (e' := .f32) x r0_4) (View.ld (Val := Elt Ideal) (e' := .f32) x r0_5) (View.ld (Val := Elt Ideal) (e' := .f32) x r0_6) (View.ld (Val := Elt Ideal) (e' := .f32) x r0_7) : FVec Ideal S128x256 .f32) = fun i => ∑ d : Fin 8, x (ix3 d (i 0) (i 1)) := by
  funext i
  idx_vars i
  obtain ⟨l0, l1, l2, l3, l4, l5, l6, l7⟩ := ld x i0 i1
  rw [pay, Fin.sum_univ_eight]
  exact congrArg₂ (· + ·) (congrArg₂ (· + ·) (congrArg₂ (· + ·) (congrArg₂ (· + ·) (congrArg₂ (· + ·) (congrArg₂ (· + ·) (congrArg₂ (· + ·) l0 l1) l2) l3) l4) l5) l6) l7

end

open Cert.Reference13Ideal Cert.Reference13Ideal.Gen in
/-- The reference's sum. -/
theorem sum_ref (x : FVec Ideal S8x128x256 .f32) :
    (Host.reduceAdd x (constant S_ .f32 0x00000000#32) reducesTo_S8x128x256_S128x256_d0 h_S_ : FVec Ideal S128x256 .f32) = fun i => ∑ d : Fin 8, x (ix3 d (i 0) (i 1)) := by
  funext i
  idx_vars i
  pointwise []

/-- The reference runs, keeps its arguments and leaves every counter at zero. -/
theorem frame : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

/-- The summed gradient: kernel and reference end with equal results from equal arguments. -/
theorem algebraic : Cert.algebraic_Kernel13Ideal_Reference13Ideal := by
  intro m ρ m' ρ' _ hag
  refine ⟨fun c => Cert.Kernel13Ideal.Value.G1 (m ((c.tc : Thread Cert.Kernel13Ideal.nD Cert.Kernel13Ideal.τ).loc Cert.Kernel13Ideal.main_arg0)), Cert.Kernel13Ideal.Value.run m ρ,
    (θ_run Cert.Reference13Ideal.defs _ _).mono (fun r h c => ?_) (Cert.Reference13Ideal.Value.run (F := Ideal) m' ρ')⟩
  obtain ⟨r0, rest⟩ := h c
  have a0 := hag c
  refine ⟨r0.trans ?_, rest⟩
  rw [a0]
  exact (sum_ref _).trans (sum_ker _).symm

end Cert.Adam13

end
-- ==== Proof.Adam14.lean ====
/- The optimiser's step at w_pe_proj's shape. -/
module

public import proofs.«01_k».proof.Defs
public import proofs.«01_k».proof.Proof.Adam
public import proofs.«01_k».proof.Proof.Gen.Kernel14Ideal.Value
public import proofs.«01_k».proof.Proof.Gen.Reference14Ideal.Run
public import Idealize.ShloMosaic.Adequacy
public import Idealize.ShloMosaic.Init

@[expose] public section

set_option maxRecDepth 16384
set_option maxHeartbeats 4000000

noncomputable section

namespace Cert.Adam14

open Idealize.ShloMosaic Idealize.SL.Sem Cert.Adam

section

open Cert.Reference14Ideal Cert.Reference14Ideal.Gen

theorem mom_ref (g m : FVec Ideal S256x128 .f32) : ((addf (mulf (broadcastInDim S256x128 ![] bcast_S_S256x128 (constant S_ .f32 0x3F666666#32)) m) (mulf (broadcastInDim S256x128 ![] bcast_S_S256x128 (constant S_ .f32 0x3DCCCCCD#32)) g)) : FVec Ideal S256x128 .f32) = fun i => mom (m i) (g i) := by
  funext i
  idx_vars i
  unfold mom
  pointwise []

theorem vel_ref (g v : FVec Ideal S256x128 .f32) : ((addf (mulf (broadcastInDim S256x128 ![] bcast_S_S256x128 (constant S_ .f32 0x3F7FBE77#32)) v) (mulf (broadcastInDim S256x128 ![] bcast_S_S256x128 (constant S_ .f32 0x3A83126F#32)) (mulf g g))) : FVec Ideal S256x128 .f32) = fun i => vel (v i) (g i) := by
  funext i
  idx_vars i
  unfold vel
  pointwise []

theorem step_ref (w a b : FVec Ideal S256x128 .f32) : ((mulf (broadcastInDim S256x128 ![] bcast_S_S256x128 (constant S_ .f32 0xBA83126F#32)) (addf (Host.divf (Host.divf a (broadcastInDim S256x128 ![] bcast_S_S256x128 (constant S_ .f32 0x3F26BD02#32))) (addf (Host.sqrt (Host.divf b (broadcastInDim S256x128 ![] bcast_S_S256x128 (constant S_ .f32 0x3C231ACC#32)))) (broadcastInDim S256x128 ![] bcast_S_S256x128 (constant S_ .f32 0x322BCC77#32)))) (mulf (broadcastInDim S256x128 ![] bcast_S_S256x128 (constant S_ .f32 0x3C23D70A#32)) w))) : FVec Ideal S256x128 .f32) = fun i => step (w i) (a i) (b i) := by
  funext i
  idx_vars i
  unfold step
  pointwise []

end

section

open Cert.Kernel14Ideal Cert.Kernel14Ideal.Gen

theorem mom_ker (g w m v : FVec Ideal S256x128 .f32) : (Value.G5 (F := Ideal) g w m v : FVec Ideal S256x128 .f32) = (fun i => mom (m i) (g i) : FVec Ideal S256x128 .f32) := by
  funext i
  idx_vars i
  unfold mom
  pointwise [Value.G5, k0_pay5, k0_pay2]

theorem vel_ker (g w m v : FVec Ideal S256x128 .f32) : (Value.G6 (F := Ideal) g w m v : FVec Ideal S256x128 .f32) = (fun i => vel (v i) (g i) : FVec Ideal S256x128 .f32) := by
  funext i
  idx_vars i
  unfold vel
  pointwise [Value.G6, k0_pay1, k0_pay3]

theorem step_ker (g w m v : FVec Ideal S256x128 .f32) : (Value.G4 (F := Ideal) g w m v : FVec Ideal S256x128 .f32) = (fun i => step (w i) (mom (m i) (g i)) (vel (v i) (g i)) : FVec Ideal S256x128 .f32) := by
  funext i
  idx_vars i
  unfold step mom vel
  pointwise [Value.G4, k0_pay4, k0_pay2, k0_pay3]

end

/-- The reference runs, keeps its arguments and leaves every counter at zero. -/
theorem frame : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

/-- Update and moments: kernel and reference end with equal results from equal arguments. -/
theorem algebraic : Cert.algebraic_Kernel14Ideal_Reference14Ideal := by
  intro m ρ m' ρ' _ hag
  refine ⟨fun c => Cert.Kernel14Ideal.Value.G4 (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)), fun c => Cert.Kernel14Ideal.Value.G5 (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)),
    fun c => Cert.Kernel14Ideal.Value.G6 (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)), Cert.Kernel14Ideal.Value.run m ρ,
    (θ_run Cert.Reference14Ideal.defs _ _).mono (fun r h c => ?_) (Cert.Reference14Ideal.Value.run (F := Ideal) m' ρ')⟩
  obtain ⟨r0, r1, r2, rest⟩ := h c
  obtain ⟨a0, a1, a2, a3⟩ := hag c
  refine ⟨r0.trans ?_, r1.trans ?_, r2.trans ?_, rest⟩
  · rw [a0, a1, a2, a3, mom_ref, vel_ref, step_ref]
    exact (step_ker _ _ _ _).symm
  · rw [a0, a2, mom_ref]
    exact (mom_ker _ (m ((c.tc : Thread Cert.Kernel14Ideal.nD Cert.Kernel14Ideal.τ).loc Cert.Kernel14Ideal.main_arg1)) _ (m ((c.tc : Thread Cert.Kernel14Ideal.nD Cert.Kernel14Ideal.τ).loc Cert.Kernel14Ideal.main_arg3))).symm
  · rw [a0, a3, vel_ref]
    exact (vel_ker _ (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) _).symm

end Cert.Adam14

end
-- ==== Proof.lean ====
/- The certificate's proof: the frames are the generated runs; the value claim is `Cert.Sgu.agree` (Proof/Agree.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import Idealize.ShloMosaic.Adequacy
public import Idealize.ShloMosaic.Init
public import proofs.«01_k».proof.Proof.Agree
public import proofs.«01_k».proof.Proof.Calls
public import proofs.«01_k».proof.Proof.Forward
public import proofs.«01_k».proof.Proof.InBwd
public import proofs.«01_k».proof.Proof.Pe
public import proofs.«01_k».proof.Proof.Adam9
public import proofs.«01_k».proof.Proof.Adam10
public import proofs.«01_k».proof.Proof.Adam11
public import proofs.«01_k».proof.Proof.Adam12
public import proofs.«01_k».proof.Proof.Adam13
public import proofs.«01_k».proof.Proof.Adam14

@[expose] public section

noncomputable section

namespace Cert.Proof

open Idealize.ShloMosaic Idealize.SL.Sem

/-- The reference runs, keeps its arguments and leaves every counter at zero. -/
theorem frame_reference : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- The named constants of the idealised kernel stand for the words they replace. -/
theorem preserves : Cert.preserves_Kernel_KernelIdeal :=
  ⟨IdealRules.named_const.statement Cert.KernelIdeal.κ "g1" .f32 0x3D372713#32 ((8943 / 200000 : ℝ) : EReal) rfl,
    IdealRules.named_const.statement Cert.KernelIdeal.κ "g3" .f32 0x3E095D4F#32 ((26829 / 200000 : ℝ) : EReal) rfl⟩

/-- Over the extended reals, kernel and reference end with equal results from equal finite arguments. -/
theorem algebraic : Cert.algebraic_KernelIdeal_ReferenceIdeal_pre_finite_inputs := by
  intro m ρ m' ρ' hpre hag
  refine ⟨fun c => (Cert.KernelIdeal.Gen.dats m 0 c).arrAt 11 Cert.KernelIdeal.cfg0.N, fun c => (Cert.KernelIdeal.Gen.dats m 0 c).arrAt 12 Cert.KernelIdeal.cfg0.N,
    fun c => (Cert.KernelIdeal.Gen.dats m 0 c).arrAt 13 Cert.KernelIdeal.cfg0.N, fun c => (Cert.KernelIdeal.Gen.dats m 0 c).arrAt 14 Cert.KernelIdeal.cfg0.N,
    fun c => (Cert.KernelIdeal.Gen.dats m 0 c).arrAt 15 Cert.KernelIdeal.cfg0.N, fun c => (Cert.KernelIdeal.Gen.dats m 0 c).arrAt 16 Cert.KernelIdeal.cfg0.N,
    fun c => (Cert.KernelIdeal.Gen.dats m 0 c).arrAt 17 Cert.KernelIdeal.cfg0.N,
    Cert.KernelIdeal.Value.run_blocks m ρ,
    (θ_run Cert.ReferenceIdeal.defs _ _).mono (fun r h c => ?_) (Cert.ReferenceIdeal.Value.run (F := Ideal) m' ρ')⟩
  obtain ⟨U, Z, D, lg, lb, W, B, args⟩ := Cert.Sgu.args_of_pre m c _ _ _ _ _ (hpre c)
  obtain ⟨b0, b1, b2, b3, b4, b5, b6⟩ := Cert.Sgu.agree args (hag c)
  obtain ⟨r0, r1, r2, r3, r4, r5, r6, rest⟩ := h c
  exact ⟨r0.trans ((Cert.ReferenceIdeal.Value.val4_main_v180 _).symm.trans b0), r1.trans ((Cert.ReferenceIdeal.Value.val4_main_v106 _).symm.trans b1),
    r2.trans ((Cert.ReferenceIdeal.Value.val4_main_v182 _).symm.trans b2), r3.trans ((Cert.ReferenceIdeal.Value.val4_main_v183 _).symm.trans b3),
    r4.trans ((Cert.ReferenceIdeal.Value.val4_main_v184 _).symm.trans b4), r5.trans ((Cert.ReferenceIdeal.Value.val4_main_v170 _).symm.trans b5),
    r6.trans ((Cert.ReferenceIdeal.Value.val4_main_v187 _).symm.trans b6), rest⟩

/-- Everything claimed. -/
theorem claim : Cert.Claim := ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel2.Gen.facts, Cert.Kernel2Ideal.Gen.facts, Cert.Reference2Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Sgu.preFacts, Cert.InBwd.preFacts, Cert.Pe.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel3.Gen.frame m ρ, fun m ρ _ => Cert.Kernel3Ideal.Gen.frame m ρ, Cert.Calls.frame3,
  fun m ρ _ => Cert.Kernel4.Gen.frame m ρ, fun m ρ _ => Cert.Kernel4Ideal.Gen.frame m ρ, Cert.Calls.frame4,
  fun m ρ _ => Cert.Kernel5.Gen.frame m ρ, fun m ρ _ => Cert.Kernel5Ideal.Gen.frame m ρ, Cert.Calls.frame5,
  fun m ρ _ => Cert.Kernel6.Gen.frame m ρ, fun m ρ _ => Cert.Kernel6Ideal.Gen.frame m ρ, Cert.Forward.frame6,
  fun m ρ _ => Cert.Kernel7.Gen.frame m ρ, fun m ρ _ => Cert.Kernel7Ideal.Gen.frame m ρ, Cert.Forward.frame7,
  fun m ρ _ => Cert.Kernel2.Gen.frame m ρ, fun m ρ _ => Cert.Kernel2Ideal.Gen.frame m ρ, fun m ρ _ => Cert.Kernel2Ideal.Gen.frame m ρ, Cert.InBwd.frame2, fun m ρ _ => Cert.InBwd.frame2 m ρ trivial,
  fun m ρ _ => Cert.Kernel8.Gen.frame m ρ, fun m ρ _ => Cert.Kernel8Ideal.Gen.frame m ρ, fun m ρ _ => Cert.Kernel8Ideal.Gen.frame m ρ, Cert.Pe.frame8, fun m ρ _ => Cert.Pe.frame8 m ρ trivial,
  fun m ρ _ => Cert.Kernel9.Gen.frame m ρ, fun m ρ _ => Cert.Kernel9Ideal.Gen.frame m ρ, Cert.Adam9.frame,
  fun m ρ _ => Cert.Kernel10.Gen.frame m ρ, fun m ρ _ => Cert.Kernel10Ideal.Gen.frame m ρ, Cert.Adam10.frame,
  fun m ρ _ => Cert.Kernel11.Gen.frame m ρ, fun m ρ _ => Cert.Kernel11Ideal.Gen.frame m ρ, Cert.Adam11.frame,
  fun m ρ _ => Cert.Kernel12.Gen.frame m ρ, fun m ρ _ => Cert.Kernel12Ideal.Gen.frame m ρ, Cert.Adam12.frame,
  fun m ρ _ => Cert.Kernel13.Gen.frame m ρ, fun m ρ _ => Cert.Kernel13Ideal.Gen.frame m ρ, Cert.Adam13.frame,
  fun m ρ _ => Cert.Kernel14.Gen.frame m ρ, fun m ρ _ => Cert.Kernel14Ideal.Gen.frame m ρ, Cert.Adam14.frame,
  preserves, algebraic, trivial, Cert.Calls.algebraic3, trivial, Cert.Calls.algebraic4, trivial, Cert.Calls.algebraic5, trivial, Cert.Forward.algebraic6, trivial, Cert.Forward.algebraic7, trivial, Cert.InBwd.algebraic2, trivial, Cert.Pe.algebraic8, trivial, Cert.Adam9.algebraic, trivial, Cert.Adam10.algebraic, trivial, Cert.Adam11.algebraic, trivial, Cert.Adam12.algebraic, trivial, Cert.Adam13.algebraic, trivial, Cert.Adam14.algebraic⟩

end Cert.Proof

end
